-- ==== Defs.lean ====
def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIdeal : Cert.KernelIdeal.Facts) (hReferenceIdeal : Cert.ReferenceIdeal.Facts) (hPre_sane : Cert.Pre_sane.Facts),
    quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ algebraic_KernelIdeal_ReferenceIdeal_pre_sane (hKernelIdeal := hKernelIdeal) (hReferenceIdeal := hReferenceIdeal) (hPre_sane := hPre_sane)
-- ==== Pre_sane.lean ====
abbrev S1x1792x112x64 : Shape := ⟨4, ![1, 1792, 112, 64]⟩
abbrev S1x1792x112 : Shape := ⟨3, ![1, 1792, 112]⟩
abbrev S112 : Shape := ⟨1, ![112]⟩
abbrev S1x1792x8x128 : Shape := ⟨4, ![1, 1792, 8, 128]⟩
abbrev S1x112x64x128 : Shape := ⟨4, ![1, 112, 64, 128]⟩
abbrev S1x112x64 : Shape := ⟨3, ![1, 112, 64]⟩
abbrev S_ : Shape := ⟨0, ![]⟩

class Facts : Prop where
  bitsLt_bf16_f32 : FTy.bits .bf16 < FTy.bits .f32
  bcast_S_S1x1792x112x64 : S_.BroadcastsInDim S1x1792x112x64 (![] : Fin 0 → Fin S1x1792x112x64.rank)
  reducesTo_S1x1792x112x64_S_d0_1_2_3 : S1x1792x112x64.ReducesTo [0, 1, 2, 3] S_
  h_S_ : 0 < S_.numel
  bcast_S_S1x1792x8x128 : S_.BroadcastsInDim S1x1792x8x128 (![] : Fin 0 → Fin S1x1792x8x128.rank)
  reducesTo_S1x1792x8x128_S_d0_1_2_3 : S1x1792x8x128.ReducesTo [0, 1, 2, 3] S_
  bcast_S_S1x1792x112 : S_.BroadcastsInDim S1x1792x112 (![] : Fin 0 → Fin S1x1792x112.rank)
  reducesTo_S1x1792x112_S_d0_1_2 : S1x1792x112.ReducesTo [0, 1, 2] S_
  bcast_S_S112 : S_.BroadcastsInDim S112 (![] : Fin 0 → Fin S112.rank)
  reducesTo_S112_S_d0 : S112.ReducesTo [0] S_

variable [Facts]

def fn_part2 {F : FTy → Type} [FloatOps F] (main_arg1 : FVec F S1x1792x112 .f32) (main_arg2 : FVec F S112 .f32) (main_v34 : IVec S_ 1) (main_cst_10 : FVec F S_ .f32) : IVec S_ 1 :=
  let main_v35 : FVec F S1x1792x112 .f32 := broadcastInDim S1x1792x112 ![] bcast_S_S1x1792x112 main_cst_10
  let main_v36 : IVec S1x1792x112 1 := cmpf .oge main_arg1 main_v35
  let main_cst_11 : FVec F S_ .f32 := constant S_ .f32 0x7F800000#32
  let main_v37 : FVec F S1x1792x112 .f32 := broadcastInDim S1x1792x112 ![] bcast_S_S1x1792x112 main_cst_11
  let main_v38 : IVec S1x1792x112 1 := cmpf .olt main_arg1 main_v37
  let main_v39 : IVec S1x1792x112 1 := andi main_v36 main_v38
  let main_c_12 : IVec S_ 1 := constantI S_ 1 1#1
  let main_v40 : IVec S_ 1 := (fun x v => Host.reduce IntOp.andi x v reducesTo_S1x1792x112_S_d0_1_2 h_S_) main_v39 main_c_12
  let main_v41 : IVec S_ 1 := andi main_v34 main_v40
  let main_v42 : FVec F S112 .f32 := Host.absf main_arg2
  let main_cst_13 : FVec F S_ .f32 := constant S_ .f32 0x7F800000#32
  let main_v43 : FVec F S112 .f32 := broadcastInDim S112 ![] bcast_S_S112 main_cst_13
  let main_v44 : IVec S112 1 := cmpf .olt main_v42 main_v43
  let main_c_14 : IVec S_ 1 := constantI S_ 1 1#1
  let main_v45 : IVec S_ 1 := (fun x v => Host.reduce IntOp.andi x v reducesTo_S112_S_d0 h_S_) main_v44 main_c_14
  let main_v46 : IVec S_ 1 := andi main_v41 main_v45
  main_v46

def fn_part1 {F : FTy → Type} [FloatOps F] (main_arg1 : FVec F S1x1792x112 .f32) (main_arg2 : FVec F S112 .f32) (main_arg4 : FVec F S1x1792x8x128 .bf16) (main_v10 : IVec S_ 1) (main_v12 : FVec F S1x1792x8x128 .f32) (main_v14 : IVec S1x1792x8x128 1) (main_v16 : IVec S1x1792x8x128 1) (main_cst_4 : FVec F S_ .f32) : IVec S_ 1 :=
  let main_v17 : FVec F S1x1792x8x128 .f32 := broadcastInDim S1x1792x8x128 ![] bcast_S_S1x1792x8x128 main_cst_4
  let main_v18 : IVec S1x1792x8x128 1 := cmpf .oge main_v12 main_v17
  let main_v19 : IVec S1x1792x8x128 1 := ori main_v16 main_v18
  let main_v20 : IVec S1x1792x8x128 1 := andi main_v14 main_v19
  let main_c_5 : IVec S_ 1 := constantI S_ 1 1#1
  let main_v21 : IVec S_ 1 := (fun x v => Host.reduce IntOp.andi x v reducesTo_S1x1792x8x128_S_d0_1_2_3 h_S_) main_v20 main_c_5
  let main_v22 : IVec S_ 1 := andi main_v10 main_v21
  let main_v23 : FVec F S1x1792x8x128 .f32 := (extf .f32 · bitsLt_bf16_f32) main_arg4
  let main_v24 : FVec F S1x1792x8x128 .f32 := Host.absf main_v23
  let main_cst_6 : FVec F S_ .f32 := constant S_ .f32 0x71800000#32
  let main_v25 : FVec F S1x1792x8x128 .f32 := broadcastInDim S1x1792x8x128 ![] bcast_S_S1x1792x8x128 main_cst_6
  let main_v26 : IVec S1x1792x8x128 1 := cmpf .ole main_v24 main_v25
  let main_cst_7 : FVec F S_ .f32 := constant S_ .f32 0x00000000#32
  let main_v27 : FVec F S1x1792x8x128 .f32 := broadcastInDim S1x1792x8x128 ![] bcast_S_S1x1792x8x128 main_cst_7
  let main_v28 : IVec S1x1792x8x128 1 := cmpf .oeq main_v24 main_v27
  let main_cst_8 : FVec F S_ .f32 := constant S_ .f32 0x0D800000#32
  let main_v29 : FVec F S1x1792x8x128 .f32 := broadcastInDim S1x1792x8x128 ![] bcast_S_S1x1792x8x128 main_cst_8
  let main_v30 : IVec S1x1792x8x128 1 := cmpf .oge main_v24 main_v29
  let main_v31 : IVec S1x1792x8x128 1 := ori main_v28 main_v30
  let main_v32 : IVec S1x1792x8x128 1 := andi main_v26 main_v31
  let main_c_9 : IVec S_ 1 := constantI S_ 1 1#1
  let main_v33 : IVec S_ 1 := (fun x v => Host.reduce IntOp.andi x v reducesTo_S1x1792x8x128_S_d0_1_2_3 h_S_) main_v32 main_c_9
  let main_v34 : IVec S_ 1 := andi main_v22 main_v33
  let main_cst_10 : FVec F S_ .f32 := constant S_ .f32 0x00000000#32
  fn_part2 (F := F) main_arg1 main_arg2 main_v34 main_cst_10

def fn {F : FTy → Type} [FloatOps F] (main_arg0 : FVec F S1x1792x112x64 .bf16) (main_arg1 : FVec F S1x1792x112 .f32) (main_arg2 : FVec F S112 .f32) (main_arg3 : FVec F S1x1792x8x128 .bf16) (main_arg4 : FVec F S1x1792x8x128 .bf16) (main_arg5 : FVec F S112 .f32) (main_arg6 : FVec F S1x112x64x128 .fp8e4m3) (main_arg7 : FVec F S1x112x64 .f32) : IVec S_ 1 :=
  let main_v0 : FVec F S1x1792x112x64 .f32 := (extf .f32 · bitsLt_bf16_f32) main_arg0
  let main_v1 : FVec F S1x1792x112x64 .f32 := Host.absf main_v0
  let main_cst : FVec F S_ .f32 := constant S_ .f32 0x71800000#32
  let main_v2 : FVec F S1x1792x112x64 .f32 := broadcastInDim S1x1792x112x64 ![] bcast_S_S1x1792x112x64 main_cst
  let main_v3 : IVec S1x1792x112x64 1 := cmpf .ole main_v1 main_v2
  let main_cst_0 : FVec F S_ .f32 := constant S_ .f32 0x00000000#32
  let main_v4 : FVec F S1x1792x112x64 .f32 := broadcastInDim S1x1792x112x64 ![] bcast_S_S1x1792x112x64 main_cst_0
  let main_v5 : IVec S1x1792x112x64 1 := cmpf .oeq main_v1 main_v4
  let main_cst_1 : FVec F S_ .f32 := constant S_ .f32 0x0D800000#32
  let main_v6 : FVec F S1x1792x112x64 .f32 := broadcastInDim S1x1792x112x64 ![] bcast_S_S1x1792x112x64 main_cst_1
  let main_v7 : IVec S1x1792x112x64 1 := cmpf .oge main_v1 main_v6
  let main_v8 : IVec S1x1792x112x64 1 := ori main_v5 main_v7
  let main_v9 : IVec S1x1792x112x64 1 := andi main_v3 main_v8
  let main_c : IVec S_ 1 := constantI S_ 1 1#1
  let main_v10 : IVec S_ 1 := (fun x v => Host.reduce IntOp.andi x v reducesTo_S1x1792x112x64_S_d0_1_2_3 h_S_) main_v9 main_c
  let main_v11 : FVec F S1x1792x8x128 .f32 := (extf .f32 · bitsLt_bf16_f32) main_arg3
  let main_v12 : FVec F S1x1792x8x128 .f32 := Host.absf main_v11
  let main_cst_2 : FVec F S_ .f32 := constant S_ .f32 0x71800000#32
  let main_v13 : FVec F S1x1792x8x128 .f32 := broadcastInDim S1x1792x8x128 ![] bcast_S_S1x1792x8x128 main_cst_2
  let main_v14 : IVec S1x1792x8x128 1 := cmpf .ole main_v12 main_v13
  let main_cst_3 : FVec F S_ .f32 := constant S_ .f32 0x00000000#32
  let main_v15 : FVec F S1x1792x8x128 .f32 := broadcastInDim S1x1792x8x128 ![] bcast_S_S1x1792x8x128 main_cst_3
  let main_v16 : IVec S1x1792x8x128 1 := cmpf .oeq main_v12 main_v15
  let main_cst_4 : FVec F S_ .f32 := constant S_ .f32 0x0D800000#32
  fn_part1 (F := F) main_arg1 main_arg2 main_arg4 main_v10 main_v12 main_v14 main_v16 main_cst_4
-- ==== KernelIdeal.lean ====
abbrev S1x1792x112x64 : Shape := ⟨4, ![1, 1792, 112, 64]⟩
abbrev S1x1792x112 : Shape := ⟨3, ![1, 1792, 112]⟩
abbrev S112 : Shape := ⟨1, ![112]⟩
abbrev S1x1792x8x128 : Shape := ⟨4, ![1, 1792, 8, 128]⟩
abbrev S1x112x64x128 : Shape := ⟨4, ![1, 112, 64, 128]⟩
abbrev S1x112x64 : Shape := ⟨3, ![1, 112, 64]⟩
abbrev S1x112x64x1792 : Shape := ⟨4, ![1, 112, 64, 1792]⟩
abbrev S7168x1792 : Shape := ⟨2, ![7168, 1792]⟩
abbrev S1x112x1792 : Shape := ⟨3, ![1, 112, 1792]⟩
abbrev S112x1792 : Shape := ⟨2, ![112, 1792]⟩
abbrev S1792x8x128 : Shape := ⟨3, ![1792, 8, 128]⟩
abbrev S7168x128 : Shape := ⟨2, ![7168, 128]⟩
abbrev S1x64x112 : Shape := ⟨3, ![1, 64, 112]⟩
abbrev S64x112 : Shape := ⟨2, ![64, 112]⟩
abbrev S1x112 : Shape := ⟨2, ![1, 112]⟩
abbrev S7x1x8 : Shape := ⟨3, ![7, 1, 8]⟩
abbrev S7168x256 : Shape := ⟨2, ![7168, 256]⟩
abbrev S112x256 : Shape := ⟨2, ![112, 256]⟩
abbrev S256x8x128 : Shape := ⟨3, ![256, 8, 128]⟩
abbrev S1x1x8 : Shape := ⟨3, ![1, 1, 8]⟩
abbrev S112x128 : Shape := ⟨2, ![112, 128]⟩
abbrev S256x256 : Shape := ⟨2, ![256, 256]⟩
abbrev S64x128 : Shape := ⟨2, ![64, 128]⟩
abbrev S8x256x128 : Shape := ⟨3, ![8, 256, 128]⟩
abbrev S128x256 : Shape := ⟨2, ![128, 256]⟩
abbrev S256x128 : Shape := ⟨2, ![256, 128]⟩
abbrev S896x256 : Shape := ⟨2, ![896, 256]⟩
abbrev S896x128 : Shape := ⟨2, ![896, 128]⟩
abbrev S112x112 : Shape := ⟨2, ![112, 112]⟩
abbrev S112x1 : Shape := ⟨2, ![112, 1]⟩
abbrev S64x1 : Shape := ⟨2, ![64, 1]⟩
abbrev S2048x128 : Shape := ⟨2, ![2048, 128]⟩
abbrev S8x128 : Shape := ⟨2, ![8, 128]⟩
abbrev S8 : Shape := ⟨1, ![8]⟩
abbrev S8x1 : Shape := ⟨2, ![8, 1]⟩
abbrev S128 : Shape := ⟨1, ![128]⟩
abbrev S1x128 : Shape := ⟨2, ![1, 128]⟩
abbrev S1x8 : Shape := ⟨2, ![1, 8]⟩
abbrev S1x8x128 : Shape := ⟨3, ![1, 8, 128]⟩
abbrev S256x1x128 : Shape := ⟨3, ![256, 1, 128]⟩
abbrev S1x256x128 : Shape := ⟨3, ![1, 256, 128]⟩
abbrev S14x128 : Shape := ⟨2, ![14, 128]⟩
abbrev S336x256 : Shape := ⟨2, ![336, 256]⟩
abbrev S64x256 : Shape := ⟨2, ![64, 256]⟩
abbrev S16x256 : Shape := ⟨2, ![16, 256]⟩
abbrev S8x256 : Shape := ⟨2, ![8, 256]⟩
abbrev S256 : Shape := ⟨1, ![256]⟩
abbrev S1x256 : Shape := ⟨2, ![1, 256]⟩
abbrev S128x1 : Shape := ⟨2, ![128, 1]⟩
abbrev S128x128 : Shape := ⟨2, ![128, 128]⟩
abbrev S1x1 : Shape := ⟨2, ![1, 1]⟩
abbrev S64 : Shape := ⟨1, ![64]⟩

abbrev nBuf : Space → Nat
  | .hbm => 28
  | .vmem => 52
  | .smem => 0
  | _ => 0

abbrev bufTy : (tb : Table) → Fin (tcTables nBuf tb) → BufTy
  | .hbm, ⟨0, _⟩ => ⟨S1x1792x112x64, .bf16⟩
  | .hbm, ⟨1, _⟩ => ⟨S1x1792x112, .f32⟩
  | .hbm, ⟨2, _⟩ => ⟨S112, .f32⟩
  | .hbm, ⟨3, _⟩ => ⟨S1x1792x8x128, .bf16⟩
  | .hbm, ⟨4, _⟩ => ⟨S1x1792x8x128, .bf16⟩
  | .hbm, ⟨5, _⟩ => ⟨S112, .f32⟩
  | .hbm, ⟨6, _⟩ => ⟨S1x112x64x128, .fp8e4m3⟩
  | .hbm, ⟨7, _⟩ => ⟨S1x112x64, .f32⟩
  | .hbm, ⟨8, _⟩ => ⟨S1x112x64x1792, .bf16⟩
  | .hbm, ⟨9, _⟩ => ⟨S7168x1792, .bf16⟩
  | .hbm, ⟨10, _⟩ => ⟨S1x112x1792, .f32⟩
  | .hbm, ⟨11, _⟩ => ⟨S112x1792, .f32⟩
  | .hbm, ⟨12, _⟩ => ⟨S1792x8x128, .bf16⟩
  | .hbm, ⟨13, _⟩ => ⟨S1792x8x128, .bf16⟩
  | .hbm, ⟨14, _⟩ => ⟨S7168x128, .fp8e4m3⟩
  | .hbm, ⟨15, _⟩ => ⟨S1x64x112, .f32⟩
  | .hbm, ⟨16, _⟩ => ⟨S64x112, .f32⟩
  | .hbm, ⟨17, _⟩ => ⟨S1x112, .f32⟩
  | .hbm, ⟨18, _⟩ => ⟨S1x112, .f32⟩
  | .hbm, ⟨19, _⟩ => ⟨S7168x1792, .bf16⟩
  | .hbm, ⟨20, _⟩ => ⟨S7168x1792, .fp8e4m3⟩
  | .hbm, ⟨21, _⟩ => ⟨S112x1792, .f32⟩
  | .hbm, ⟨22, _⟩ => ⟨S1792x8x128, .fp8e4m3⟩
  | .hbm, ⟨23, _⟩ => ⟨S7x1x8, .f32⟩
  | .hbm, ⟨24, _⟩ => ⟨S1792x8x128, .fp8e4m3⟩
  | .hbm, ⟨25, _⟩ => ⟨S7x1x8, .f32⟩
  | .hbm, ⟨26, _⟩ => ⟨S7168x128, .fp8e4m3⟩
  | .hbm, ⟨27, _⟩ => ⟨S64x112, .f32⟩
  | .local _ .vmem, ⟨0, _⟩ => ⟨S7168x256, .bf16⟩
  | .local _ .vmem, ⟨1, _⟩ => ⟨S7168x256, .bf16⟩
  | .local _ .vmem, ⟨2, _⟩ => ⟨S112x256, .f32⟩
  | .local _ .vmem, ⟨3, _⟩ => ⟨S112x256, .f32⟩
  | .local _ .vmem, ⟨4, _⟩ => ⟨S1x112, .f32⟩
  | .local _ .vmem, ⟨5, _⟩ => ⟨S256x8x128, .bf16⟩
  | .local _ .vmem, ⟨6, _⟩ => ⟨S256x8x128, .bf16⟩
  | .local _ .vmem, ⟨7, _⟩ => ⟨S256x8x128, .bf16⟩
  | .local _ .vmem, ⟨8, _⟩ => ⟨S256x8x128, .bf16⟩
  | .local _ .vmem, ⟨9, _⟩ => ⟨S1x112, .f32⟩
  | .local _ .vmem, ⟨10, _⟩ => ⟨S7168x128, .fp8e4m3⟩
  | .local _ .vmem, ⟨11, _⟩ => ⟨S64x112, .f32⟩
  | .local _ .vmem, ⟨12, _⟩ => ⟨S7168x256, .bf16⟩
  | .local _ .vmem, ⟨13, _⟩ => ⟨S7168x256, .bf16⟩
  | .local _ .vmem, ⟨14, _⟩ => ⟨S7168x256, .fp8e4m3⟩
  | .local _ .vmem, ⟨15, _⟩ => ⟨S7168x256, .fp8e4m3⟩
  | .local _ .vmem, ⟨16, _⟩ => ⟨S112x256, .f32⟩
  | .local _ .vmem, ⟨17, _⟩ => ⟨S112x256, .f32⟩
  | .local _ .vmem, ⟨18, _⟩ => ⟨S256x8x128, .fp8e4m3⟩
  | .local _ .vmem, ⟨19, _⟩ => ⟨S256x8x128, .fp8e4m3⟩
  | .local _ .vmem, ⟨20, _⟩ => ⟨S1x1x8, .f32⟩
  | .local _ .vmem, ⟨21, _⟩ => ⟨S1x1x8, .f32⟩
  | .local _ .vmem, ⟨22, _⟩ => ⟨S256x8x128, .fp8e4m3⟩
  | .local _ .vmem, ⟨23, _⟩ => ⟨S256x8x128, .fp8e4m3⟩
  | .local _ .vmem, ⟨24, _⟩ => ⟨S1x1x8, .f32⟩
  | .local _ .vmem, ⟨25, _⟩ => ⟨S1x1x8, .f32⟩
  | .local _ .vmem, ⟨26, _⟩ => ⟨S7168x128, .fp8e4m3⟩
  | .local _ .vmem, ⟨27, _⟩ => ⟨S64x112, .f32⟩
  | .local _ .vmem, ⟨28, _⟩ => ⟨S112x128, .f32⟩
  | .local _ .vmem, ⟨29, _⟩ => ⟨S112x128, .f32⟩
  | .local _ .vmem, ⟨30, _⟩ => ⟨S256x256, .bf16⟩
  | .local _ .vmem, ⟨31, _⟩ => ⟨S64x128, .i32⟩
  | .local _ .vmem, ⟨32, _⟩ => ⟨S7168x128, .f32⟩
  | .local _ .vmem, ⟨33, _⟩ => ⟨S256x8x128, .f32⟩
  | .local _ .vmem, ⟨34, _⟩ => ⟨S8x256x128, .fp8e4m3⟩
  | .local _ .vmem, ⟨35, _⟩ => ⟨S8x256x128, .fp8e4m3⟩
  | .local _ .vmem, ⟨36, _⟩ => ⟨S112x128, .f32⟩
  | .local _ .vmem, ⟨37, _⟩ => ⟨S112x128, .f32⟩
  | .local _ .vmem, ⟨38, _⟩ => ⟨S112x256, .f32⟩
  | .local _ .vmem, ⟨39, _⟩ => ⟨S112x256, .f32⟩
  | .local _ .vmem, ⟨40, _⟩ => ⟨S128x256, .f32⟩
  | .local _ .vmem, ⟨41, _⟩ => ⟨S256x128, .f32⟩
  | .local _ .vmem, ⟨42, _⟩ => ⟨S112x256, .f32⟩
  | .local _ .vmem, ⟨43, _⟩ => ⟨S112x256, .f32⟩
  | .local _ .vmem, ⟨44, _⟩ => ⟨S112x128, .f32⟩
  | .local _ .vmem, ⟨45, _⟩ => ⟨S112x256, .f32⟩
  | .local _ .vmem, ⟨46, _⟩ => ⟨S112x256, .f32⟩
  | .local _ .vmem, ⟨47, _⟩ => ⟨S256x256, .f32⟩
  | .local _ .vmem, ⟨48, _⟩ => ⟨S896x256, .f32⟩
  | .local _ .vmem, ⟨49, _⟩ => ⟨S896x128, .bf16⟩
  | .local _ .vmem, ⟨50, _⟩ => ⟨S896x256, .bf16⟩
  | .local _ .vmem, ⟨51, _⟩ => ⟨S64x128, .f32⟩
  | _, _ => ⟨S1x1792x112x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev main_v11_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_scratch13 : Ref sig .tc := ⟨.vmem, 41, rfl⟩
abbrev cc0_scratch14 : Ref sig .tc := ⟨.vmem, 42, rfl⟩
abbrev cc0_scratch15 : Ref sig .tc := ⟨.vmem, 43, rfl⟩
abbrev cc0_scratch16 : Ref sig .tc := ⟨.vmem, 44, rfl⟩
abbrev cc0_scratch17 : Ref sig .tc := ⟨.vmem, 45, rfl⟩
abbrev cc0_scratch18 : Ref sig .tc := ⟨.vmem, 46, rfl⟩
abbrev cc0_scratch19 : Ref sig .tc := ⟨.vmem, 47, rfl⟩
abbrev cc0_scratch20 : Ref sig .tc := ⟨.vmem, 48, rfl⟩
abbrev cc0_scratch21 : Ref sig .tc := ⟨.vmem, 49, rfl⟩
abbrev cc0_scratch22 : Ref sig .tc := ⟨.vmem, 50, rfl⟩
abbrev cc0_scratch23 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v14054 : BitVec 1 := Scalar.cmpi .eq arg0 c6_i32
  let v14055 : BitVec 32 := Scalar.extui v14054
  let c0_i32_7065 : BitVec 32 := 0#32
  let v14056 : BitVec 1 := Scalar.cmpi .ne v14055 c0_i32_7065
  v14056

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7168x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x112 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7168x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S7168x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S7168x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S112x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x8x128 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S7168x128 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x112 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S1x1792x112x64 : Shape := ⟨4, ![1, 1792, 112, 64]⟩
abbrev S1x1792x112 : Shape := ⟨3, ![1, 1792, 112]⟩
abbrev S112 : Shape := ⟨1, ![112]⟩
abbrev S1x1792x8x128 : Shape := ⟨4, ![1, 1792, 8, 128]⟩
abbrev S1x112x64x128 : Shape := ⟨4, ![1, 112, 64, 128]⟩
abbrev S1x112x64 : Shape := ⟨3, ![1, 112, 64]⟩
abbrev S7168x128 : Shape := ⟨2, ![7168, 128]⟩
abbrev S8x14x64x128 : Shape := ⟨4, ![8, 14, 64, 128]⟩
abbrev S7x256x8x14x64 : Shape := ⟨5, ![7, 256, 8, 14, 64]⟩
abbrev S_ : Shape := ⟨0, ![]⟩
abbrev S7x256x8x14 : Shape := ⟨4, ![7, 256, 8, 14]⟩
abbrev S7x256x8x14x1 : Shape := ⟨5, ![7, 256, 8, 14, 1]⟩
abbrev S7x256x8x128 : Shape := ⟨4, ![7, 256, 8, 128]⟩
abbrev S7x8 : Shape := ⟨2, ![7, 8]⟩
abbrev S7x1x8x1 : Shape := ⟨4, ![7, 1, 8, 1]⟩
abbrev S8x14 : Shape := ⟨2, ![8, 14]⟩
abbrev S1x1x8x14 : Shape := ⟨4, ![1, 1, 8, 14]⟩
abbrev S7x1x8x14 : Shape := ⟨4, ![7, 1, 8, 14]⟩
abbrev S7x8x14 : Shape := ⟨3, ![7, 8, 14]⟩
abbrev S7x8x14x256 : Shape := ⟨4, ![7, 8, 14, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S7x8x14x256x1 : Shape := ⟨5, ![7, 8, 14, 256, 1]⟩
abbrev S7x8x14x1x256 : Shape := ⟨5, ![7, 8, 14, 1, 256]⟩
abbrev S7x8x14x256x256 : Shape := ⟨5, ![7, 8, 14, 256, 256]⟩
abbrev S7x8x256x256 : Shape := ⟨4, ![7, 8, 256, 256]⟩
abbrev S7x8x1x1 : Shape := ⟨4, ![7, 8, 1, 1]⟩
abbrev S7x8x1x256x256 : Shape := ⟨5, ![7, 8, 1, 256, 256]⟩
abbrev S7x8x14x64x256 : Shape := ⟨5, ![7, 8, 14, 64, 256]⟩
abbrev S7x8x14x64x128 : Shape := ⟨5, ![7, 8, 14, 64, 128]⟩
abbrev S7x8x1x1x1 : Shape := ⟨5, ![7, 8, 1, 1, 1]⟩
abbrev S8x14x64 : Shape := ⟨3, ![8, 14, 64]⟩
abbrev S8x14x64x1 : Shape := ⟨4, ![8, 14, 64, 1]⟩
abbrev S1x8x14 : Shape := ⟨3, ![1, 8, 14]⟩
abbrev S8x14x1x1 : Shape := ⟨4, ![8, 14, 1, 1]⟩
abbrev S1x8x14x64x128 : Shape := ⟨5, ![1, 8, 14, 64, 128]⟩
abbrev S7x1x8x1x1 : Shape := ⟨5, ![7, 1, 8, 1, 1]⟩
abbrev S112x1 : Shape := ⟨2, ![112, 1]⟩
abbrev S1x1x112x1 : Shape := ⟨4, ![1, 1, 112, 1]⟩
abbrev S1x112x64x1792 : Shape := ⟨4, ![1, 112, 64, 1792]⟩
abbrev S7168x1792 : Shape := ⟨2, ![7168, 1792]⟩

abbrev nBuf : Space → Nat
  | .hbm => 291
  | .vmem => 2
  | .smem => 0
  | _ => 0

abbrev hbmTy0_0 (i : Nat) : BufTy := match i % 128 with
  | 0 => ⟨S1x1792x112x64, .bf16⟩
  | 1 => ⟨S1x1792x112, .f32⟩
  | 2 => ⟨S112, .f32⟩
  | 3 => ⟨S1x1792x8x128, .bf16⟩
  | 4 => ⟨S1x1792x8x128, .bf16⟩
  | 5 => ⟨S112, .f32⟩
  | 6 => ⟨S1x112x64x128, .fp8e4m3⟩
  | 7 => ⟨S1x112x64, .f32⟩
  | 8 => ⟨S7168x128, .fp8e4m3⟩
  | 9 => ⟨S7168x128, .f32⟩
  | 10 => ⟨S8x14x64x128, .f32⟩
  | 11 => ⟨S7x256x8x14x64, .bf16⟩
  | 12 => ⟨S7x256x8x14x64, .f32⟩
  | 13 => ⟨S_, .f32⟩
  | 14 => ⟨S_, .f32⟩
  | 15 => ⟨S7x256x8x14x64, .f32⟩
  | 16 => ⟨S_, .f32⟩
  | 17 => ⟨S7x256x8x14, .f32⟩
  | 18 => ⟨S7x256x8x14x1, .f32⟩
  | 19 => ⟨S_, .f32⟩
  | 20 => ⟨S7x256x8x14x1, .f32⟩
  | 21 => ⟨S7x256x8x14x1, .f32⟩
  | 22 => ⟨S7x256x8x14x1, .f32⟩
  | 23 => ⟨S7x256x8x14x1, .f32⟩
  | 24 => ⟨S7x256x8x14x1, .f32⟩
  | 25 => ⟨S7x256x8x14x1, .f32⟩
  | 26 => ⟨S_, .f32⟩
  | 27 => ⟨S7x256x8x14x1, .f32⟩
  | 28 => ⟨S7x256x8x14x1, .f32⟩
  | 29 => ⟨S_, .f32⟩
  | 30 => ⟨S7x256x8x14x1, .f32⟩
  | 31 => ⟨S7x256x8x14x1, .i1⟩
  | 32 => ⟨S_, .f32⟩
  | 33 => ⟨S_, .f32⟩
  | 34 => ⟨S7x256x8x14x1, .f32⟩
  | 35 => ⟨S7x256x8x14x1, .f32⟩
  | 36 => ⟨S7x256x8x14x1, .f32⟩
  | 37 => ⟨S7x256x8x14x1, .f32⟩
  | 38 => ⟨S7x256x8x14x1, .f32⟩
  | 39 => ⟨S7x256x8x14x1, .f32⟩
  | 40 => ⟨S7x256x8x14x1, .f32⟩
  | 41 => ⟨S7x256x8x14x1, .f32⟩
  | 42 => ⟨S7x256x8x14x1, .f32⟩
  | 43 => ⟨S7x256x8x14x64, .f32⟩
  | 44 => ⟨S7x256x8x14x64, .f32⟩
  | 45 => ⟨S_, .f32⟩
  | 46 => ⟨S_, .f32⟩
  | 47 => ⟨S_, .f32⟩
  | 48 => ⟨S7x256x8x14x64, .f32⟩
  | 49 => ⟨S7x256x8x14x64, .f32⟩
  | 50 => ⟨S_, .f32⟩
  | 51 => ⟨S7x256x8x14x64, .f32⟩
  | 52 => ⟨S7x256x8x14x64, .f32⟩
  | 53 => ⟨S7x256x8x14, .f32⟩
  | 54 => ⟨S7x256x8x128, .bf16⟩
  | 55 => ⟨S7x256x8x128, .f32⟩
  | 56 => ⟨S_, .f32⟩
  | 57 => ⟨S_, .f32⟩
  | 58 => ⟨S7x256x8x128, .f32⟩
  | 59 => ⟨S_, .f32⟩
  | 60 => ⟨S7x8, .f32⟩
  | 61 => ⟨S7x1x8x1, .f32⟩
  | 62 => ⟨S_, .f32⟩
  | 63 => ⟨S7x1x8x1, .f32⟩
  | 64 => ⟨S7x1x8x1, .f32⟩
  | 65 => ⟨S7x1x8x1, .f32⟩
  | 66 => ⟨S7x1x8x1, .f32⟩
  | 67 => ⟨S7x1x8x1, .f32⟩
  | 68 => ⟨S7x1x8x1, .f32⟩
  | 69 => ⟨S_, .f32⟩
  | 70 => ⟨S7x1x8x1, .f32⟩
  | 71 => ⟨S7x1x8x1, .f32⟩
  | 72 => ⟨S_, .f32⟩
  | 73 => ⟨S7x1x8x1, .f32⟩
  | 74 => ⟨S7x1x8x1, .i1⟩
  | 75 => ⟨S_, .f32⟩
  | 76 => ⟨S_, .f32⟩
  | 77 => ⟨S7x1x8x1, .f32⟩
  | 78 => ⟨S7x1x8x1, .f32⟩
  | 79 => ⟨S7x1x8x1, .f32⟩
  | 80 => ⟨S7x1x8x1, .f32⟩
  | 81 => ⟨S7x1x8x1, .f32⟩
  | 82 => ⟨S7x1x8x1, .f32⟩
  | 83 => ⟨S7x1x8x1, .f32⟩
  | 84 => ⟨S7x1x8x1, .f32⟩
  | 85 => ⟨S7x1x8x1, .f32⟩
  | 86 => ⟨S7x256x8x128, .f32⟩
  | 87 => ⟨S7x256x8x128, .f32⟩
  | 88 => ⟨S_, .f32⟩
  | 89 => ⟨S_, .f32⟩
  | 90 => ⟨S_, .f32⟩
  | 91 => ⟨S7x256x8x128, .f32⟩
  | 92 => ⟨S7x256x8x128, .f32⟩
  | 93 => ⟨S_, .f32⟩
  | 94 => ⟨S7x256x8x128, .f32⟩
  | 95 => ⟨S7x256x8x128, .f32⟩
  | 96 => ⟨S7x8, .f32⟩
  | 97 => ⟨S7x256x8x128, .bf16⟩
  | 98 => ⟨S7x256x8x128, .f32⟩
  | 99 => ⟨S_, .f32⟩
  | 100 => ⟨S_, .f32⟩
  | 101 => ⟨S7x256x8x128, .f32⟩
  | 102 => ⟨S_, .f32⟩
  | 103 => ⟨S7x8, .f32⟩
  | 104 => ⟨S7x1x8x1, .f32⟩
  | 105 => ⟨S_, .f32⟩
  | 106 => ⟨S7x1x8x1, .f32⟩
  | 107 => ⟨S7x1x8x1, .f32⟩
  | 108 => ⟨S7x1x8x1, .f32⟩
  | 109 => ⟨S7x1x8x1, .f32⟩
  | 110 => ⟨S7x1x8x1, .f32⟩
  | 111 => ⟨S7x1x8x1, .f32⟩
  | 112 => ⟨S_, .f32⟩
  | 113 => ⟨S7x1x8x1, .f32⟩
  | 114 => ⟨S7x1x8x1, .f32⟩
  | 115 => ⟨S_, .f32⟩
  | 116 => ⟨S7x1x8x1, .f32⟩
  | 117 => ⟨S7x1x8x1, .i1⟩
  | 118 => ⟨S_, .f32⟩
  | 119 => ⟨S_, .f32⟩
  | 120 => ⟨S7x1x8x1, .f32⟩
  | 121 => ⟨S7x1x8x1, .f32⟩
  | 122 => ⟨S7x1x8x1, .f32⟩
  | 123 => ⟨S7x1x8x1, .f32⟩
  | 124 => ⟨S7x1x8x1, .f32⟩
  | 125 => ⟨S7x1x8x1, .f32⟩
  | 126 => ⟨S7x1x8x1, .f32⟩
  | 127 => ⟨S7x1x8x1, .f32⟩
  | _ => ⟨S1x1792x112x64, .bf16⟩

abbrev hbmTy0_1 (i : Nat) : BufTy := match i % 128 with
  | 0 => ⟨S7x1x8x1, .f32⟩
  | 1 => ⟨S7x256x8x128, .f32⟩
  | 2 => ⟨S7x256x8x128, .f32⟩
  | 3 => ⟨S_, .f32⟩
  | 4 => ⟨S_, .f32⟩
  | 5 => ⟨S_, .f32⟩
  | 6 => ⟨S7x256x8x128, .f32⟩
  | 7 => ⟨S7x256x8x128, .f32⟩
  | 8 => ⟨S_, .f32⟩
  | 9 => ⟨S7x256x8x128, .f32⟩
  | 10 => ⟨S7x256x8x128, .f32⟩
  | 11 => ⟨S7x8, .f32⟩
  | 12 => ⟨S7x256x8x14, .f32⟩
  | 13 => ⟨S8x14, .f32⟩
  | 14 => ⟨S1x1x8x14, .f32⟩
  | 15 => ⟨S7x256x8x14, .f32⟩
  | 16 => ⟨S7x256x8x14, .f32⟩
  | 17 => ⟨S_, .f32⟩
  | 18 => ⟨S_, .f32⟩
  | 19 => ⟨S7x256x8x14, .f32⟩
  | 20 => ⟨S7x1x8x14, .f32⟩
  | 21 => ⟨S7x8x14, .f32⟩
  | 22 => ⟨S7x8x14x256, .f32⟩
  | 23 => ⟨S256, .i32⟩
  | 24 => ⟨S1x256, .i32⟩
  | 25 => ⟨S256x1, .i32⟩
  | 26 => ⟨S256x256, .i32⟩
  | 27 => ⟨S256x256, .i32⟩
  | 28 => ⟨S256x256, .i1⟩
  | 29 => ⟨S7x8x14x256x1, .f32⟩
  | 30 => ⟨S7x8x14x1x256, .f32⟩
  | 31 => ⟨S7x8x14x256x256, .f32⟩
  | 32 => ⟨S7x8x14x256x256, .f32⟩
  | 33 => ⟨S7x8x14x256x256, .f32⟩
  | 34 => ⟨S_, .f32⟩
  | 35 => ⟨S_, .f32⟩
  | 36 => ⟨S7x8x14x256x256, .i1⟩
  | 37 => ⟨S7x8x14x256x256, .f32⟩
  | 38 => ⟨S7x8x14x256x256, .f32⟩
  | 39 => ⟨S7x8x14x256x256, .f32⟩
  | 40 => ⟨S7x8x256x256, .f32⟩
  | 41 => ⟨S7x256x8x14, .f32⟩
  | 42 => ⟨S7x8x14x256, .f32⟩
  | 43 => ⟨S7x8, .f32⟩
  | 44 => ⟨S7x8x1x1, .f32⟩
  | 45 => ⟨S7x8x256x256, .f32⟩
  | 46 => ⟨S7x8x256x256, .f32⟩
  | 47 => ⟨S7x8x1x256x256, .f32⟩
  | 48 => ⟨S7x8x14x256x256, .f32⟩
  | 49 => ⟨S7x8x14x256x256, .f32⟩
  | 50 => ⟨S7x8x14x1x256, .f32⟩
  | 51 => ⟨S7x8x14x256x256, .f32⟩
  | 52 => ⟨S7x8x14x256x256, .f32⟩
  | 53 => ⟨S7x8x14x256x256, .bf16⟩
  | 54 => ⟨S7x8x14x256x256, .f32⟩
  | 55 => ⟨S7x8x14x64x256, .f32⟩
  | 56 => ⟨S7x256x8x14x64, .f32⟩
  | 57 => ⟨S7x1x8x14, .f32⟩
  | 58 => ⟨S7x256x8x14, .f32⟩
  | 59 => ⟨S7x256x8x14, .f32⟩
  | 60 => ⟨S7x256x8x14, .f32⟩
  | 61 => ⟨S7x256x8x14, .f32⟩
  | 62 => ⟨S7x256x8x14, .f32⟩
  | 63 => ⟨S7x256x8x14, .bf16⟩
  | 64 => ⟨S7x256x8x14, .f32⟩
  | 65 => ⟨S7x256x8x14x1, .f32⟩
  | 66 => ⟨S7x256x8x14x64, .f32⟩
  | 67 => ⟨S7x256x8x14x64, .f32⟩
  | 68 => ⟨S7x8x14x64x128, .f32⟩
  | 69 => ⟨S7x8x1x1x1, .f32⟩
  | 70 => ⟨S7x8x14x64x128, .f32⟩
  | 71 => ⟨S7x8x14x64x128, .f32⟩
  | 72 => ⟨S7x8x14, .f32⟩
  | 73 => ⟨S8x14x64, .f32⟩
  | 74 => ⟨S8x14x64x1, .f32⟩
  | 75 => ⟨S8x14x64x128, .f32⟩
  | 76 => ⟨S8x14x64x128, .f32⟩
  | 77 => ⟨S1x8x14, .f32⟩
  | 78 => ⟨S8x14, .f32⟩
  | 79 => ⟨S8x14x1x1, .f32⟩
  | 80 => ⟨S8x14x64x128, .f32⟩
  | 81 => ⟨S8x14x64x128, .f32⟩
  | 82 => ⟨S1x8x14x64x128, .f32⟩
  | 83 => ⟨S8x14x64x128, .f32⟩
  | 84 => ⟨S8x14x64x128, .f32⟩
  | 85 => ⟨S1x8x14, .f32⟩
  | 86 => ⟨S8x14, .f32⟩
  | 87 => ⟨S8x14x1x1, .f32⟩
  | 88 => ⟨S8x14x64x128, .f32⟩
  | 89 => ⟨S8x14x64x128, .f32⟩
  | 90 => ⟨S1x8x14x64x128, .f32⟩
  | 91 => ⟨S8x14x64x128, .f32⟩
  | 92 => ⟨S8x14x64x128, .f32⟩
  | 93 => ⟨S1x8x14, .f32⟩
  | 94 => ⟨S8x14, .f32⟩
  | 95 => ⟨S8x14x1x1, .f32⟩
  | 96 => ⟨S8x14x64x128, .f32⟩
  | 97 => ⟨S8x14x64x128, .f32⟩
  | 98 => ⟨S1x8x14x64x128, .f32⟩
  | 99 => ⟨S8x14x64x128, .f32⟩
  | 100 => ⟨S8x14x64x128, .f32⟩
  | 101 => ⟨S1x8x14, .f32⟩
  | 102 => ⟨S8x14, .f32⟩
  | 103 => ⟨S8x14x1x1, .f32⟩
  | 104 => ⟨S8x14x64x128, .f32⟩
  | 105 => ⟨S8x14x64x128, .f32⟩
  | 106 => ⟨S1x8x14x64x128, .f32⟩
  | 107 => ⟨S8x14x64x128, .f32⟩
  | 108 => ⟨S8x14x64x128, .f32⟩
  | 109 => ⟨S1x8x14, .f32⟩
  | 110 => ⟨S8x14, .f32⟩
  | 111 => ⟨S8x14x1x1, .f32⟩
  | 112 => ⟨S8x14x64x128, .f32⟩
  | 113 => ⟨S8x14x64x128, .f32⟩
  | 114 => ⟨S1x8x14x64x128, .f32⟩
  | 115 => ⟨S8x14x64x128, .f32⟩
  | 116 => ⟨S8x14x64x128, .f32⟩
  | 117 => ⟨S1x8x14, .f32⟩
  | 118 => ⟨S8x14, .f32⟩
  | 119 => ⟨S8x14x1x1, .f32⟩
  | 120 => ⟨S8x14x64x128, .f32⟩
  | 121 => ⟨S8x14x64x128, .f32⟩
  | 122 => ⟨S1x8x14x64x128, .f32⟩
  | 123 => ⟨S8x14x64x128, .f32⟩
  | 124 => ⟨S8x14x64x128, .f32⟩
  | 125 => ⟨S1x8x14, .f32⟩
  | 126 => ⟨S8x14, .f32⟩
  | 127 => ⟨S8x14x1x1, .f32⟩
  | _ => ⟨S1x1792x112x64, .bf16⟩

abbrev hbmTy0_2 (i : Nat) : BufTy := match i % 128 with
  | 0 => ⟨S8x14x64x128, .f32⟩
  | 1 => ⟨S8x14x64x128, .f32⟩
  | 2 => ⟨S1x8x14x64x128, .f32⟩
  | 3 => ⟨S8x14x64x128, .f32⟩
  | 4 => ⟨S8x14x64x128, .f32⟩
  | 5 => ⟨S1x8x14x64x128, .f32⟩
  | 6 => ⟨S1x8x14x64x128, .f32⟩
  | 7 => ⟨S1x8x14x64x128, .f32⟩
  | 8 => ⟨S1x8x14x64x128, .f32⟩
  | 9 => ⟨S1x8x14x64x128, .f32⟩
  | 10 => ⟨S1x8x14x64x128, .f32⟩
  | 11 => ⟨S1x8x14x64x128, .f32⟩
  | 12 => ⟨S7x8x14x64x128, .f32⟩
  | 13 => ⟨S7x8x14x64x128, .bf16⟩
  | 14 => ⟨S7x8x14x64x128, .f32⟩
  | 15 => ⟨S7x8x14x64x256, .f32⟩
  | 16 => ⟨S7x256x8x14x64, .f32⟩
  | 17 => ⟨S7x1x8x1x1, .f32⟩
  | 18 => ⟨S7x256x8x14x64, .f32⟩
  | 19 => ⟨S7x256x8x14x64, .f32⟩
  | 20 => ⟨S7x256x8x14, .f32⟩
  | 21 => ⟨S7x256x8x14x1, .f32⟩
  | 22 => ⟨S7x256x8x14x64, .f32⟩
  | 23 => ⟨S7x256x8x14x64, .f32⟩
  | 24 => ⟨S7x256x8x14x64, .f32⟩
  | 25 => ⟨S1x1792x112x64, .f32⟩
  | 26 => ⟨S112x1, .f32⟩
  | 27 => ⟨S1x1792x112x64, .f32⟩
  | 28 => ⟨S1x1x112x1, .f32⟩
  | 29 => ⟨S1x1792x112x64, .f32⟩
  | 30 => ⟨S1x1792x112x64, .f32⟩
  | 31 => ⟨S1x1792x112x64, .f32⟩
  | 32 => ⟨S1x1792x112x64, .bf16⟩
  | 33 => ⟨S1x112x64x1792, .bf16⟩
  | 34 => ⟨S7168x1792, .bf16⟩
  | _ => ⟨S1x1792x112x64, .bf16⟩

abbrev hbmTy (i : Nat) : BufTy := match i / 128 with
  | 0 => hbmTy0_0 i
  | 1 => hbmTy0_1 i
  | 2 => hbmTy0_2 i
  | _ => ⟨S1x1792x112x64, .bf16⟩

abbrev bufTy : (tb : Table) → Fin (tcTables nBuf tb) → BufTy
  | .hbm, ⟨i, _⟩ => hbmTy i
  | .local _ .vmem, ⟨0, _⟩ => ⟨S7168x128, .fp8e4m3⟩
  | .local _ .vmem, ⟨1, _⟩ => ⟨S7168x128, .f32⟩
  | _, _ => ⟨S1x1792x112x64, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_cst_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_call2_v0 : Ref sig .tc := ⟨.hbm, 76, rfl⟩
abbrev main_call2_v1 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_cst_14 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_15 : Ref sig .tc := ⟨.hbm, 99, rfl⟩
abbrev main_v61 : Ref sig .tc := ⟨.hbm, 100, rfl⟩
abbrev main_v62 : Ref sig .tc := ⟨.hbm, 101, rfl⟩
abbrev main_cst_16 : Ref sig .tc := ⟨.hbm, 102, rfl⟩
abbrev main_v63 : Ref sig .tc := ⟨.hbm, 103, rfl⟩
abbrev main_v64 : Ref sig .tc := ⟨.hbm, 104, rfl⟩
abbrev main_cst_17 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_cst_19 : Ref sig .tc := ⟨.hbm, 115, rfl⟩
abbrev main_v73 : Ref sig .tc := ⟨.hbm, 116, rfl⟩
abbrev main_v74 : Ref sig .tc := ⟨.hbm, 117, rfl⟩
abbrev main_cst_20 : Ref sig .tc := ⟨.hbm, 118, rfl⟩
abbrev main_call4_v0 : Ref sig .tc := ⟨.hbm, 119, rfl⟩
abbrev main_call4_v1 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_21 : Ref sig .tc := ⟨.hbm, 131, rfl⟩
abbrev main_cst_22 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_call6_call0_cst : Ref sig .tc := ⟨.hbm, 145, rfl⟩
abbrev main_call6_call0_v0 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_23 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S7168x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Dsl.lean ====
/-
  The kernel body as a small program over named buffers.

  The printed body reads and writes forty-one buffers, all of them whole and all of them in vector memory. Here a buffer is
  a name (`B`), an access is a load or a store of a rectangle of a named buffer (`Op`), and a program is a tree of such
  accesses. `run` computes what such a program does to the contents of all the buffers; `sound` states that the printed
  operations do exactly that.
-/
module

public import proofs.«01_k».proof.Proof.Gen.KernelIdeal
public import Idealize.ShloMosaic.Lib.Pipeline.FrameBody
public import Idealize.ShloMosaic.Lib.Tactic

@[expose] public section

set_option synthInstance.maxSize 4096

noncomputable section

namespace Cert.KernelIdeal.Y

open Cert.KernelIdeal
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers the body is handed: eight inputs, nine results, twenty-four scratch buffers. -/
inductive B where
  | b1
  | b2
  | b3
  | b4
  | b5
  | b6
  | b7
  | b8
  | b9
  | b10
  | b11
  | b12
  | b13
  | b14
  | b15
  | b16
  | b17
  | b18
  | b19
  | b20
  | b21
  | b22
  | b23
  | b24
  | b25
  | b26
  | b27
  | b28
  | b29
  | b30
  | b31
  | b32
  | b33
  | b34
  | b35
  | b36
  | b37
  | b38
  | b39
  | b40
  | b41
  deriving DecidableEq

instance : Fintype B := Fintype.ofList [.b1, .b2, .b3, .b4, .b5, .b6, .b7, .b8, .b9, .b10, .b11, .b12, .b13, .b14, .b15, .b16, .b17, .b18, .b19, .b20, .b21, .b22, .b23, .b24, .b25, .b26, .b27, .b28, .b29, .b30, .b31, .b32, .b33, .b34, .b35, .b36, .b37, .b38, .b39, .b40, .b41] (by intro x; cases x <;> decide)

/-- A buffer's shape. -/
@[reducible] def shp : B → Shape
  | .b1 => S7168x256
  | .b2 => S112x256
  | .b3 => S1x112
  | .b4 => S256x8x128
  | .b5 => S256x8x128
  | .b6 => S1x112
  | .b7 => S7168x128
  | .b8 => S64x112
  | .b9 => S7168x256
  | .b10 => S7168x256
  | .b11 => S112x256
  | .b12 => S256x8x128
  | .b13 => S1x1x8
  | .b14 => S256x8x128
  | .b15 => S1x1x8
  | .b16 => S7168x128
  | .b17 => S64x112
  | .b18 => S112x128
  | .b19 => S112x128
  | .b20 => S256x256
  | .b21 => S64x128
  | .b22 => S7168x128
  | .b23 => S256x8x128
  | .b24 => S8x256x128
  | .b25 => S8x256x128
  | .b26 => S112x128
  | .b27 => S112x128
  | .b28 => S112x256
  | .b29 => S112x256
  | .b30 => S128x256
  | .b31 => S256x128
  | .b32 => S112x256
  | .b33 => S112x256
  | .b34 => S112x128
  | .b35 => S112x256
  | .b36 => S112x256
  | .b37 => S256x256
  | .b38 => S896x256
  | .b39 => S896x128
  | .b40 => S896x256
  | .b41 => S64x128

/-- A buffer's element type. -/
@[reducible] def elt : B → EltTy
  | .b1 => .bf16
  | .b2 => .f32
  | .b3 => .f32
  | .b4 => .bf16
  | .b5 => .bf16
  | .b6 => .f32
  | .b7 => .fp8e4m3
  | .b8 => .f32
  | .b9 => .bf16
  | .b10 => .fp8e4m3
  | .b11 => .f32
  | .b12 => .fp8e4m3
  | .b13 => .f32
  | .b14 => .fp8e4m3
  | .b15 => .f32
  | .b16 => .fp8e4m3
  | .b17 => .f32
  | .b18 => .f32
  | .b19 => .f32
  | .b20 => .bf16
  | .b21 => .i32
  | .b22 => .f32
  | .b23 => .f32
  | .b24 => .fp8e4m3
  | .b25 => .fp8e4m3
  | .b26 => .f32
  | .b27 => .f32
  | .b28 => .f32
  | .b29 => .f32
  | .b30 => .f32
  | .b31 => .f32
  | .b32 => .f32
  | .b33 => .f32
  | .b34 => .f32
  | .b35 => .f32
  | .b36 => .f32
  | .b37 => .f32
  | .b38 => .f32
  | .b39 => .bf16
  | .b40 => .bf16
  | .b41 => .f32

/-- A memref for every buffer, each over a whole buffer. -/
structure Mems where
  m : (j : B) → Memref sig .tc .vmem (shp j) (elt j)
  w : ∀ j, (m j).IsWhole

/-- The memrefs, from the forty-one operands in order. -/
@[reducible] def Mems.mk41 (a1 : Memref sig .tc .vmem S7168x256 .bf16) (h1 : a1.IsWhole) (a2 : Memref sig .tc .vmem S112x256 .f32) (h2 : a2.IsWhole) (a3 : Memref sig .tc .vmem S1x112 .f32) (h3 : a3.IsWhole) (a4 : Memref sig .tc .vmem S256x8x128 .bf16) (h4 : a4.IsWhole) (a5 : Memref sig .tc .vmem S256x8x128 .bf16) (h5 : a5.IsWhole) (a6 : Memref sig .tc .vmem S1x112 .f32) (h6 : a6.IsWhole) (a7 : Memref sig .tc .vmem S7168x128 .fp8e4m3) (h7 : a7.IsWhole) (a8 : Memref sig .tc .vmem S64x112 .f32) (h8 : a8.IsWhole) (a9 : Memref sig .tc .vmem S7168x256 .bf16) (h9 : a9.IsWhole) (a10 : Memref sig .tc .vmem S7168x256 .fp8e4m3) (h10 : a10.IsWhole) (a11 : Memref sig .tc .vmem S112x256 .f32) (h11 : a11.IsWhole) (a12 : Memref sig .tc .vmem S256x8x128 .fp8e4m3) (h12 : a12.IsWhole) (a13 : Memref sig .tc .vmem S1x1x8 .f32) (h13 : a13.IsWhole) (a14 : Memref sig .tc .vmem S256x8x128 .fp8e4m3) (h14 : a14.IsWhole) (a15 : Memref sig .tc .vmem S1x1x8 .f32) (h15 : a15.IsWhole) (a16 : Memref sig .tc .vmem S7168x128 .fp8e4m3) (h16 : a16.IsWhole) (a17 : Memref sig .tc .vmem S64x112 .f32) (h17 : a17.IsWhole) (a18 : Memref sig .tc .vmem S112x128 .f32) (h18 : a18.IsWhole) (a19 : Memref sig .tc .vmem S112x128 .f32) (h19 : a19.IsWhole) (a20 : Memref sig .tc .vmem S256x256 .bf16) (h20 : a20.IsWhole) (a21 : Memref sig .tc .vmem S64x128 .i32) (h21 : a21.IsWhole) (a22 : Memref sig .tc .vmem S7168x128 .f32) (h22 : a22.IsWhole) (a23 : Memref sig .tc .vmem S256x8x128 .f32) (h23 : a23.IsWhole) (a24 : Memref sig .tc .vmem S8x256x128 .fp8e4m3) (h24 : a24.IsWhole) (a25 : Memref sig .tc .vmem S8x256x128 .fp8e4m3) (h25 : a25.IsWhole) (a26 : Memref sig .tc .vmem S112x128 .f32) (h26 : a26.IsWhole) (a27 : Memref sig .tc .vmem S112x128 .f32) (h27 : a27.IsWhole) (a28 : Memref sig .tc .vmem S112x256 .f32) (h28 : a28.IsWhole) (a29 : Memref sig .tc .vmem S112x256 .f32) (h29 : a29.IsWhole) (a30 : Memref sig .tc .vmem S128x256 .f32) (h30 : a30.IsWhole) (a31 : Memref sig .tc .vmem S256x128 .f32) (h31 : a31.IsWhole) (a32 : Memref sig .tc .vmem S112x256 .f32) (h32 : a32.IsWhole) (a33 : Memref sig .tc .vmem S112x256 .f32) (h33 : a33.IsWhole) (a34 : Memref sig .tc .vmem S112x128 .f32) (h34 : a34.IsWhole) (a35 : Memref sig .tc .vmem S112x256 .f32) (h35 : a35.IsWhole) (a36 : Memref sig .tc .vmem S112x256 .f32) (h36 : a36.IsWhole) (a37 : Memref sig .tc .vmem S256x256 .f32) (h37 : a37.IsWhole) (a38 : Memref sig .tc .vmem S896x256 .f32) (h38 : a38.IsWhole) (a39 : Memref sig .tc .vmem S896x128 .bf16) (h39 : a39.IsWhole) (a40 : Memref sig .tc .vmem S896x256 .bf16) (h40 : a40.IsWhole) (a41 : Memref sig .tc .vmem S64x128 .f32) (h41 : a41.IsWhole) : Mems where
  m := fun | .b1 => a1 | .b2 => a2 | .b3 => a3 | .b4 => a4 | .b5 => a5 | .b6 => a6 | .b7 => a7 | .b8 => a8 | .b9 => a9 | .b10 => a10 | .b11 => a11 | .b12 => a12 | .b13 => a13 | .b14 => a14 | .b15 => a15 | .b16 => a16 | .b17 => a17 | .b18 => a18 | .b19 => a19 | .b20 => a20 | .b21 => a21 | .b22 => a22 | .b23 => a23 | .b24 => a24 | .b25 => a25 | .b26 => a26 | .b27 => a27 | .b28 => a28 | .b29 => a29 | .b30 => a30 | .b31 => a31 | .b32 => a32 | .b33 => a33 | .b34 => a34 | .b35 => a35 | .b36 => a36 | .b37 => a37 | .b38 => a38 | .b39 => a39 | .b40 => a40 | .b41 => a41
  w := fun | .b1 => h1 | .b2 => h2 | .b3 => h3 | .b4 => h4 | .b5 => h5 | .b6 => h6 | .b7 => h7 | .b8 => h8 | .b9 => h9 | .b10 => h10 | .b11 => h11 | .b12 => h12 | .b13 => h13 | .b14 => h14 | .b15 => h15 | .b16 => h16 | .b17 => h17 | .b18 => h18 | .b19 => h19 | .b20 => h20 | .b21 => h21 | .b22 => h22 | .b23 => h23 | .b24 => h24 | .b25 => h25 | .b26 => h26 | .b27 => h27 | .b28 => h28 | .b29 => h29 | .b30 => h30 | .b31 => h31 | .b32 => h32 | .b33 => h33 | .b34 => h34 | .b35 => h35 | .b36 => h36 | .b37 => h37 | .b38 => h38 | .b39 => h39 | .b40 => h40 | .b41 => h41

/-- Contents of every buffer. -/
abbrev St (F : FTy → Type) := (j : B) → (shp j).Idx → Elt F (elt j)

variable (F) in
/-- One access: a load of a rectangle, or an unmasked store to one with the evidence the store needs. -/
inductive Op : Type → Type _ where
  | load (j : B) (r : Rect (shp j)) (h : 0 < r.shape.numel) : Op (r.shape.Idx → Elt F (elt j))
  | store (j : B) (r : Rect (shp j)) (v : r.shape.Idx → Elt F (elt j)) (h : ∀ M : Mems, ((M.m j).access r).Stores Finset.univ) : Op PUnit

variable (F) in
/-- A program of accesses. -/
abbrev P (α : Type) := Prog (Op F) α

/-- The printed operation of an access. -/
def opTo (M : Mems) : {α : Type} → Op F α → TpuEff nD τ sig (Elt F) Λ₀ .tc α
  | _, .load j r h => .load (M.m j) r.toLoadRect (View.loadsAt_vmem h)
  | _, .store j r v h => .store (M.m j) r v Finset.univ (h M) (.inl rfl)

/-- The printed program of a program of accesses. -/
def toProg (M : Mems) {α : Type} (p : P F α) : Prog (TpuEff nD τ sig (Elt F) Λ₀ .tc) α :=
  Prog.rec (motive := fun _ => Prog (TpuEff nD τ sig (Elt F) Λ₀ .tc) α) (fun a => .ret a)
    (fun e _ ih => .op (opTo M e) ih) p

/-- A buffer's contents after the rectangle `r` of it was written `v`. -/
def wr {s : Shape} {e : EltTy} (r : Rect s) (v : r.shape.Idx → Elt F e) (X : s.Idx → Elt F e) : s.Idx → Elt F e := fun y =>
  open Classical in if h : ∃ x, r.emb x = y then v h.choose else X y

theorem wr_emb {s : Shape} {e : EltTy} (r : Rect s) (v : r.shape.Idx → Elt F e) (X : s.Idx → Elt F e) (x : r.shape.Idx) :
    wr r v X (r.emb x) = v x := by
  have h : ∃ x', r.emb x' = r.emb x := ⟨x, rfl⟩
  rw [wr, dif_pos h, r.emb.injective h.choose_spec]

theorem wr_not {s : Shape} {e : EltTy} (r : Rect s) (v : r.shape.Idx → Elt F e) (X : s.Idx → Elt F e) {y : s.Idx}
    (h : ∀ x, r.emb x ≠ y) : wr r v X y = X y := by
  rw [wr, dif_neg]; rintro ⟨x, hx⟩; exact h x hx

/-- The contents of all buffers after buffer `j` was set. -/
def put (j : B) (v : (shp j).Idx → Elt F (elt j)) (σ : St F) : St F := Function.update σ j v

theorem put_self (j : B) (v : (shp j).Idx → Elt F (elt j)) (σ : St F) : put j v σ j = v := Function.update_self ..

theorem put_ne {j j' : B} (h : j' ≠ j) (v : (shp j).Idx → Elt F (elt j)) (σ : St F) : put j v σ j' = σ j' :=
  Function.update_of_ne h ..

/-- What an access answers, and the contents it leaves. -/
def step : {α : Type} → Op F α → St F → α × St F
  | _, .load j r _, σ => (View.ld (σ j) r, σ)
  | _, .store j r v _, σ => (⟨⟩, put j (wr r v (σ j)) σ)

/-- What a program answers, and the contents it leaves. -/
def run {α : Type} (p : P F α) : St F → α × St F :=
  Prog.rec (motive := fun _ => St F → α × St F) (fun a σ => (a, σ)) (fun e _ ih σ => ih (step e σ).1 (step e σ).2) p

theorem run_bind {α β : Type} (p : P F α) (k : α → P F β) (σ : St F) :
    run (p >>= k) σ = run (k (run p σ).1) (run p σ).2 := by
  induction p generalizing σ with
  | ret a => rfl
  | op e c ih => exact ih _ _

theorem toProg_bind (M : Mems) {α β : Type} (p : P F α) (k : α → P F β) :
    toProg M (p >>= k) = toProg M p >>= fun a => toProg M (k a) := by
  induction p with
  | ret a => rfl
  | op e c ih => exact congrArg (Prog.op (opTo M e)) (funext fun x => ih x)

/-- Every buffer owned at its contents. -/
def owning (M : Mems) (c : Dev nD) (σ : St F) : sProp 𝕄 :=
  bigSep Finset.univ fun j => owns (c : Thread nD τ) (M.m j) fullShare (σ j)

theorem owning_split (M : Mems) (c : Dev nD) (σ : St F) (j : B) :
    (owning M c σ : sProp 𝕄) = iprop(owns (c : Thread nD τ) (M.m j) fullShare (σ j)
      ∗ bigSep (Finset.univ.erase j) fun i => owns (c : Thread nD τ) (M.m i) fullShare (σ i)) := bigSep_univ_split j

theorem owning_put (M : Mems) (c : Dev nD) (σ : St F) (j : B) (v : (shp j).Idx → Elt F (elt j)) :
    (owning M c (put j v σ) : sProp 𝕄) = iprop(owns (c : Thread nD τ) (M.m j) fullShare v
      ∗ bigSep (Finset.univ.erase j) fun i => owns (c : Thread nD τ) (M.m i) fullShare (σ i)) := by
  rw [owning_split M c _ j, put_self]
  congr 1
  exact bigSep_congr fun i hi => by rw [put_ne (Finset.ne_of_mem_erase hi)]

/-- The printed operations do what `run` says. -/
theorem sound (M : Mems) (c : Dev nD) {α : Type} (p : P F α) (σ : St F) (Q : α → sProp 𝕄) :
    iprop(owning M c σ ∗ (owning M c (run p σ).2 -∗ Q (run p σ).1))
      ⊢ wp frame (wpE (defs₀ (F := F)) Variants.none (c : Thread nD τ) none) Set.univ (toProg M p) Q := by
  induction p generalizing σ with
  | ret a =>
    rw [show toProg M (Prog.ret a : P F _) = .ret a from rfl, wp_ret]
    change iprop(owning M c σ ∗ (owning M c σ -∗ Q a)) ⊢ _
    iintro ⟨H, K⟩
    imodintro
    iapply K; iexact H
  | op e k ih =>
    cases e with
    | load j r h =>
      change iprop(owning M c σ ∗ (owning M c (run (k (View.ld (σ j) r)) σ).2 -∗ Q (run (k (View.ld (σ j) r)) σ).1)) ⊢
        wp frame (wpE (defs₀ (F := F)) Variants.none (c : Thread nD τ) none) Set.univ
          (.op (.load (M.m j) r.toLoadRect (View.loadsAt_vmem h)) fun x => toProg M (k x)) Q
      refine BIBase.Entails.trans (sep_mono (show owning M c σ ⊢ _ from by rw [owning_split M c σ j]) .rfl) ?_
      iintro ⟨⟨H1, Hr⟩, K⟩
      unfold owns
      icases H1 with ⟨%f, %hf, Hj⟩
      iapply (wp_load_rect (m := M.m j) (r := r) (f := f) (S := (M.m j).view.set) Variants.none (c : Thread nD τ) none Set.univ
        (View.set_slice_subset _ r)) $$ Hj
      iintro Hj
      have e1 : ((M.m j).access r).read (Elt F) f = View.ld (σ j) r := by rw [← hf]; rfl
      rw [e1]
      iapply (ih (View.ld (σ j) r) σ)
      isplitl [Hj Hr]
      · rw [owning_split M c σ j]
        isplitl [Hj]
        · unfold owns; iexists f; isplitr
          · ipureintro; exact hf
          · iexact Hj
        · iexact Hr
      · iexact K
    | store j r v h =>
      change iprop(owning M c σ ∗ (owning M c (run (k ⟨⟩) (put j (wr r v (σ j)) σ)).2 -∗ Q (run (k ⟨⟩) (put j (wr r v (σ j)) σ)).1)) ⊢
        wp frame (wpE (defs₀ (F := F)) Variants.none (c : Thread nD τ) none) Set.univ
          (.op (.store (M.m j) r v Finset.univ (h M) (.inl rfl)) fun x => toProg M (k x)) Q
      refine BIBase.Entails.trans (sep_mono (show owning M c σ ⊢ _ from by rw [owning_split M c σ j]) .rfl) ?_
      iintro ⟨⟨H1, Hr⟩, K⟩
      unfold owns
      icases H1 with ⟨%f, %hf, Hj⟩
      iapply (wp_store (m := M.m j) (r := r) (w := v) (Mk := Finset.univ) (f := f) (S := (M.m j).view.set) Variants.none (c : Thread nD τ) none Set.univ
        ((View.setOn_subset_set _ _).trans (View.set_slice_subset _ r))) $$ Hj
      iintro Hj
      iapply (ih ⟨⟩ (put j (wr r v (σ j)) σ))
      isplitl [Hj Hr]
      · rw [owning_put M c σ j]
        isplitl [Hj]
        · unfold owns; iexists _; isplitr
          rotate_left
          · iexact Hj
          · ipureintro
            funext y
            by_cases hy : ∃ x, r.emb x = y
            · obtain ⟨x, rfl⟩ := hy
              rw [wr_emb]; exact View.read_slice_write_emb r _ _ (Finset.mem_univ x)
            · rw [wr_not _ _ _ (fun x hx => hy ⟨x, hx⟩), ← hf]
              refine View.read_slice_write_of_not_mem r _ _ _ ?_
              rintro hm
              obtain ⟨x, -, hx⟩ := Finset.mem_map.mp hm
              exact hy ⟨x, hx⟩
        · unfold owns; iexact Hr
      · iexact K

/-! ## Loops and the facts symbolic offsets need -/

/-- `n` rounds of `f`, from round `k` on. -/
def loopFrom {N : ℕ} (f : (k : ℕ) → k < N → P F PUnit) (n : ℕ) : (k : ℕ) → k + n ≤ N → P F PUnit :=
  Nat.rec (motive := fun n => (k : ℕ) → k + n ≤ N → P F PUnit) (fun _ _ => .ret ⟨⟩)
    (fun n ih k h => f k (Nat.lt_of_lt_of_le (Nat.lt_add_of_pos_right (Nat.succ_pos n)) h) >>= fun _ =>
      ih (k + 1) (Nat.le_trans (Nat.le_of_eq (Nat.succ_add_eq_add_succ k n)) h)) n

/-- `N` rounds of `f`. -/
def loop (N : ℕ) (f : (k : ℕ) → k < N → P F PUnit) : P F PUnit := loopFrom f N 0 (Nat.le_of_eq (Nat.zero_add N))

theorem inb2 {o0 o1 r c R C : ℕ} (h0 : o0 + r ≤ R) (h1 : o1 + c ≤ C) :
    ∀ a, (![o0, o1] : Fin 2 → ℕ) a + (![r, c] : Fin 2 → ℕ) a ≤ (![R, C] : Fin 2 → ℕ) a :=
  Fin.forall_fin_two.mpr ⟨h0, h1⟩

theorem inb3 {o0 o1 o2 r0 r1 r2 R0 R1 R2 : ℕ} (h0 : o0 + r0 ≤ R0) (h1 : o1 + r1 ≤ R1) (h2 : o2 + r2 ≤ R2) :
    ∀ a, (![o0, o1, o2] : Fin 3 → ℕ) a + (![r0, r1, r2] : Fin 3 → ℕ) a ≤ (![R0, R1, R2] : Fin 3 → ℕ) a :=
  Fin.forall_fin_succ.mpr ⟨h0, Fin.forall_fin_two.mpr ⟨h1, h2⟩⟩

theorem packed2 {R C r c o p : ℕ} (inb : ∀ a, (![o, 0] : Fin 2 → ℕ) a + (![r, c] : Fin 2 → ℕ) a ≤ (![R, C] : Fin 2 → ℕ) a)
    (h0 : p ∣ o) (h1 : p ∣ r) : (Rect.unit (s := ⟨2, ![R, C]⟩) ![o, 0] ![r, c] inb).PackedRows p :=
  .inr ⟨le_refl 2, rfl, .inl ⟨h0, h1⟩⟩

theorem packed3 {R0 R1 R2 r0 r1 r2 o0 o1 o2 p : ℕ} (inb : ∀ a, (![o0, o1, o2] : Fin 3 → ℕ) a + (![r0, r1, r2] : Fin 3 → ℕ) a ≤ (![R0, R1, R2] : Fin 3 → ℕ) a)
    (h0 : p ∣ o1) (h1 : p ∣ r1) : (Rect.unit (s := ⟨3, ![R0, R1, R2]⟩) ![o0, o1, o2] ![r0, r1, r2] inb).PackedRows p :=
  .inr ⟨Nat.le_succ 2, rfl, .inl ⟨h0, h1⟩⟩

theorem slices2 {R C r c o0 o1 : ℕ} (h0 : o0 + r ≤ R) (h1 : o1 + c ≤ C) :
    (⟨2, ![R, C]⟩ : Shape).Slices ![o0, o1] ⟨2, ![r, c]⟩ :=
  ⟨rfl, Fin.forall_fin_two.mpr ⟨h0, h1⟩⟩

end Cert.KernelIdeal.Y
-- ==== Proof.Loop.lean ====
/-
  The kernel body in loop form. Each phase of the body is written once, with its head or its group as a variable, and the
  whole body is those phases in loops. The values a phase stores are definitions of their own (`…V…`) of what it loads.
-/
module

public import proofs.«01_k».proof.Proof.Dsl

@[expose] public section

set_option synthInstance.maxSize 4096
set_option maxRecDepth 16384

noncomputable section

namespace Cert.KernelIdeal.Y

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

def initAV1 : FVec F S256x256 .bf16 :=
  have v14057 : IVec S256x256 32 := iota .tc S256x256 32 [0] iota_S256x256_d0_w32
  have v14058 : IVec S256x256 32 := iota .tc S256x256 32 [1] iota_S256x256_d1_w32
  have v14059 : IVec S256x256 1 := cmpi .sle v14057 v14058
  have cst_7066 : F .f32 := Scalar.ofBits .f32 0x3F800000#32
  have v14060 : FVec F S256x256 .f32 := broadcast S256x256 cst_7066
  have cst_7067 : F .f32 := Scalar.ofBits .f32 0x00000000#32
  have v14061 : FVec F S256x256 .f32 := broadcast S256x256 cst_7067
  have v14062 : FVec F S256x256 .f32 := select v14059 v14060 v14061
  have v14063 : FVec F S256x256 .bf16 := truncf .bf16 v14062 bitsLt_bf16_f32
  shapeCast S256x256 v14063 shapeCasts_S256x256_S256x256

def initAV2 : IVec S64x128 32 :=
  have c2_i32 : BitVec 32 := 2#32
  have v14069 : IVec S64x128 32 := broadcast S64x128 c2_i32
  have v14067 : IVec S64x128 32 := iota .tc S64x128 32 [0] iota_S64x128_d0_w32
  have v14070 : IVec S64x128 32 := muli v14069 v14067
  have v14068 : IVec S64x128 32 := iota .tc S64x128 32 [1] iota_S64x128_d1_w32
  have v14071 : IVec S64x128 1 := cmpi .sle v14070 v14068
  have c65535_i32 : BitVec 32 := 65535#32
  have v14072 : IVec S64x128 32 := broadcast S64x128 c65535_i32
  have c0_i32_7070 : BitVec 32 := 0#32
  have v14073 : IVec S64x128 32 := broadcast S64x128 c0_i32_7070
  have v14074 : IVec S64x128 32 := select v14071 v14072 v14073
  have c2_i32_7071 : BitVec 32 := 2#32
  have v14075 : IVec S64x128 32 := broadcast S64x128 c2_i32_7071
  have v14076 : IVec S64x128 32 := muli v14075 v14067
  have c1_i32_7072 : BitVec 32 := 1#32
  have v14077 : IVec S64x128 32 := broadcast S64x128 c1_i32_7072
  have v14078 : IVec S64x128 32 := addi v14076 v14077
  have v14079 : IVec S64x128 1 := cmpi .sle v14078 v14068
  have c_m65536_i32_7073 : BitVec 32 := 4294901760#32
  have v14080 : IVec S64x128 32 := broadcast S64x128 c_m65536_i32_7073
  have c0_i32_7074 : BitVec 32 := 0#32
  have v14081 : IVec S64x128 32 := broadcast S64x128 c0_i32_7074
  have v14082 : IVec S64x128 32 := select v14079 v14080 v14081
  have v14083 : IVec S64x128 32 := ori v14074 v14082
  shapeCast S64x128 v14083 shapeCasts_S64x128_S64x128

def initAV3 (v14090 : Vec F S1x112 .f32) : FVec F S112x128 .f32 :=
  have v14087 : IVec S112x112 32 := iota .tc S112x112 32 [0] iota_S112x112_d0_w32
  have v14088 : IVec S112x112 32 := iota .tc S112x112 32 [1] iota_S112x112_d1_w32
  have v14089 : IVec S112x112 1 := cmpi .eq v14087 v14088
  have v14091 : FVec F S1x112 .f32 := shapeCast S1x112 v14090 shapeCasts_S1x112_S1x112
  have v14092 : FVec F S1x112 .f32 := shapeCast S1x112 v14091 shapeCasts_S1x112_S1x112
  have v14093 : FVec F S112x112 .f32 := broadcastTo S112x112 v14092 broadcasts_S1x112_S112x112
  have cst_7079 : F .f32 := Scalar.ofBits .f32 0x00000000#32
  have v14094 : FVec F S112x112 .f32 := broadcast S112x112 cst_7079
  have v14095 : FVec F S112x112 .f32 := select v14089 v14093 v14094
  have v14096 : FVec F S112 .f32 := multiReduction .add [1] S112 v14095 0x00000000#32 reduces_S112x112_S112 (.inl rfl) rfl
  have v14097 : FVec F S112x1 .f32 := shapeCast S112x1 v14096 shapeCasts_S112_S112x1
  have v14098 : FVec F S112x1 .f32 := shapeCast S112x1 v14097 shapeCasts_S112x1_S112x1
  have v14099 : FVec F S112x128 .f32 := broadcastTo S112x128 v14098 broadcasts_S112x1_S112x128
  shapeCast S112x128 v14099 shapeCasts_S112x128_S112x128

def initAV4 (v14104 : Vec F S1x112 .f32) : FVec F S112x128 .f32 :=
  have v14087 : IVec S112x112 32 := iota .tc S112x112 32 [0] iota_S112x112_d0_w32
  have v14088 : IVec S112x112 32 := iota .tc S112x112 32 [1] iota_S112x112_d1_w32
  have v14103 : IVec S112x112 1 := cmpi .eq v14087 v14088
  have v14105 : FVec F S1x112 .f32 := shapeCast S1x112 v14104 shapeCasts_S1x112_S1x112
  have v14106 : FVec F S1x112 .f32 := shapeCast S1x112 v14105 shapeCasts_S1x112_S1x112
  have v14107 : FVec F S112x112 .f32 := broadcastTo S112x112 v14106 broadcasts_S1x112_S112x112
  have cst_7085 : F .f32 := Scalar.ofBits .f32 0x00000000#32
  have v14108 : FVec F S112x112 .f32 := broadcast S112x112 cst_7085
  have v14109 : FVec F S112x112 .f32 := select v14103 v14107 v14108
  have v14110 : FVec F S112 .f32 := multiReduction .add [1] S112 v14109 0x00000000#32 reduces_S112x112_S112 (.inl rfl) rfl
  have v14111 : FVec F S112x1 .f32 := shapeCast S112x1 v14110 shapeCasts_S112_S112x1
  have v14112 : FVec F S112x1 .f32 := shapeCast S112x1 v14111 shapeCasts_S112x1_S112x1
  have v14113 : FVec F S112x128 .f32 := broadcastTo S112x128 v14112 broadcasts_S112x1_S112x128
  shapeCast S112x128 v14113 shapeCasts_S112x128_S112x128

def initAV5 : FVec F S128x256 .f32 :=
  have cst_7089 : F .f32 := Scalar.ofBits .f32 0x00000000#32
  have v14117 : FVec F S128x256 .f32 := broadcast S128x256 cst_7089
  shapeCast S128x256 v14117 shapeCasts_S128x256_S128x256

/-- The constant tables: the triangle, the mask, the two columns, and a block of zeros. -/
def initA  : P F PUnit :=
  .op (.load .b20 (Rect.unit (s := S256x256) ![0, 0] S256x256.size inb_S256x256_S256x256_0_0) h_S256x256) fun (v14064 : Vec F S256x256 .bf16) =>
  .op (.store .b20 (Rect.unit (s := S256x256) ![0, 0] S256x256.size inb_S256x256_S256x256_0_0) (initAV1) (fun M => View.stores_vmem h_S256x256 ((M.w .b20).storeExact_slice rfl _ packedbf16_S256x256_S256x256_0_0) (fun _ => rfl))) fun _ =>
  .op (.load .b21 (Rect.unit (s := S64x128) ![0, 0] S64x128.size inb_S64x128_S64x128_0_0) h_S64x128) fun (v14084 : Vec F S64x128 .i32) =>
  .op (.store .b21 (Rect.unit (s := S64x128) ![0, 0] S64x128.size inb_S64x128_S64x128_0_0) (initAV2) (fun M => View.stores_vmem_bits_univ h_S64x128 rfl)) fun _ =>
  .op (.load .b3 (Rect.unit (s := S1x112) ![0, 0] S1x112.size inb_S1x112_S1x112_0_0) h_S1x112) fun (v14090 : Vec F S1x112 .f32) =>
  .op (.load .b18 (Rect.unit (s := S112x128) ![0, 0] S112x128.size inb_S112x128_S112x128_0_0) h_S112x128) fun (v14100 : Vec F S112x128 .f32) =>
  .op (.store .b18 (Rect.unit (s := S112x128) ![0, 0] S112x128.size inb_S112x128_S112x128_0_0) (initAV3 v14090) (fun M => View.stores_vmem_bits_univ h_S112x128 rfl)) fun _ =>
  .op (.load .b6 (Rect.unit (s := S1x112) ![0, 0] S1x112.size inb_S1x112_S1x112_0_0) h_S1x112) fun (v14104 : Vec F S1x112 .f32) =>
  .op (.load .b19 (Rect.unit (s := S112x128) ![0, 0] S112x128.size inb_S112x128_S112x128_0_0) h_S112x128) fun (v14114 : Vec F S112x128 .f32) =>
  .op (.store .b19 (Rect.unit (s := S112x128) ![0, 0] S112x128.size inb_S112x128_S112x128_0_0) (initAV4 v14104) (fun M => View.stores_vmem_bits_univ h_S112x128 rfl)) fun _ =>
  .op (.load .b30 (Rect.unit (s := S128x256) ![0, 0] S128x256.size inb_S128x256_S128x256_0_0) h_S128x256) fun (v14118 : Vec F S128x256 .f32) =>
  .op (.store .b30 (Rect.unit (s := S128x256) ![0, 0] S128x256.size inb_S128x256_S128x256_0_0) (initAV5) (fun M => View.stores_vmem_bits_univ h_S128x256 rfl)) fun _ =>
  .ret ⟨⟩

def initHV (v14132 : Vec F S64x1 .f32) (v14136 : Vec F S64x128 .fp8e4m3) : FVec F S64x128 .f32 :=
  have v14137 : FVec F S64x128 .fp8e4m3 := shapeCast S64x128 v14136 shapeCasts_S64x128_S64x128
  have v14138 : FVec F S64x128 .f32 := extf .f32 v14137 bitsLt_fp8e4m3_f32
  have v14133 : FVec F S64x1 .f32 := shapeCast S64x1 v14132 shapeCasts_S64x1_S64x1
  have v14134 : FVec F S64x1 .f32 := shapeCast S64x1 v14133 shapeCasts_S64x1_S64x1
  have v14135 : FVec F S64x128 .f32 := broadcastTo S64x128 v14134 broadcasts_S64x1_S64x128
  have v14139 : FVec F S64x128 .f32 := mulf v14138 v14135
  shapeCast S64x128 v14139 shapeCasts_S64x128_S64x128

/-- One head's carried state: its codes by its scales. -/
def initH (h : ℕ) (hh : h < 112) : P F PUnit :=
  .op (.load .b8 (Rect.unit (s := S64x112) ![0, h] S64x1.size (inb2 (by omega) (by omega))) h_S64x1) fun (v14132 : Vec F S64x1 .f32) =>
  .op (.load .b7 (Rect.unit (s := S7168x128) ![h * 64, 0] S64x128.size (inb2 (by omega) (by omega))) h_S64x128) fun (v14136 : Vec F S64x128 .fp8e4m3) =>
  .op (.load .b22 (Rect.unit (s := S7168x128) ![h * 64, 0] S64x128.size (inb2 (by omega) (by omega))) h_S64x128) fun (v14140 : Vec F S64x128 .f32) =>
  .op (.store .b22 (Rect.unit (s := S7168x128) ![h * 64, 0] S64x128.size (inb2 (by omega) (by omega))) (initHV v14132 v14136) (fun M => View.stores_vmem_bits_univ h_S64x128 rfl)) fun _ =>
  .ret ⟨⟩

def quantBC1 (v3 : Vec F S256x8x128 .bf16) : IVec S8x128 32 :=
  have v4 : FVec F S256x8x128 .bf16 := shapeCast S256x8x128 v3 shapeCasts_S256x8x128_S256x8x128
  have v5 : FVec F S2048x128 .bf16 := shapeCast S2048x128 v4 shapeCasts_S256x8x128_S2048x128
  have v6 : FVec F S2048x128 .bf16 := absf v5
  have v7 : FVec F S256x8x128 .bf16 := shapeCast S256x8x128 v6 shapeCasts_S2048x128_S256x8x128
  have v8 : FVec F S8x128 .bf16 := multiReduction .maximumf [0] S8x128 v7 0xFF80#16 reduces_S256x8x128_S8x128 (.inr rfl) rfl
  have v9 : FVec F S8x128 .f32 := extf .f32 v8 bitsLt_bf16_f32
  have v10 : FVec F S8 .f32 := multiReduction .maximumf [1] S8 v9 0xFF800000#32 reduces_S8x128_S8 (.inl rfl) rfl
  have v11 : FVec F S8x1 .f32 := shapeCast S8x1 v10 shapeCasts_S8_S8x1
  have v12 : FVec F S8x1 .f32 := shapeCast S8x1 v11 shapeCasts_S8x1_S8x1
  have v13 : FVec F S8x128 .f32 := broadcastTo S8x128 v12 broadcasts_S8x1_S8x128
  have cst_4 : F .f32 := Scalar.ofBits .f32 0x3B124925#32
  have v14 : FVec F S8x128 .f32 := broadcast S8x128 cst_4
  have v15 : FVec F S8x128 .f32 := mulf v13 v14
  have cst_6 : F .f32 := Scalar.ofBits .f32 0x00000000#32
  have v23 : FVec F S8x128 .f32 := broadcast S8x128 cst_6
  have v24 : IVec S8x128 1 := cmpf .oeq v15 v23
  have c0_i32_7 : BitVec 32 := 0#32
  have v25 : IVec S8x128 32 := broadcast S8x128 c0_i32_7
  have v16 : FVec F S8x128 .f32 := log v15
  have cst_5 : F .f32 := Named.named κ "log2e" 0x3FB8AA3B#32
  have v17 : FVec F S8x128 .f32 := broadcast S8x128 cst_5
  have v18 : FVec F S8x128 .f32 := mulf v16 v17
  have v19 : FVec F S8x128 .f32 := floor v18
  have v20 : IVec S8x128 32 := fptosi 32 v19
  have c1_i32 : BitVec 32 := 1#32
  have v21 : IVec S8x128 32 := broadcast S8x128 c1_i32
  have v22 : IVec S8x128 32 := addi v20 v21
  select v24 v25 v22

def quantBV1 (v26 : IVec S8x128 32) : FVec F S1x1x8 .f32 :=
  have v32 : IVec S8x128 32 := iota .tc S8x128 32 [1] iota_S8x128_d1_w32
  have v33 : IVec S8x128 32 := iota .tc S8x128 32 [0] iota_S8x128_d0_w32
  have v34 : IVec S8x128 1 := cmpi .eq v32 v33
  have c127_i32 : BitVec 32 := 127#32
  have v27 : IVec S8x128 32 := broadcast S8x128 c127_i32
  have v28 : IVec S8x128 32 := addi v26 v27
  have c23_i32 : BitVec 32 := 23#32
  have v29 : IVec S8x128 32 := broadcast S8x128 c23_i32
  have v30 : IVec S8x128 32 := shli v28 v29
  have v31 : FVec F S8x128 .f32 := bitcastToFloat .f32 v30
  have cst_8 : F .f32 := Scalar.ofBits .f32 0x00000000#32
  have v35 : FVec F S8x128 .f32 := broadcast S8x128 cst_8
  have v36 : FVec F S8x128 .f32 := select v34 v31 v35
  have v37 : FVec F S128 .f32 := multiReduction .add [0] S128 v36 0x00000000#32 reduces_S8x128_S128 (.inl rfl) rfl
  have v38 : FVec F S1x128 .f32 := shapeCast S1x128 v37 shapeCasts_S128_S1x128
  have v39 : FVec F S1x8 .f32 := extractStridedSlice S1x8 ![0, 0] v38 slices_S1x128_o0_0_S1x8
  shapeCast S1x1x8 v39 shapeCasts_S1x8_S1x1x8

def quantBV2 (v3 : Vec F S256x8x128 .bf16) (v26 : IVec S8x128 32) : FVec F S256x8x128 .fp8e4m3 :=
  have cst_17 : F .bf16 := Scalar.ofBits .bf16 0x43E0#16
  have v56 : FVec F S256x8x128 .bf16 := broadcast S256x8x128 cst_17
  have cst_16 : F .bf16 := Scalar.ofBits .bf16 0xC3E0#16
  have v54 : FVec F S256x8x128 .bf16 := broadcast S256x8x128 cst_16
  have v4 : FVec F S256x8x128 .bf16 := shapeCast S256x8x128 v3 shapeCasts_S256x8x128_S256x8x128
  have c0_i32_13 : BitVec 32 := 0#32
  have v43 : IVec S8x128 32 := broadcast S8x128 c0_i32_13
  have v44 : IVec S8x128 32 := subi v43 v26
  have c127_i32_14 : BitVec 32 := 127#32
  have v45 : IVec S8x128 32 := broadcast S8x128 c127_i32_14
  have v46 : IVec S8x128 32 := addi v44 v45
  have c23_i32_15 : BitVec 32 := 23#32
  have v47 : IVec S8x128 32 := broadcast S8x128 c23_i32_15
  have v48 : IVec S8x128 32 := shli v46 v47
  have v49 : FVec F S8x128 .f32 := bitcastToFloat .f32 v48
  have v50 : FVec F S8x128 .bf16 := truncf .bf16 v49 bitsLt_bf16_f32
  have v51 : FVec F S1x8x128 .bf16 := shapeCast S1x8x128 v50 shapeCasts_S8x128_S1x8x128
  have v52 : FVec F S256x8x128 .bf16 := broadcastTo S256x8x128 v51 broadcasts_S1x8x128_S256x8x128
  have v53 : FVec F S256x8x128 .bf16 := mulf v4 v52
  have v55 : FVec F S256x8x128 .bf16 := maximumf v54 v53
  have v57 : FVec F S256x8x128 .bf16 := minimumf v56 v55
  truncf .fp8e4m3 v57 bitsLt_fp8e4m3_bf16

def quantBV3 (v3 : Vec F S256x8x128 .bf16) (v26 : IVec S8x128 32) : FVec F S256x8x128 .f32 :=
  have cst_17 : F .bf16 := Scalar.ofBits .bf16 0x43E0#16
  have v56 : FVec F S256x8x128 .bf16 := broadcast S256x8x128 cst_17
  have cst_16 : F .bf16 := Scalar.ofBits .bf16 0xC3E0#16
  have v54 : FVec F S256x8x128 .bf16 := broadcast S256x8x128 cst_16
  have v4 : FVec F S256x8x128 .bf16 := shapeCast S256x8x128 v3 shapeCasts_S256x8x128_S256x8x128
  have c0_i32_13 : BitVec 32 := 0#32
  have v43 : IVec S8x128 32 := broadcast S8x128 c0_i32_13
  have v44 : IVec S8x128 32 := subi v43 v26
  have c127_i32_14 : BitVec 32 := 127#32
  have v45 : IVec S8x128 32 := broadcast S8x128 c127_i32_14
  have v46 : IVec S8x128 32 := addi v44 v45
  have c23_i32_15 : BitVec 32 := 23#32
  have v47 : IVec S8x128 32 := broadcast S8x128 c23_i32_15
  have v48 : IVec S8x128 32 := shli v46 v47
  have v49 : FVec F S8x128 .f32 := bitcastToFloat .f32 v48
  have v50 : FVec F S8x128 .bf16 := truncf .bf16 v49 bitsLt_bf16_f32
  have v51 : FVec F S1x8x128 .bf16 := shapeCast S1x8x128 v50 shapeCasts_S8x128_S1x8x128
  have v52 : FVec F S256x8x128 .bf16 := broadcastTo S256x8x128 v51 broadcasts_S1x8x128_S256x8x128
  have v53 : FVec F S256x8x128 .bf16 := mulf v4 v52
  have v55 : FVec F S256x8x128 .bf16 := maximumf v54 v53
  have v57 : FVec F S256x8x128 .bf16 := minimumf v56 v55
  have v58 : FVec F S256x8x128 .fp8e4m3 := truncf .fp8e4m3 v57 bitsLt_fp8e4m3_bf16
  have v60 : FVec F S256x8x128 .f32 := extf .f32 v58 bitsLt_fp8e4m3_f32
  shapeCast S256x8x128 v60 shapeCasts_S256x8x128_S256x8x128

/-- The first factor: the exponents of its eight groups, its codes and its scale. -/
def quantB  : P F (IVec S8x128 32) :=
  .op (.load .b4 (Rect.unit (s := S256x8x128) ![0, 0, 0] S256x8x128.size inb_S256x8x128_S256x8x128_0_0_0) h_S256x8x128) fun (v3 : Vec F S256x8x128 .bf16) =>
  have v26 : IVec S8x128 32 := quantBC1 v3
  .op (.load .b13 (Rect.unit (s := S1x1x8) ![0, 0, 0] S1x1x8.size inb_S1x1x8_S1x1x8_0_0_0) h_S1x1x8) fun (v40 : Vec F S1x1x8 .f32) =>
  .op (.store .b13 (Rect.unit (s := S1x1x8) ![0, 0, 0] S1x1x8.size inb_S1x1x8_S1x1x8_0_0_0) (quantBV1 v26) (fun M => View.stores_vmem_bits_univ h_S1x1x8 rfl)) fun _ =>
  .op (.load .b12 (Rect.unit (s := S256x8x128) ![0, 0, 0] S256x8x128.size inb_S256x8x128_S256x8x128_0_0_0) h_S256x8x128) fun (v59 : Vec F S256x8x128 .fp8e4m3) =>
  .op (.store .b12 (Rect.unit (s := S256x8x128) ![0, 0, 0] S256x8x128.size inb_S256x8x128_S256x8x128_0_0_0) (quantBV2 v3 v26) (fun M => View.stores_vmem h_S256x8x128 ((M.w .b12).storeExact_slice rfl _ packedfp8e4m3_S256x8x128_S256x8x128_0_0_0) (fun _ => rfl))) fun _ =>
  .op (.load .b23 (Rect.unit (s := S256x8x128) ![0, 0, 0] S256x8x128.size inb_S256x8x128_S256x8x128_0_0_0) h_S256x8x128) fun (v61 : Vec F S256x8x128 .f32) =>
  .op (.store .b23 (Rect.unit (s := S256x8x128) ![0, 0, 0] S256x8x128.size inb_S256x8x128_S256x8x128_0_0_0) (quantBV3 v3 v26) (fun M => View.stores_vmem_bits_univ h_S256x8x128 rfl)) fun _ =>
  .ret v26

def storeBV1 (v77 : Vec F S256x1x128 .f32) : FVec F S1x256x128 .fp8e4m3 :=
  have v78 : FVec F S256x128 .f32 := shapeCast S256x128 v77 shapeCasts_S256x1x128_S256x128
  have v79 : FVec F S256x128 .fp8e4m3 := truncf .fp8e4m3 v78 bitsLt_fp8e4m3_f32
  shapeCast S1x256x128 v79 shapeCasts_S256x128_S1x256x128

def storeBV2 (g : ℕ) (hg : g < 8) (v26 : IVec S8x128 32) : FVec F S14x128 .f32 :=
  have v83 : IVec S1x128 32 := extractStridedSlice S1x128 ![g, 0] v26 (slices2 (by omega) (by omega))
  have v84 : FVec F S1x128 .f32 := sitofp .f32 v83
  have v85 : FVec F S1x128 .f32 := shapeCast S1x128 v84 shapeCasts_S1x128_S1x128
  have v86 : FVec F S14x128 .f32 := broadcastTo S14x128 v85 broadcasts_S1x128_S14x128
  shapeCast S14x128 v86 shapeCasts_S14x128_S14x128

/-- One group of the first factor: its codes, and its exponent on every row of the group. -/
def storeB (g : ℕ) (hg : g < 8) (v26 : IVec S8x128 32) : P F PUnit :=
  .op (.load .b23 (Rect.unit (s := S256x8x128) ![0, g, 0] S256x1x128.size (inb3 (by omega) (by omega) (by omega))) h_S256x1x128) fun (v77 : Vec F S256x1x128 .f32) =>
  .op (.load .b24 (Rect.unit (s := S8x256x128) ![g, 0, 0] S1x256x128.size (inb3 (by omega) (by omega) (by omega))) h_S1x256x128) fun (v80 : Vec F S1x256x128 .fp8e4m3) =>
  .op (.store .b24 (Rect.unit (s := S8x256x128) ![g, 0, 0] S1x256x128.size (inb3 (by omega) (by omega) (by omega))) (storeBV1 v77) (fun M => View.stores_vmem h_S1x256x128 ((M.w .b24).storeExact_slice rfl _ (packed3 _ (by decide) (by decide))) (fun _ => rfl))) fun _ =>
  .op (.load .b26 (Rect.unit (s := S112x128) ![g * 14, 0] S14x128.size (inb2 (by omega) (by omega))) h_S14x128) fun (v87 : Vec F S14x128 .f32) =>
  .op (.store .b26 (Rect.unit (s := S112x128) ![g * 14, 0] S14x128.size (inb2 (by omega) (by omega))) (storeBV2 g hg v26) (fun M => View.stores_vmem_bits_univ h_S14x128 rfl)) fun _ =>
  .ret ⟨⟩

/-- The second factor: the exponents of its eight groups, its codes and its scale. -/
def quantC  : P F (IVec S8x128 32) :=
  .op (.load .b5 (Rect.unit (s := S256x8x128) ![0, 0, 0] S256x8x128.size inb_S256x8x128_S256x8x128_0_0_0) h_S256x8x128) fun (v168 : Vec F S256x8x128 .bf16) =>
  have v191 : IVec S8x128 32 := quantBC1 v168
  .op (.load .b15 (Rect.unit (s := S1x1x8) ![0, 0, 0] S1x1x8.size inb_S1x1x8_S1x1x8_0_0_0) h_S1x1x8) fun (v205 : Vec F S1x1x8 .f32) =>
  .op (.store .b15 (Rect.unit (s := S1x1x8) ![0, 0, 0] S1x1x8.size inb_S1x1x8_S1x1x8_0_0_0) (quantBV1 v191) (fun M => View.stores_vmem_bits_univ h_S1x1x8 rfl)) fun _ =>
  .op (.load .b14 (Rect.unit (s := S256x8x128) ![0, 0, 0] S256x8x128.size inb_S256x8x128_S256x8x128_0_0_0) h_S256x8x128) fun (v224 : Vec F S256x8x128 .fp8e4m3) =>
  .op (.store .b14 (Rect.unit (s := S256x8x128) ![0, 0, 0] S256x8x128.size inb_S256x8x128_S256x8x128_0_0_0) (quantBV2 v168 v191) (fun M => View.stores_vmem h_S256x8x128 ((M.w .b14).storeExact_slice rfl _ packedfp8e4m3_S256x8x128_S256x8x128_0_0_0) (fun _ => rfl))) fun _ =>
  .op (.load .b23 (Rect.unit (s := S256x8x128) ![0, 0, 0] S256x8x128.size inb_S256x8x128_S256x8x128_0_0_0) h_S256x8x128) fun (v226 : Vec F S256x8x128 .f32) =>
  .op (.store .b23 (Rect.unit (s := S256x8x128) ![0, 0, 0] S256x8x128.size inb_S256x8x128_S256x8x128_0_0_0) (quantBV3 v168 v191) (fun M => View.stores_vmem_bits_univ h_S256x8x128 rfl)) fun _ =>
  .ret v191

/-- One group of the second factor: its codes, and its exponent on every row of the group. -/
def storeC (g : ℕ) (hg : g < 8) (v191 : IVec S8x128 32) : P F PUnit :=
  .op (.load .b23 (Rect.unit (s := S256x8x128) ![0, g, 0] S256x1x128.size (inb3 (by omega) (by omega) (by omega))) h_S256x1x128) fun (v242 : Vec F S256x1x128 .f32) =>
  .op (.load .b25 (Rect.unit (s := S8x256x128) ![g, 0, 0] S1x256x128.size (inb3 (by omega) (by omega) (by omega))) h_S1x256x128) fun (v245 : Vec F S1x256x128 .fp8e4m3) =>
  .op (.store .b25 (Rect.unit (s := S8x256x128) ![g, 0, 0] S1x256x128.size (inb3 (by omega) (by omega) (by omega))) (storeBV1 v242) (fun M => View.stores_vmem h_S1x256x128 ((M.w .b25).storeExact_slice rfl _ (packed3 _ (by decide) (by decide))) (fun _ => rfl))) fun _ =>
  .op (.load .b27 (Rect.unit (s := S112x128) ![g * 14, 0] S14x128.size (inb2 (by omega) (by omega))) h_S14x128) fun (v252 : Vec F S14x128 .f32) =>
  .op (.store .b27 (Rect.unit (s := S112x128) ![g * 14, 0] S14x128.size (inb2 (by omega) (by omega))) (storeBV2 g hg v191) (fun M => View.stores_vmem_bits_univ h_S14x128 rfl)) fun _ =>
  .ret ⟨⟩

def prepV1 (v333 : Vec F S112x1 .f32) (v334 : Vec F S112x256 .f32) (v346 : Vec F S256x256 .bf16) : FVec F S112x256 .f32 :=
  have v336 : FVec F S112x256 .f32 := broadcastTo S112x256 v333 broadcasts_S112x1_S112x256
  have v335 : FVec F S112x256 .f32 := shapeCast S112x256 v334 shapeCasts_S112x256_S112x256
  have v337 : FVec F S112x256 .f32 := mulf v336 v335
  have v338 : FVec F S112x256 .bf16 := truncf .bf16 v337 bitsLt_bf16_f32
  have v339 : FVec F S112x256 .f32 := v337
  have v340 : FVec F S112x256 .f32 := subf v337 v339
  have v341 : FVec F S112x256 .bf16 := truncf .bf16 v340 bitsLt_bf16_f32
  have v342 : FVec F S112x256 .f32 := v340
  have v343 : FVec F S112x256 .f32 := subf v340 v342
  have v344 : FVec F S112x256 .bf16 := truncf .bf16 v343 bitsLt_bf16_f32
  have v345 : FVec F S336x256 .bf16 := concatenate S336x256 0 [⟨S112x256, v338⟩, ⟨S112x256, v341⟩, ⟨S112x256, v344⟩] concatenates_S112x256_S112x256_S112x256_S336x256_d0
  have cst_172 : FVec F S336x256 .f32 := constant S336x256 .f32 0x00000000#32
  have v347 : FVec F S336x256 .f32 := matmul dot_S336x256_S256x256_S336x256_1_0_0_1_n_n none v345 v346 cst_172
  have v348 : FVec F S112x256 .f32 := extractStridedSlice S112x256 ![0, 0] v347 slices_S336x256_o0_0_S112x256
  have v349 : FVec F S112x256 .f32 := extractStridedSlice S112x256 ![112, 0] v347 slices_S336x256_o112_0_S112x256
  have v350 : FVec F S112x256 .f32 := addf v348 v349
  have v351 : FVec F S112x256 .f32 := extractStridedSlice S112x256 ![224, 0] v347 slices_S336x256_o224_0_S112x256
  have v352 : FVec F S112x256 .f32 := addf v350 v351
  have cst_173 : F .f32 := Named.named κ "log2e" 0x3FB8AA3B#32
  have v353 : FVec F S112x256 .f32 := broadcast S112x256 cst_173
  have v354 : FVec F S112x256 .f32 := mulf v352 v353
  shapeCast S112x256 v354 shapeCasts_S112x256_S112x256

def prepV2 (v333 : Vec F S112x1 .f32) (v334 : Vec F S112x256 .f32) (v346 : Vec F S256x256 .bf16) (v355 : Vec F S112x256 .f32) (v357 : Vec F S112x1 .f32) (v358 : Vec F S112x1 .f32) : FVec F S112x256 .f32 :=
  have v336 : FVec F S112x256 .f32 := broadcastTo S112x256 v333 broadcasts_S112x1_S112x256
  have v335 : FVec F S112x256 .f32 := shapeCast S112x256 v334 shapeCasts_S112x256_S112x256
  have v337 : FVec F S112x256 .f32 := mulf v336 v335
  have v338 : FVec F S112x256 .bf16 := truncf .bf16 v337 bitsLt_bf16_f32
  have v339 : FVec F S112x256 .f32 := v337
  have v340 : FVec F S112x256 .f32 := subf v337 v339
  have v341 : FVec F S112x256 .bf16 := truncf .bf16 v340 bitsLt_bf16_f32
  have v342 : FVec F S112x256 .f32 := v340
  have v343 : FVec F S112x256 .f32 := subf v340 v342
  have v344 : FVec F S112x256 .bf16 := truncf .bf16 v343 bitsLt_bf16_f32
  have v345 : FVec F S336x256 .bf16 := concatenate S336x256 0 [⟨S112x256, v338⟩, ⟨S112x256, v341⟩, ⟨S112x256, v344⟩] concatenates_S112x256_S112x256_S112x256_S336x256_d0
  have cst_172 : FVec F S336x256 .f32 := constant S336x256 .f32 0x00000000#32
  have v347 : FVec F S336x256 .f32 := matmul dot_S336x256_S256x256_S336x256_1_0_0_1_n_n none v345 v346 cst_172
  have v348 : FVec F S112x256 .f32 := extractStridedSlice S112x256 ![0, 0] v347 slices_S336x256_o0_0_S112x256
  have v349 : FVec F S112x256 .f32 := extractStridedSlice S112x256 ![112, 0] v347 slices_S336x256_o112_0_S112x256
  have v350 : FVec F S112x256 .f32 := addf v348 v349
  have v351 : FVec F S112x256 .f32 := extractStridedSlice S112x256 ![224, 0] v347 slices_S336x256_o224_0_S112x256
  have v352 : FVec F S112x256 .f32 := addf v350 v351
  have cst_173 : F .f32 := Named.named κ "log2e" 0x3FB8AA3B#32
  have v353 : FVec F S112x256 .f32 := broadcast S112x256 cst_173
  have v354 : FVec F S112x256 .f32 := mulf v352 v353
  have v356 : FVec F S112x256 .f32 := shapeCast S112x256 v355 shapeCasts_S112x256_S112x256
  have v363 : FVec F S112x256 .f32 := log v356
  have cst_182 : F .f32 := Named.named κ "log2e" 0x3FB8AA3B#32
  have v364 : FVec F S112x256 .f32 := broadcast S112x256 cst_182
  have v365 : FVec F S112x256 .f32 := mulf v363 v364
  have v366 : FVec F S112x1 .f32 := addf v357 v358
  have v367 : FVec F S112x256 .f32 := broadcastTo S112x256 v366 broadcasts_S112x1_S112x256
  have v368 : FVec F S112x256 .f32 := addf v365 v367
  have v369 : FVec F S112x256 .f32 := subf v354 v368
  shapeCast S112x256 v369 shapeCasts_S112x256_S112x256

def prepV3 (v333 : Vec F S112x1 .f32) (v334 : Vec F S112x256 .f32) (v346 : Vec F S256x256 .bf16) (v358 : Vec F S112x1 .f32) : FVec F S112x256 .f32 :=
  have v336 : FVec F S112x256 .f32 := broadcastTo S112x256 v333 broadcasts_S112x1_S112x256
  have v335 : FVec F S112x256 .f32 := shapeCast S112x256 v334 shapeCasts_S112x256_S112x256
  have v337 : FVec F S112x256 .f32 := mulf v336 v335
  have v338 : FVec F S112x256 .bf16 := truncf .bf16 v337 bitsLt_bf16_f32
  have v339 : FVec F S112x256 .f32 := v337
  have v340 : FVec F S112x256 .f32 := subf v337 v339
  have v341 : FVec F S112x256 .bf16 := truncf .bf16 v340 bitsLt_bf16_f32
  have v342 : FVec F S112x256 .f32 := v340
  have v343 : FVec F S112x256 .f32 := subf v340 v342
  have v344 : FVec F S112x256 .bf16 := truncf .bf16 v343 bitsLt_bf16_f32
  have v345 : FVec F S336x256 .bf16 := concatenate S336x256 0 [⟨S112x256, v338⟩, ⟨S112x256, v341⟩, ⟨S112x256, v344⟩] concatenates_S112x256_S112x256_S112x256_S336x256_d0
  have cst_172 : FVec F S336x256 .f32 := constant S336x256 .f32 0x00000000#32
  have v347 : FVec F S336x256 .f32 := matmul dot_S336x256_S256x256_S336x256_1_0_0_1_n_n none v345 v346 cst_172
  have v348 : FVec F S112x256 .f32 := extractStridedSlice S112x256 ![0, 0] v347 slices_S336x256_o0_0_S112x256
  have v349 : FVec F S112x256 .f32 := extractStridedSlice S112x256 ![112, 0] v347 slices_S336x256_o112_0_S112x256
  have v350 : FVec F S112x256 .f32 := addf v348 v349
  have v351 : FVec F S112x256 .f32 := extractStridedSlice S112x256 ![224, 0] v347 slices_S336x256_o224_0_S112x256
  have v352 : FVec F S112x256 .f32 := addf v350 v351
  have cst_173 : F .f32 := Named.named κ "log2e" 0x3FB8AA3B#32
  have v353 : FVec F S112x256 .f32 := broadcast S112x256 cst_173
  have v354 : FVec F S112x256 .f32 := mulf v352 v353
  have v373 : FVec F S112x256 .f32 := broadcastTo S112x256 v358 broadcasts_S112x1_S112x256
  have v374 : FVec F S112x256 .f32 := addf v354 v373
  have v375 : FVec F S112x256 .f32 := exp2 v374
  shapeCast S112x256 v375 shapeCasts_S112x256_S112x256

def prepV4 (v333 : Vec F S112x1 .f32) (v334 : Vec F S112x256 .f32) (v346 : Vec F S256x256 .bf16) (v355 : Vec F S112x256 .f32) (v357 : Vec F S112x1 .f32) : FVec F S112x256 .f32 :=
  have v336 : FVec F S112x256 .f32 := broadcastTo S112x256 v333 broadcasts_S112x1_S112x256
  have v335 : FVec F S112x256 .f32 := shapeCast S112x256 v334 shapeCasts_S112x256_S112x256
  have v337 : FVec F S112x256 .f32 := mulf v336 v335
  have v338 : FVec F S112x256 .bf16 := truncf .bf16 v337 bitsLt_bf16_f32
  have v339 : FVec F S112x256 .f32 := v337
  have v340 : FVec F S112x256 .f32 := subf v337 v339
  have v341 : FVec F S112x256 .bf16 := truncf .bf16 v340 bitsLt_bf16_f32
  have v342 : FVec F S112x256 .f32 := v340
  have v343 : FVec F S112x256 .f32 := subf v340 v342
  have v344 : FVec F S112x256 .bf16 := truncf .bf16 v343 bitsLt_bf16_f32
  have v345 : FVec F S336x256 .bf16 := concatenate S336x256 0 [⟨S112x256, v338⟩, ⟨S112x256, v341⟩, ⟨S112x256, v344⟩] concatenates_S112x256_S112x256_S112x256_S336x256_d0
  have cst_172 : FVec F S336x256 .f32 := constant S336x256 .f32 0x00000000#32
  have v347 : FVec F S336x256 .f32 := matmul dot_S336x256_S256x256_S336x256_1_0_0_1_n_n none v345 v346 cst_172
  have v348 : FVec F S112x256 .f32 := extractStridedSlice S112x256 ![0, 0] v347 slices_S336x256_o0_0_S112x256
  have v349 : FVec F S112x256 .f32 := extractStridedSlice S112x256 ![112, 0] v347 slices_S336x256_o112_0_S112x256
  have v350 : FVec F S112x256 .f32 := addf v348 v349
  have v351 : FVec F S112x256 .f32 := extractStridedSlice S112x256 ![224, 0] v347 slices_S336x256_o224_0_S112x256
  have v352 : FVec F S112x256 .f32 := addf v350 v351
  have cst_173 : F .f32 := Named.named κ "log2e" 0x3FB8AA3B#32
  have v353 : FVec F S112x256 .f32 := broadcast S112x256 cst_173
  have v354 : FVec F S112x256 .f32 := mulf v352 v353
  have v359 : FVec F S112x1 .f32 := extractStridedSlice S112x1 ![0, 255] v354 slices_S112x256_o0_255_S112x1
  have v379 : FVec F S112x256 .f32 := broadcastTo S112x256 v359 broadcasts_S112x1_S112x256
  have v380 : FVec F S112x256 .f32 := subf v379 v354
  have v381 : FVec F S112x256 .f32 := exp2 v380
  have v356 : FVec F S112x256 .f32 := shapeCast S112x256 v355 shapeCasts_S112x256_S112x256
  have v382 : FVec F S112x256 .f32 := mulf v381 v356
  have v384 : FVec F S112x256 .f32 := v382
  have v385 : IVec S112x1 32 := fptosi 32 v357
  have c127_i32_187 : BitVec 32 := 127#32
  have v386 : IVec S112x1 32 := broadcast S112x1 c127_i32_187
  have v387 : IVec S112x1 32 := addi v385 v386
  have c23_i32_188 : BitVec 32 := 23#32
  have v388 : IVec S112x1 32 := broadcast S112x1 c23_i32_188
  have v389 : IVec S112x1 32 := shli v387 v388
  have v390 : FVec F S112x1 .f32 := bitcastToFloat .f32 v389
  have v391 : FVec F S112x256 .f32 := broadcastTo S112x256 v390 broadcasts_S112x1_S112x256
  have v392 : FVec F S112x256 .f32 := mulf v384 v391
  shapeCast S112x256 v392 shapeCasts_S112x256_S112x256

def prepV5 (v333 : Vec F S112x1 .f32) (v334 : Vec F S112x256 .f32) (v346 : Vec F S256x256 .bf16) : FVec F S112x128 .f32 :=
  have v336 : FVec F S112x256 .f32 := broadcastTo S112x256 v333 broadcasts_S112x1_S112x256
  have v335 : FVec F S112x256 .f32 := shapeCast S112x256 v334 shapeCasts_S112x256_S112x256
  have v337 : FVec F S112x256 .f32 := mulf v336 v335
  have v338 : FVec F S112x256 .bf16 := truncf .bf16 v337 bitsLt_bf16_f32
  have v339 : FVec F S112x256 .f32 := v337
  have v340 : FVec F S112x256 .f32 := subf v337 v339
  have v341 : FVec F S112x256 .bf16 := truncf .bf16 v340 bitsLt_bf16_f32
  have v342 : FVec F S112x256 .f32 := v340
  have v343 : FVec F S112x256 .f32 := subf v340 v342
  have v344 : FVec F S112x256 .bf16 := truncf .bf16 v343 bitsLt_bf16_f32
  have v345 : FVec F S336x256 .bf16 := concatenate S336x256 0 [⟨S112x256, v338⟩, ⟨S112x256, v341⟩, ⟨S112x256, v344⟩] concatenates_S112x256_S112x256_S112x256_S336x256_d0
  have cst_172 : FVec F S336x256 .f32 := constant S336x256 .f32 0x00000000#32
  have v347 : FVec F S336x256 .f32 := matmul dot_S336x256_S256x256_S336x256_1_0_0_1_n_n none v345 v346 cst_172
  have v348 : FVec F S112x256 .f32 := extractStridedSlice S112x256 ![0, 0] v347 slices_S336x256_o0_0_S112x256
  have v349 : FVec F S112x256 .f32 := extractStridedSlice S112x256 ![112, 0] v347 slices_S336x256_o112_0_S112x256
  have v350 : FVec F S112x256 .f32 := addf v348 v349
  have v351 : FVec F S112x256 .f32 := extractStridedSlice S112x256 ![224, 0] v347 slices_S336x256_o224_0_S112x256
  have v352 : FVec F S112x256 .f32 := addf v350 v351
  have cst_173 : F .f32 := Named.named κ "log2e" 0x3FB8AA3B#32
  have v353 : FVec F S112x256 .f32 := broadcast S112x256 cst_173
  have v354 : FVec F S112x256 .f32 := mulf v352 v353
  have v359 : FVec F S112x1 .f32 := extractStridedSlice S112x1 ![0, 255] v354 slices_S112x256_o0_255_S112x1
  have v396 : FVec F S112x1 .f32 := exp2 v359
  have v397 : FVec F S112x1 .f32 := shapeCast S112x1 v396 shapeCasts_S112x1_S112x1
  have v398 : FVec F S112x128 .f32 := broadcastTo S112x128 v397 broadcasts_S112x1_S112x128
  shapeCast S112x128 v398 shapeCasts_S112x128_S112x128

def prepV6 (v402 : Vec F S128x256 .f32) : FVec F S256x128 .f32 :=
  have v403 : FVec F S256x128 .f32 := transpose S256x128 [1, 0] v402 transposes_S128x256_p1_0_S256x128
  shapeCast S256x128 v403 shapeCasts_S256x128_S256x128

/-- The scan of every head: running sums and the rows made of them. -/
def prep  : P F PUnit :=
  .op (.load .b18 (Rect.unit (s := S112x128) ![0, 0] S112x1.size inb_S112x128_S112x1_0_0) h_S112x1) fun (v333 : Vec F S112x1 .f32) =>
  .op (.load .b2 (Rect.unit (s := S112x256) ![0, 0] S112x256.size inb_S112x256_S112x256_0_0) h_S112x256) fun (v334 : Vec F S112x256 .f32) =>
  .op (.load .b20 (Rect.unit (s := S256x256) ![0, 0] S256x256.size inb_S256x256_S256x256_0_0) h_S256x256) fun (v346 : Vec F S256x256 .bf16) =>
  .op (.load .b2 (Rect.unit (s := S112x256) ![0, 0] S112x256.size inb_S112x256_S112x256_0_0) h_S112x256) fun (v355 : Vec F S112x256 .f32) =>
  .op (.load .b26 (Rect.unit (s := S112x128) ![0, 0] S112x1.size inb_S112x128_S112x1_0_0) h_S112x1) fun (v357 : Vec F S112x1 .f32) =>
  .op (.load .b27 (Rect.unit (s := S112x128) ![0, 0] S112x1.size inb_S112x128_S112x1_0_0) h_S112x1) fun (v358 : Vec F S112x1 .f32) =>
  .op (.load .b29 (Rect.unit (s := S112x256) ![0, 0] S112x256.size inb_S112x256_S112x256_0_0) h_S112x256) fun (v360 : Vec F S112x256 .f32) =>
  .op (.store .b29 (Rect.unit (s := S112x256) ![0, 0] S112x256.size inb_S112x256_S112x256_0_0) (prepV1 v333 v334 v346) (fun M => View.stores_vmem_bits_univ h_S112x256 rfl)) fun _ =>
  .op (.load .b30 (Rect.unit (s := S128x256) ![0, 0] S112x256.size inb_S128x256_S112x256_0_0) h_S112x256) fun (v370 : Vec F S112x256 .f32) =>
  .op (.store .b30 (Rect.unit (s := S128x256) ![0, 0] S112x256.size inb_S128x256_S112x256_0_0) (prepV2 v333 v334 v346 v355 v357 v358) (fun M => View.stores_vmem_bits_univ h_S112x256 rfl)) fun _ =>
  .op (.load .b32 (Rect.unit (s := S112x256) ![0, 0] S112x256.size inb_S112x256_S112x256_0_0) h_S112x256) fun (v376 : Vec F S112x256 .f32) =>
  .op (.store .b32 (Rect.unit (s := S112x256) ![0, 0] S112x256.size inb_S112x256_S112x256_0_0) (prepV3 v333 v334 v346 v358) (fun M => View.stores_vmem_bits_univ h_S112x256 rfl)) fun _ =>
  .op (.load .b33 (Rect.unit (s := S112x256) ![0, 0] S112x256.size inb_S112x256_S112x256_0_0) h_S112x256) fun (v393 : Vec F S112x256 .f32) =>
  .op (.store .b33 (Rect.unit (s := S112x256) ![0, 0] S112x256.size inb_S112x256_S112x256_0_0) (prepV4 v333 v334 v346 v355 v357) (fun M => View.stores_vmem_bits_univ h_S112x256 rfl)) fun _ =>
  .op (.load .b34 (Rect.unit (s := S112x128) ![0, 0] S112x128.size inb_S112x128_S112x128_0_0) h_S112x128) fun (v399 : Vec F S112x128 .f32) =>
  .op (.store .b34 (Rect.unit (s := S112x128) ![0, 0] S112x128.size inb_S112x128_S112x128_0_0) (prepV5 v333 v334 v346) (fun M => View.stores_vmem_bits_univ h_S112x128 rfl)) fun _ =>
  .op (.load .b30 (Rect.unit (s := S128x256) ![0, 0] S128x256.size inb_S128x256_S128x256_0_0) h_S128x256) fun (v402 : Vec F S128x256 .f32) =>
  .op (.load .b31 (Rect.unit (s := S256x128) ![0, 0] S256x128.size inb_S256x128_S256x128_0_0) h_S256x128) fun (v404 : Vec F S256x128 .f32) =>
  .op (.store .b31 (Rect.unit (s := S256x128) ![0, 0] S256x128.size inb_S256x128_S256x128_0_0) (prepV6 v402) (fun M => View.stores_vmem_bits_univ h_S256x128 rfl)) fun _ =>
  .ret ⟨⟩

def amaxV (v751 : Vec F S64x256 .bf16) : FVec F S1x256 .f32 :=
  have v752 : FVec F S64x256 .bf16 := shapeCast S64x256 v751 shapeCasts_S64x256_S64x256
  have v753 : FVec F S64x256 .bf16 := absf v752
  have v754 : FVec F S16x256 .bf16 := extractStridedSlice S16x256 ![0, 0] v753 slices_S64x256_o0_0_S16x256
  have v755 : FVec F S16x256 .bf16 := extractStridedSlice S16x256 ![16, 0] v753 slices_S64x256_o16_0_S16x256
  have v756 : FVec F S16x256 .bf16 := maximumf v754 v755
  have v757 : FVec F S16x256 .bf16 := extractStridedSlice S16x256 ![32, 0] v753 slices_S64x256_o32_0_S16x256
  have v758 : FVec F S16x256 .bf16 := extractStridedSlice S16x256 ![48, 0] v753 slices_S64x256_o48_0_S16x256
  have v759 : FVec F S16x256 .bf16 := maximumf v757 v758
  have v760 : FVec F S16x256 .bf16 := maximumf v756 v759
  have v761_lo : FVec F S8x256 .bf16 := rowsOfParity 0 S8x256 v760 bitcasts_S16x256_w16_S8x256_w32
  have v764 : FVec F S8x256 .f32 := extf .f32 v761_lo
  have v761_hi : FVec F S8x256 .bf16 := rowsOfParity 1 S8x256 v760 bitcasts_S16x256_w16_S8x256_w32
  have v767 : FVec F S8x256 .f32 := extf .f32 v761_hi
  have v768 : FVec F S8x256 .f32 := maximumf v764 v767
  have v769 : FVec F S256 .f32 := multiReduction .maximumf [0] S256 v768 0xFF800000#32 reduces_S8x256_S256 (.inl rfl) rfl
  have v770 : FVec F S1x256 .f32 := shapeCast S1x256 v769 shapeCasts_S256_S1x256
  shapeCast S1x256 v770 shapeCasts_S1x256_S1x256

/-- One head's largest magnitudes. -/
def amax (h : ℕ) (hh : h < 112) : P F PUnit :=
  .op (.load .b1 (Rect.unit (s := S7168x256) ![h * 64, 0] S64x256.size (inb2 (by omega) (by omega))) h_S64x256) fun (v751 : Vec F S64x256 .bf16) =>
  .op (.load .b28 (Rect.unit (s := S112x256) ![h, 0] S1x256.size (inb2 (by omega) (by omega))) h_S1x256) fun (v771 : Vec F S1x256 .f32) =>
  .op (.store .b28 (Rect.unit (s := S112x256) ![h, 0] S1x256.size (inb2 (by omega) (by omega))) (amaxV v751) (fun M => View.stores_vmem_bits_univ h_S1x256 rfl)) fun _ =>
  .ret ⟨⟩

def expoV1 (v912 : Vec F S8x256 .f32) : FVec F S8x256 .f32 :=
  have cst_369 : F .f32 := Scalar.ofBits .f32 0x3B124925#32
  have v913 : FVec F S8x256 .f32 := broadcast S8x256 cst_369
  have v914 : FVec F S8x256 .f32 := mulf v912 v913
  have cst_372 : F .f32 := Scalar.ofBits .f32 0x00000000#32
  have v922 : FVec F S8x256 .f32 := broadcast S8x256 cst_372
  have v923 : IVec S8x256 1 := cmpf .oeq v914 v922
  have c0_i32_373 : BitVec 32 := 0#32
  have v924 : IVec S8x256 32 := broadcast S8x256 c0_i32_373
  have v915 : FVec F S8x256 .f32 := log v914
  have cst_370 : F .f32 := Named.named κ "log2e" 0x3FB8AA3B#32
  have v916 : FVec F S8x256 .f32 := broadcast S8x256 cst_370
  have v917 : FVec F S8x256 .f32 := mulf v915 v916
  have v918 : FVec F S8x256 .f32 := floor v917
  have v919 : IVec S8x256 32 := fptosi 32 v918
  have c1_i32_371 : BitVec 32 := 1#32
  have v920 : IVec S8x256 32 := broadcast S8x256 c1_i32_371
  have v921 : IVec S8x256 32 := addi v919 v920
  have v925 : IVec S8x256 32 := select v923 v924 v921
  have c127_i32_374 : BitVec 32 := 127#32
  have v926 : IVec S8x256 32 := broadcast S8x256 c127_i32_374
  have v927 : IVec S8x256 32 := addi v925 v926
  have c23_i32_375 : BitVec 32 := 23#32
  have v928 : IVec S8x256 32 := broadcast S8x256 c23_i32_375
  have v929 : IVec S8x256 32 := shli v927 v928
  bitcastToFloat .f32 v929

def expoV2 (v912 : Vec F S8x256 .f32) : FVec F S8x256 .f32 :=
  have cst_369 : F .f32 := Scalar.ofBits .f32 0x3B124925#32
  have v913 : FVec F S8x256 .f32 := broadcast S8x256 cst_369
  have v914 : FVec F S8x256 .f32 := mulf v912 v913
  have cst_372 : F .f32 := Scalar.ofBits .f32 0x00000000#32
  have v922 : FVec F S8x256 .f32 := broadcast S8x256 cst_372
  have v923 : IVec S8x256 1 := cmpf .oeq v914 v922
  have c0_i32_373 : BitVec 32 := 0#32
  have v924 : IVec S8x256 32 := broadcast S8x256 c0_i32_373
  have v915 : FVec F S8x256 .f32 := log v914
  have cst_370 : F .f32 := Named.named κ "log2e" 0x3FB8AA3B#32
  have v916 : FVec F S8x256 .f32 := broadcast S8x256 cst_370
  have v917 : FVec F S8x256 .f32 := mulf v915 v916
  have v918 : FVec F S8x256 .f32 := floor v917
  have v919 : IVec S8x256 32 := fptosi 32 v918
  have c1_i32_371 : BitVec 32 := 1#32
  have v920 : IVec S8x256 32 := broadcast S8x256 c1_i32_371
  have v921 : IVec S8x256 32 := addi v919 v920
  have v925 : IVec S8x256 32 := select v923 v924 v921
  have c127_i32_374 : BitVec 32 := 127#32
  have v926 : IVec S8x256 32 := broadcast S8x256 c127_i32_374
  have v927 : IVec S8x256 32 := addi v925 v926
  have c23_i32_375 : BitVec 32 := 23#32
  have v928 : IVec S8x256 32 := broadcast S8x256 c23_i32_375
  have v929 : IVec S8x256 32 := shli v927 v928
  have v930 : FVec F S8x256 .f32 := bitcastToFloat .f32 v929
  shapeCast S8x256 v930 shapeCasts_S8x256_S8x256

def expoV3 (v912 : Vec F S8x256 .f32) : FVec F S8x256 .f32 :=
  have c0_i32_380 : BitVec 32 := 0#32
  have v935 : IVec S8x256 32 := broadcast S8x256 c0_i32_380
  have cst_369 : F .f32 := Scalar.ofBits .f32 0x3B124925#32
  have v913 : FVec F S8x256 .f32 := broadcast S8x256 cst_369
  have v914 : FVec F S8x256 .f32 := mulf v912 v913
  have cst_372 : F .f32 := Scalar.ofBits .f32 0x00000000#32
  have v922 : FVec F S8x256 .f32 := broadcast S8x256 cst_372
  have v923 : IVec S8x256 1 := cmpf .oeq v914 v922
  have c0_i32_373 : BitVec 32 := 0#32
  have v924 : IVec S8x256 32 := broadcast S8x256 c0_i32_373
  have v915 : FVec F S8x256 .f32 := log v914
  have cst_370 : F .f32 := Named.named κ "log2e" 0x3FB8AA3B#32
  have v916 : FVec F S8x256 .f32 := broadcast S8x256 cst_370
  have v917 : FVec F S8x256 .f32 := mulf v915 v916
  have v918 : FVec F S8x256 .f32 := floor v917
  have v919 : IVec S8x256 32 := fptosi 32 v918
  have c1_i32_371 : BitVec 32 := 1#32
  have v920 : IVec S8x256 32 := broadcast S8x256 c1_i32_371
  have v921 : IVec S8x256 32 := addi v919 v920
  have v925 : IVec S8x256 32 := select v923 v924 v921
  have v936 : IVec S8x256 32 := subi v935 v925
  have c127_i32_381 : BitVec 32 := 127#32
  have v937 : IVec S8x256 32 := broadcast S8x256 c127_i32_381
  have v938 : IVec S8x256 32 := addi v936 v937
  have c23_i32_382 : BitVec 32 := 23#32
  have v939 : IVec S8x256 32 := broadcast S8x256 c23_i32_382
  have v940 : IVec S8x256 32 := shli v938 v939
  have v941 : FVec F S8x256 .f32 := bitcastToFloat .f32 v940
  shapeCast S8x256 v941 shapeCasts_S8x256_S8x256

/-- The scales of eight heads and their inverses. -/
def expo (o : ℕ) (ho : o < 14) : P F PUnit :=
  .op (.load .b28 (Rect.unit (s := S112x256) ![o * 8, 0] S8x256.size (inb2 (by omega) (by omega))) h_S8x256) fun (v912 : Vec F S8x256 .f32) =>
  .op (.load .b11 (Rect.unit (s := S112x256) ![o * 8, 0] S8x256.size (inb2 (by omega) (by omega))) h_S8x256) fun (v931 : Vec F S8x256 .f32) =>
  .op (.store .b11 (Rect.unit (s := S112x256) ![o * 8, 0] S8x256.size (inb2 (by omega) (by omega))) (expoV1 v912) (fun M => View.stores_vmem_bits_univ h_S8x256 rfl)) fun _ =>
  .op (.load .b35 (Rect.unit (s := S112x256) ![o * 8, 0] S8x256.size (inb2 (by omega) (by omega))) h_S8x256) fun (v932 : Vec F S8x256 .f32) =>
  .op (.store .b35 (Rect.unit (s := S112x256) ![o * 8, 0] S8x256.size (inb2 (by omega) (by omega))) (expoV2 v912) (fun M => View.stores_vmem_bits_univ h_S8x256 rfl)) fun _ =>
  .op (.load .b36 (Rect.unit (s := S112x256) ![o * 8, 0] S8x256.size (inb2 (by omega) (by omega))) h_S8x256) fun (v942 : Vec F S8x256 .f32) =>
  .op (.store .b36 (Rect.unit (s := S112x256) ![o * 8, 0] S8x256.size (inb2 (by omega) (by omega))) (expoV3 v912) (fun M => View.stores_vmem_bits_univ h_S8x256 rfl)) fun _ =>
  .ret ⟨⟩

def codeV (v958 : Vec F S64x256 .bf16) (v960 : Vec F S1x256 .f32) : FVec F S64x256 .fp8e4m3 :=
  have cst_398 : F .bf16 := Scalar.ofBits .bf16 0x43E0#16
  have v967 : FVec F S64x256 .bf16 := broadcast S64x256 cst_398
  have cst_397 : F .bf16 := Scalar.ofBits .bf16 0xC3E0#16
  have v965 : FVec F S64x256 .bf16 := broadcast S64x256 cst_397
  have v959 : FVec F S64x256 .bf16 := shapeCast S64x256 v958 shapeCasts_S64x256_S64x256
  have v961 : FVec F S1x256 .f32 := shapeCast S1x256 v960 shapeCasts_S1x256_S1x256
  have v962 : FVec F S64x256 .f32 := broadcastTo S64x256 v961 broadcasts_S1x256_S64x256
  have v963 : FVec F S64x256 .bf16 := truncf .bf16 v962 bitsLt_bf16_f32
  have v964 : FVec F S64x256 .bf16 := mulf v959 v963
  have v966 : FVec F S64x256 .bf16 := maximumf v965 v964
  have v968 : FVec F S64x256 .bf16 := minimumf v967 v966
  truncf .fp8e4m3 v968 bitsLt_fp8e4m3_bf16

/-- One head's codes. -/
def code (h : ℕ) (hh : h < 112) : P F PUnit :=
  .op (.load .b1 (Rect.unit (s := S7168x256) ![h * 64, 0] S64x256.size (inb2 (by omega) (by omega))) h_S64x256) fun (v958 : Vec F S64x256 .bf16) =>
  .op (.load .b36 (Rect.unit (s := S112x256) ![h, 0] S1x256.size (inb2 (by omega) (by omega))) h_S1x256) fun (v960 : Vec F S1x256 .f32) =>
  .op (.load .b10 (Rect.unit (s := S7168x256) ![h * 64, 0] S64x256.size (inb2 (by omega) (by omega))) h_S64x256) fun (v970 : Vec F S64x256 .fp8e4m3) =>
  .op (.store .b10 (Rect.unit (s := S7168x256) ![h * 64, 0] S64x256.size (inb2 (by omega) (by omega))) (codeV v958 v960) (fun M => View.stores_vmem h_S64x256 ((M.w .b10).storeExact_slice rfl _ (packed2 _ (Nat.dvd_mul_left_of_dvd (by decide) _) (by decide))) (fun _ => rfl))) fun _ =>
  .ret ⟨⟩

/-- The mask, read once. -/
def mask  : P F (Vec F S64x128 .i32) :=
  .op (.load .b21 (Rect.unit (s := S64x128) ![0, 0] S64x128.size inb_S64x128_S64x128_0_0) h_S64x128) fun (v4901 : Vec F S64x128 .i32) =>
  .ret v4901

def preV1 (v6046 : Vec F S1x256x128 .fp8e4m3) (v6048 : Vec F S1x256x128 .fp8e4m3) : FVec F S256x256 .f32 :=
  have v6047 : FVec F S256x128 .fp8e4m3 := shapeCast S256x128 v6046 shapeCasts_S1x256x128_S256x128
  have v6049 : FVec F S256x128 .fp8e4m3 := shapeCast S256x128 v6048 shapeCasts_S1x256x128_S256x128
  have cst_2570 : FVec F S256x256 .f32 := constant S256x256 .f32 0x00000000#32
  have v6050 : FVec F S256x256 .f32 := matmul dot_S256x128_S256x128_S256x256_1_1_0_0_n_n none v6047 v6049 cst_2570
  shapeCast S256x256 v6050 shapeCasts_S256x256_S256x256

def preV2 (v6054 : Vec F S896x128 .f32) : FVec F S896x128 .bf16 :=
  have v6055 : FVec F S896x128 .bf16 := truncf .bf16 v6054 bitsLt_bf16_f32
  shapeCast S896x128 v6055 shapeCasts_S896x128_S896x128

def preV3 (v6059 : Vec F S896x128 .bf16) (v6060 : Vec F S1x256x128 .fp8e4m3) : FVec F S896x256 .f32 :=
  have v6061 : FVec F S256x128 .fp8e4m3 := shapeCast S256x128 v6060 shapeCasts_S1x256x128_S256x128
  have cst_2582 : FVec F S896x256 .f32 := constant S896x256 .f32 0x00000000#32
  have v6062 : FVec F S896x256 .f32 := matmul dot_S896x128_S256x128_S896x256_1_1_0_0_n_n none v6059 v6061 cst_2582
  shapeCast S896x256 v6062 shapeCasts_S896x256_S896x256

/-- One group: the products of its two factors, its carried states rounded, and what they answer. -/
def pre (g : ℕ) (hg : g < 8) : P F PUnit :=
  .op (.load .b24 (Rect.unit (s := S8x256x128) ![g, 0, 0] S1x256x128.size (inb3 (by omega) (by omega) (by omega))) h_S1x256x128) fun (v6046 : Vec F S1x256x128 .fp8e4m3) =>
  .op (.load .b25 (Rect.unit (s := S8x256x128) ![g, 0, 0] S1x256x128.size (inb3 (by omega) (by omega) (by omega))) h_S1x256x128) fun (v6048 : Vec F S1x256x128 .fp8e4m3) =>
  .op (.load .b37 (Rect.unit (s := S256x256) ![0, 0] S256x256.size inb_S256x256_S256x256_0_0) h_S256x256) fun (v6051 : Vec F S256x256 .f32) =>
  .op (.store .b37 (Rect.unit (s := S256x256) ![0, 0] S256x256.size inb_S256x256_S256x256_0_0) (preV1 v6046 v6048) (fun M => View.stores_vmem_bits_univ h_S256x256 rfl)) fun _ =>
  .op (.load .b22 (Rect.unit (s := S7168x128) ![g * 896, 0] S896x128.size (inb2 (by omega) (by omega))) h_S896x128) fun (v6054 : Vec F S896x128 .f32) =>
  .op (.load .b39 (Rect.unit (s := S896x128) ![0, 0] S896x128.size inb_S896x128_S896x128_0_0) h_S896x128) fun (v6056 : Vec F S896x128 .bf16) =>
  .op (.store .b39 (Rect.unit (s := S896x128) ![0, 0] S896x128.size inb_S896x128_S896x128_0_0) (preV2 v6054) (fun M => View.stores_vmem h_S896x128 ((M.w .b39).storeExact_slice rfl _ packedbf16_S896x128_S896x128_0_0) (fun _ => rfl))) fun _ =>
  .op (.load .b39 (Rect.unit (s := S896x128) ![0, 0] S896x128.size inb_S896x128_S896x128_0_0) h_S896x128) fun (v6059 : Vec F S896x128 .bf16) =>
  .op (.load .b25 (Rect.unit (s := S8x256x128) ![g, 0, 0] S1x256x128.size (inb3 (by omega) (by omega) (by omega))) h_S1x256x128) fun (v6060 : Vec F S1x256x128 .fp8e4m3) =>
  .op (.load .b38 (Rect.unit (s := S896x256) ![0, 0] S896x256.size inb_S896x256_S896x256_0_0) h_S896x256) fun (v6063 : Vec F S896x256 .f32) =>
  .op (.store .b38 (Rect.unit (s := S896x256) ![0, 0] S896x256.size inb_S896x256_S896x256_0_0) (preV3 v6059 v6060) (fun M => View.stores_vmem_bits_univ h_S896x256 rfl)) fun _ =>
  .ret ⟨⟩

def headV1 (v6137 : Vec F S64x256 .fp8e4m3) (v6140 : Vec F S1x256 .f32) (v6145 : Vec F S1x256 .f32) : FVec F S64x256 .bf16 :=
  have v6138 : FVec F S64x256 .fp8e4m3 := shapeCast S64x256 v6137 shapeCasts_S64x256_S64x256
  have v6139 : FVec F S64x256 .bf16 := extf .bf16 v6138 bitsLt_fp8e4m3_bf16
  have v6141 : FVec F S1x256 .f32 := shapeCast S1x256 v6140 shapeCasts_S1x256_S1x256
  have v6142 : FVec F S64x256 .f32 := broadcastTo S64x256 v6141 broadcasts_S1x256_S64x256
  have v6143 : FVec F S64x256 .bf16 := truncf .bf16 v6142 bitsLt_bf16_f32
  have v6144 : FVec F S64x256 .bf16 := mulf v6139 v6143
  have v6146 : FVec F S1x256 .f32 := shapeCast S1x256 v6145 shapeCasts_S1x256_S1x256
  have v6147 : FVec F S64x256 .f32 := broadcastTo S64x256 v6146 broadcasts_S1x256_S64x256
  have v6148 : FVec F S64x256 .bf16 := truncf .bf16 v6147 bitsLt_bf16_f32
  have v6149 : FVec F S64x256 .bf16 := mulf v6144 v6148
  shapeCast S64x256 v6149 shapeCasts_S64x256_S64x256

def headV2 (v4901 : Vec F S64x128 .i32) (v6137 : Vec F S64x256 .fp8e4m3) (v6140 : Vec F S1x256 .f32) (v6153 : Vec F S128x1 .f32) (v6156 : Vec F S128x1 .f32) (v6159 : Vec F S1x128 .f32) (v6160 : Vec F S1x128 .f32) (v6161 : Vec F S128x128 .f32) (v6167 : Vec F S128x128 .f32) (v6173 : Vec F S128x128 .f32) (v6194 : Vec F S64x256 .f32) (v6195 : Vec F S1x256 .f32) (v6199 : Vec F S1x1 .f32) (v6200 : Vec F S64x256 .bf16) : FVec F S64x256 .bf16 :=
  have v6138 : FVec F S64x256 .fp8e4m3 := shapeCast S64x256 v6137 shapeCasts_S64x256_S64x256
  have v6139 : FVec F S64x256 .bf16 := extf .bf16 v6138 bitsLt_fp8e4m3_bf16
  have v6141 : FVec F S1x256 .f32 := shapeCast S1x256 v6140 shapeCasts_S1x256_S1x256
  have v6142 : FVec F S64x256 .f32 := broadcastTo S64x256 v6141 broadcasts_S1x256_S64x256
  have v6143 : FVec F S64x256 .bf16 := truncf .bf16 v6142 bitsLt_bf16_f32
  have v6144 : FVec F S64x256 .bf16 := mulf v6139 v6143
  have v6179 : IVec S128x128 16 := bitcast S128x128 16 v4901 bitcasts_S64x128_w32_S128x128_w16
  have c0_i16_2645 : BitVec 16 := 0#16
  have v6180 : IVec S128x128 16 := broadcast S128x128 c0_i16_2645
  have v6181 : IVec S128x128 1 := cmpi .ne v6179 v6180
  have v6162 : FVec F S128x128 .f32 := broadcastTo S128x128 v6159 broadcasts_S1x128_S128x128
  have v6154 : FVec F S128x1 .f32 := shapeCast S128x1 v6153 shapeCasts_S128x1_S128x1
  have v6155 : FVec F S128x128 .f32 := broadcastTo S128x128 v6154 broadcasts_S128x1_S128x128
  have v6163 : FVec F S128x128 .f32 := subf v6162 v6155
  have v6164 : FVec F S128x128 .f32 := exp2 v6163
  have v6165 : FVec F S128x128 .f32 := mulf v6161 v6164
  have v6166 : FVec F S128x128 .bf16 := truncf .bf16 v6165 bitsLt_bf16_f32
  have cst_2646 : F .bf16 := Scalar.ofBits .bf16 0x0000#16
  have v6182 : FVec F S128x128 .bf16 := broadcast S128x128 cst_2646
  have v6183 : FVec F S128x128 .bf16 := select v6181 v6166 v6182
  have v6168 : FVec F S128x128 .f32 := broadcastTo S128x128 v6160 broadcasts_S1x128_S128x128
  have v6169 : FVec F S128x128 .f32 := subf v6168 v6155
  have v6170 : FVec F S128x128 .f32 := exp2 v6169
  have v6171 : FVec F S128x128 .f32 := mulf v6167 v6170
  have v6172 : FVec F S128x128 .bf16 := truncf .bf16 v6171 bitsLt_bf16_f32
  have v6189 : FVec F S128x256 .bf16 := concatenate S128x256 1 [⟨S128x128, v6183⟩, ⟨S128x128, v6172⟩] concatenates_S128x128_S128x128_S128x256_d1
  have cst_2649 : F .bf16 := Scalar.ofBits .bf16 0x0000#16
  have v6190 : FVec F S128x128 .bf16 := broadcast S128x128 cst_2649
  have v6184 : IVec S128x128 16 := bitcast S128x128 16 v4901 bitcasts_S64x128_w32_S128x128_w16
  have c0_i16_2647 : BitVec 16 := 0#16
  have v6185 : IVec S128x128 16 := broadcast S128x128 c0_i16_2647
  have v6186 : IVec S128x128 1 := cmpi .ne v6184 v6185
  have v6174 : FVec F S128x128 .f32 := broadcastTo S128x128 v6160 broadcasts_S1x128_S128x128
  have v6157 : FVec F S128x1 .f32 := shapeCast S128x1 v6156 shapeCasts_S128x1_S128x1
  have v6158 : FVec F S128x128 .f32 := broadcastTo S128x128 v6157 broadcasts_S128x1_S128x128
  have v6175 : FVec F S128x128 .f32 := subf v6174 v6158
  have v6176 : FVec F S128x128 .f32 := exp2 v6175
  have v6177 : FVec F S128x128 .f32 := mulf v6173 v6176
  have v6178 : FVec F S128x128 .bf16 := truncf .bf16 v6177 bitsLt_bf16_f32
  have cst_2648 : F .bf16 := Scalar.ofBits .bf16 0x0000#16
  have v6187 : FVec F S128x128 .bf16 := broadcast S128x128 cst_2648
  have v6188 : FVec F S128x128 .bf16 := select v6186 v6178 v6187
  have v6191 : FVec F S128x256 .bf16 := concatenate S128x256 1 [⟨S128x128, v6190⟩, ⟨S128x128, v6188⟩] concatenates_S128x128_S128x128_S128x256_d1
  have v6192 : FVec F S256x256 .bf16 := concatenate S256x256 0 [⟨S128x256, v6189⟩, ⟨S128x256, v6191⟩] concatenates_S128x256_S128x256_S256x256_d0
  have cst_2650 : FVec F S64x256 .f32 := constant S64x256 .f32 0x00000000#32
  have v6193 : FVec F S64x256 .f32 := matmul dot_S64x256_S256x256_S64x256_1_0_0_1_n_n none v6144 v6192 cst_2650
  have v6196 : FVec F S64x256 .f32 := broadcastTo S64x256 v6195 broadcasts_S1x256_S64x256
  have v6197 : FVec F S64x256 .f32 := mulf v6194 v6196
  have v6198 : FVec F S64x256 .f32 := addf v6193 v6197
  have v6203 : FVec F S64x256 .f32 := broadcastTo S64x256 v6199 broadcasts_S1x1_S64x256
  have v6201 : FVec F S64x256 .bf16 := shapeCast S64x256 v6200 shapeCasts_S64x256_S64x256
  have v6202 : FVec F S64x256 .f32 := extf .f32 v6201 bitsLt_bf16_f32
  have v6204 : FVec F S64x256 .f32 := mulf v6203 v6202
  have v6205 : FVec F S64x256 .f32 := addf v6198 v6204
  truncf .bf16 v6205 bitsLt_bf16_f32

/-- One head: its result. -/
def head (g : ℕ) (hg : g < 8) (r : ℕ) (hr : r < 14) (v4901 : Vec F S64x128 .i32) : P F PUnit :=
  .op (.load .b10 (Rect.unit (s := S7168x256) ![(g * 14 + r) * 64, 0] S64x256.size (inb2 (by omega) (by omega))) h_S64x256) fun (v6137 : Vec F S64x256 .fp8e4m3) =>
  .op (.load .b35 (Rect.unit (s := S112x256) ![g * 14 + r, 0] S1x256.size (inb2 (by omega) (by omega))) h_S1x256) fun (v6140 : Vec F S1x256 .f32) =>
  .op (.load .b33 (Rect.unit (s := S112x256) ![g * 14 + r, 0] S1x256.size (inb2 (by omega) (by omega))) h_S1x256) fun (v6145 : Vec F S1x256 .f32) =>
  .op (.load .b40 (Rect.unit (s := S896x256) ![r * 64, 0] S64x256.size (inb2 (by omega) (by omega))) h_S64x256) fun (v6150 : Vec F S64x256 .bf16) =>
  .op (.store .b40 (Rect.unit (s := S896x256) ![r * 64, 0] S64x256.size (inb2 (by omega) (by omega))) (headV1 v6137 v6140 v6145) (fun M => View.stores_vmem h_S64x256 ((M.w .b40).storeExact_slice rfl _ (packed2 _ (Nat.dvd_mul_left_of_dvd (by decide) _) (by decide))) (fun _ => rfl))) fun _ =>
  .op (.load .b31 (Rect.unit (s := S256x128) ![0, g * 14 + r] S128x1.size (inb2 (by omega) (by omega))) h_S128x1) fun (v6153 : Vec F S128x1 .f32) =>
  .op (.load .b31 (Rect.unit (s := S256x128) ![128, g * 14 + r] S128x1.size (inb2 (by omega) (by omega))) h_S128x1) fun (v6156 : Vec F S128x1 .f32) =>
  .op (.load .b29 (Rect.unit (s := S112x256) ![g * 14 + r, 0] S1x128.size (inb2 (by omega) (by omega))) h_S1x128) fun (v6159 : Vec F S1x128 .f32) =>
  .op (.load .b29 (Rect.unit (s := S112x256) ![g * 14 + r, 128] S1x128.size (inb2 (by omega) (by omega))) h_S1x128) fun (v6160 : Vec F S1x128 .f32) =>
  .op (.load .b37 (Rect.unit (s := S256x256) ![0, 0] S128x128.size inb_S256x256_S128x128_0_0) h_S128x128) fun (v6161 : Vec F S128x128 .f32) =>
  .op (.load .b37 (Rect.unit (s := S256x256) ![0, 128] S128x128.size inb_S256x256_S128x128_0_128) h_S128x128) fun (v6167 : Vec F S128x128 .f32) =>
  .op (.load .b37 (Rect.unit (s := S256x256) ![128, 128] S128x128.size inb_S256x256_S128x128_128_128) h_S128x128) fun (v6173 : Vec F S128x128 .f32) =>
  .op (.load .b38 (Rect.unit (s := S896x256) ![r * 64, 0] S64x256.size (inb2 (by omega) (by omega))) h_S64x256) fun (v6194 : Vec F S64x256 .f32) =>
  .op (.load .b32 (Rect.unit (s := S112x256) ![g * 14 + r, 0] S1x256.size (inb2 (by omega) (by omega))) h_S1x256) fun (v6195 : Vec F S1x256 .f32) =>
  .op (.load .b19 (Rect.unit (s := S112x128) ![g * 14 + r, 0] S1x1.size (inb2 (by omega) (by omega))) h_S1x1) fun (v6199 : Vec F S1x1 .f32) =>
  .op (.load .b1 (Rect.unit (s := S7168x256) ![(g * 14 + r) * 64, 0] S64x256.size (inb2 (by omega) (by omega))) h_S64x256) fun (v6200 : Vec F S64x256 .bf16) =>
  .op (.load .b9 (Rect.unit (s := S7168x256) ![(g * 14 + r) * 64, 0] S64x256.size (inb2 (by omega) (by omega))) h_S64x256) fun (v6207 : Vec F S64x256 .bf16) =>
  .op (.store .b9 (Rect.unit (s := S7168x256) ![(g * 14 + r) * 64, 0] S64x256.size (inb2 (by omega) (by omega))) (headV2 v4901 v6137 v6140 v6153 v6156 v6159 v6160 v6161 v6167 v6173 v6194 v6195 v6199 v6200) (fun M => View.stores_vmem h_S64x256 ((M.w .b9).storeExact_slice rfl _ (packed2 _ (Nat.dvd_mul_left_of_dvd (by decide) _) (by decide))) (fun _ => rfl))) fun _ =>
  .ret ⟨⟩

def dotC1 (v7060 : Vec F S896x256 .bf16) (v7061 : Vec F S1x256x128 .fp8e4m3) : FVec F S896x128 .f32 :=
  have v7062 : FVec F S256x128 .fp8e4m3 := shapeCast S256x128 v7061 shapeCasts_S1x256x128_S256x128
  have cst_3122 : FVec F S896x128 .f32 := constant S896x128 .f32 0x00000000#32
  matmul dot_S896x256_S256x128_S896x128_1_0_0_1_n_n none v7060 v7062 cst_3122

/-- One group: what its chunk adds to the carried states. -/
def dot (g : ℕ) (hg : g < 8) : P F (FVec F S896x128 .f32) :=
  .op (.load .b40 (Rect.unit (s := S896x256) ![0, 0] S896x256.size inb_S896x256_S896x256_0_0) h_S896x256) fun (v7060 : Vec F S896x256 .bf16) =>
  .op (.load .b24 (Rect.unit (s := S8x256x128) ![g, 0, 0] S1x256x128.size (inb3 (by omega) (by omega) (by omega))) h_S1x256x128) fun (v7061 : Vec F S1x256x128 .fp8e4m3) =>
  have v7063 : FVec F S896x128 .f32 := dotC1 v7060 v7061
  .ret v7063

def hupdV (r : ℕ) (hr : r < 14) (v7063 : FVec F S896x128 .f32) (v7073 : Vec F S1x128 .f32) (v7074 : Vec F S64x128 .f32) : FVec F S64x128 .f32 :=
  have v7075 : FVec F S64x128 .f32 := broadcastTo S64x128 v7073 broadcasts_S1x128_S64x128
  have v7076 : FVec F S64x128 .f32 := mulf v7075 v7074
  have v7077 : FVec F S64x128 .f32 := extractStridedSlice S64x128 ![r * 64, 0] v7063 (slices2 (by omega) (by omega))
  have v7078 : FVec F S64x128 .f32 := addf v7076 v7077
  shapeCast S64x128 v7078 shapeCasts_S64x128_S64x128

/-- One head: its carried state moved on. -/
def hupd (g : ℕ) (hg : g < 8) (r : ℕ) (hr : r < 14) (v7063 : FVec F S896x128 .f32) : P F PUnit :=
  .op (.load .b34 (Rect.unit (s := S112x128) ![g * 14 + r, 0] S1x128.size (inb2 (by omega) (by omega))) h_S1x128) fun (v7073 : Vec F S1x128 .f32) =>
  .op (.load .b22 (Rect.unit (s := S7168x128) ![(g * 14 + r) * 64, 0] S64x128.size (inb2 (by omega) (by omega))) h_S64x128) fun (v7074 : Vec F S64x128 .f32) =>
  .op (.load .b22 (Rect.unit (s := S7168x128) ![(g * 14 + r) * 64, 0] S64x128.size (inb2 (by omega) (by omega))) h_S64x128) fun (v7079 : Vec F S64x128 .f32) =>
  .op (.store .b22 (Rect.unit (s := S7168x128) ![(g * 14 + r) * 64, 0] S64x128.size (inb2 (by omega) (by omega))) (hupdV r hr v7063 v7073 v7074) (fun M => View.stores_vmem_bits_univ h_S64x128 rfl)) fun _ =>
  .ret ⟨⟩

def finAC1 : IVec S64x128 32 :=
  iota .tc S64x128 32 [1] iota_S64x128_d1_w32

def finAV : FVec F S64x128 .f32 :=
  have cst_7066 : F .f32 := Scalar.ofBits .f32 0x00000000#32
  have v14058 : FVec F S64x128 .f32 := broadcast S64x128 cst_7066
  shapeCast S64x128 v14058 shapeCasts_S64x128_S64x128

/-- The final scales, cleared. -/
def finA  : P F (IVec S64x128 32) :=
  have v14057 : IVec S64x128 32 := finAC1
  .op (.load .b41 (Rect.unit (s := S64x128) ![0, 0] S64x128.size inb_S64x128_S64x128_0_0) h_S64x128) fun (v14059 : Vec F S64x128 .f32) =>
  .op (.store .b41 (Rect.unit (s := S64x128) ![0, 0] S64x128.size inb_S64x128_S64x128_0_0) (finAV) (fun M => View.stores_vmem_bits_univ h_S64x128 rfl)) fun _ =>
  .ret v14057

def finHV1 (v14107 : Vec F S64x128 .f32) : FVec F S64x128 .fp8e4m3 :=
  have cst_7103 : F .f32 := Scalar.ofBits .f32 0x43E00000#32
  have v14136 : FVec F S64x128 .f32 := broadcast S64x128 cst_7103
  have cst_7102 : F .f32 := Scalar.ofBits .f32 0xC3E00000#32
  have v14134 : FVec F S64x128 .f32 := broadcast S64x128 cst_7102
  have c0_i32_7099 : BitVec 32 := 0#32
  have v14126 : IVec S64x128 32 := broadcast S64x128 c0_i32_7099
  have v14108 : FVec F S64x128 .f32 := absf v14107
  have v14109 : FVec F S64 .f32 := multiReduction .maximumf [1] S64 v14108 0xFF800000#32 reduces_S64x128_S64 (.inl rfl) rfl
  have v14110 : FVec F S64x1 .f32 := shapeCast S64x1 v14109 shapeCasts_S64_S64x1
  have v14111 : FVec F S64x1 .f32 := shapeCast S64x1 v14110 shapeCasts_S64x1_S64x1
  have v14112 : FVec F S64x128 .f32 := broadcastTo S64x128 v14111 broadcasts_S64x1_S64x128
  have cst_7094 : F .f32 := Scalar.ofBits .f32 0x3B124925#32
  have v14113 : FVec F S64x128 .f32 := broadcast S64x128 cst_7094
  have v14114 : FVec F S64x128 .f32 := mulf v14112 v14113
  have cst_7097 : F .f32 := Scalar.ofBits .f32 0x00000000#32
  have v14122 : FVec F S64x128 .f32 := broadcast S64x128 cst_7097
  have v14123 : IVec S64x128 1 := cmpf .oeq v14114 v14122
  have c0_i32_7098 : BitVec 32 := 0#32
  have v14124 : IVec S64x128 32 := broadcast S64x128 c0_i32_7098
  have v14115 : FVec F S64x128 .f32 := log v14114
  have cst_7095 : F .f32 := Named.named κ "log2e" 0x3FB8AA3B#32
  have v14116 : FVec F S64x128 .f32 := broadcast S64x128 cst_7095
  have v14117 : FVec F S64x128 .f32 := mulf v14115 v14116
  have v14118 : FVec F S64x128 .f32 := floor v14117
  have v14119 : IVec S64x128 32 := fptosi 32 v14118
  have c1_i32_7096 : BitVec 32 := 1#32
  have v14120 : IVec S64x128 32 := broadcast S64x128 c1_i32_7096
  have v14121 : IVec S64x128 32 := addi v14119 v14120
  have v14125 : IVec S64x128 32 := select v14123 v14124 v14121
  have v14127 : IVec S64x128 32 := subi v14126 v14125
  have c127_i32_7100 : BitVec 32 := 127#32
  have v14128 : IVec S64x128 32 := broadcast S64x128 c127_i32_7100
  have v14129 : IVec S64x128 32 := addi v14127 v14128
  have c23_i32_7101 : BitVec 32 := 23#32
  have v14130 : IVec S64x128 32 := broadcast S64x128 c23_i32_7101
  have v14131 : IVec S64x128 32 := shli v14129 v14130
  have v14132 : FVec F S64x128 .f32 := bitcastToFloat .f32 v14131
  have v14133 : FVec F S64x128 .f32 := mulf v14107 v14132
  have v14135 : FVec F S64x128 .f32 := maximumf v14134 v14133
  have v14137 : FVec F S64x128 .f32 := minimumf v14136 v14135
  truncf .fp8e4m3 v14137 bitsLt_fp8e4m3_f32

def finHV2 (h : ℕ) (hh : h < 112) (v14057 : IVec S64x128 32) (v14107 : Vec F S64x128 .f32) (v14147 : Vec F S64x128 .f32) : FVec F S64x128 .f32 :=
  have c1_i32_7106 : BitVec 32 := BitVec.ofNat 32 h
  have v14140 : IVec S64x128 32 := broadcast S64x128 c1_i32_7106
  have v14141 : IVec S64x128 1 := cmpi .eq v14057 v14140
  have v14108 : FVec F S64x128 .f32 := absf v14107
  have v14109 : FVec F S64 .f32 := multiReduction .maximumf [1] S64 v14108 0xFF800000#32 reduces_S64x128_S64 (.inl rfl) rfl
  have v14110 : FVec F S64x1 .f32 := shapeCast S64x1 v14109 shapeCasts_S64_S64x1
  have v14111 : FVec F S64x1 .f32 := shapeCast S64x1 v14110 shapeCasts_S64x1_S64x1
  have v14112 : FVec F S64x128 .f32 := broadcastTo S64x128 v14111 broadcasts_S64x1_S64x128
  have cst_7094 : F .f32 := Scalar.ofBits .f32 0x3B124925#32
  have v14113 : FVec F S64x128 .f32 := broadcast S64x128 cst_7094
  have v14114 : FVec F S64x128 .f32 := mulf v14112 v14113
  have cst_7097 : F .f32 := Scalar.ofBits .f32 0x00000000#32
  have v14122 : FVec F S64x128 .f32 := broadcast S64x128 cst_7097
  have v14123 : IVec S64x128 1 := cmpf .oeq v14114 v14122
  have c0_i32_7098 : BitVec 32 := 0#32
  have v14124 : IVec S64x128 32 := broadcast S64x128 c0_i32_7098
  have v14115 : FVec F S64x128 .f32 := log v14114
  have cst_7095 : F .f32 := Named.named κ "log2e" 0x3FB8AA3B#32
  have v14116 : FVec F S64x128 .f32 := broadcast S64x128 cst_7095
  have v14117 : FVec F S64x128 .f32 := mulf v14115 v14116
  have v14118 : FVec F S64x128 .f32 := floor v14117
  have v14119 : IVec S64x128 32 := fptosi 32 v14118
  have c1_i32_7096 : BitVec 32 := 1#32
  have v14120 : IVec S64x128 32 := broadcast S64x128 c1_i32_7096
  have v14121 : IVec S64x128 32 := addi v14119 v14120
  have v14125 : IVec S64x128 32 := select v14123 v14124 v14121
  have c127_i32_7107 : BitVec 32 := 127#32
  have v14142 : IVec S64x128 32 := broadcast S64x128 c127_i32_7107
  have v14143 : IVec S64x128 32 := addi v14125 v14142
  have c23_i32_7108 : BitVec 32 := 23#32
  have v14144 : IVec S64x128 32 := broadcast S64x128 c23_i32_7108
  have v14145 : IVec S64x128 32 := shli v14143 v14144
  have v14146 : FVec F S64x128 .f32 := bitcastToFloat .f32 v14145
  have v14148 : FVec F S64x128 .f32 := select v14141 v14146 v14147
  shapeCast S64x128 v14148 shapeCasts_S64x128_S64x128

/-- One head's final state as codes and a scale. -/
def finH (h : ℕ) (hh : h < 112) (v14057 : IVec S64x128 32) : P F PUnit :=
  .op (.load .b22 (Rect.unit (s := S7168x128) ![h * 64, 0] S64x128.size (inb2 (by omega) (by omega))) h_S64x128) fun (v14107 : Vec F S64x128 .f32) =>
  .op (.load .b16 (Rect.unit (s := S7168x128) ![h * 64, 0] S64x128.size (inb2 (by omega) (by omega))) h_S64x128) fun (v14139 : Vec F S64x128 .fp8e4m3) =>
  .op (.store .b16 (Rect.unit (s := S7168x128) ![h * 64, 0] S64x128.size (inb2 (by omega) (by omega))) (finHV1 v14107) (fun M => View.stores_vmem h_S64x128 ((M.w .b16).storeExact_slice rfl _ (packed2 _ (Nat.dvd_mul_left_of_dvd (by decide) _) (by decide))) (fun _ => rfl))) fun _ =>
  .op (.load .b41 (Rect.unit (s := S64x128) ![0, 0] S64x128.size inb_S64x128_S64x128_0_0) h_S64x128) fun (v14147 : Vec F S64x128 .f32) =>
  .op (.load .b41 (Rect.unit (s := S64x128) ![0, 0] S64x128.size inb_S64x128_S64x128_0_0) h_S64x128) fun (v14149 : Vec F S64x128 .f32) =>
  .op (.store .b41 (Rect.unit (s := S64x128) ![0, 0] S64x128.size inb_S64x128_S64x128_0_0) (finHV2 h hh v14057 v14107 v14147) (fun M => View.stores_vmem_bits_univ h_S64x128 rfl)) fun _ =>
  .ret ⟨⟩

/-- The final scales written out. -/
def finZ  : P F PUnit :=
  .op (.load .b41 (Rect.unit (s := S64x128) ![0, 0] S64x112.size inb_S64x128_S64x112_0_0) h_S64x112) fun (v19102 : Vec F S64x112 .f32) =>
  .op (.load .b17 (Rect.unit (s := S64x112) ![0, 0] S64x112.size inb_S64x112_S64x112_0_0) h_S64x112) fun (v19103 : Vec F S64x112 .f32) =>
  .op (.store .b17 (Rect.unit (s := S64x112) ![0, 0] S64x112.size inb_S64x112_S64x112_0_0) v19102 (fun M => View.stores_vmem_bits_univ h_S64x112 rfl)) fun _ =>
  .ret ⟨⟩

/-- What the first grid point does before anything else. -/
def initP : P F PUnit := do
  initA
  loop 112 initH

/-- What every grid point does. -/
def mainP : P F PUnit := do
  let e1 ← quantB
  loop 8 fun g hg => storeB g hg e1
  let e2 ← quantC
  loop 8 fun g hg => storeC g hg e2
  prep
  loop 14 fun o ho => do
    loop 8 fun k hk => amax (o * 8 + k) (by omega)
    expo o ho
    loop 8 fun k hk => code (o * 8 + k) (by omega)
  let mk ← mask
  loop 8 fun g hg => do
    pre g hg
    loop 14 fun r hr => head g hg r hr mk
    let d ← dot g hg
    loop 14 fun r hr => hupd g hg r hr d

/-- What the last grid point does after everything else. -/
def finP : P F PUnit := do
  let n ← finA
  loop 112 fun h hh => finH h hh n
  finZ

end Cert.KernelIdeal.Y
-- ==== Proof.Keeps.lean ====
/-
  Which buffers each phase of the body writes, and a grid point as its front followed by its heads.
-/
module

public import proofs.«01_k».proof.Proof.Loop

@[expose] public section

set_option synthInstance.maxSize 4096
set_option maxRecDepth 16384

noncomputable section

namespace Cert.KernelIdeal.Y

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- `p` leaves every buffer outside `W` alone. -/
def Writes (W : List B) {α : Type} (p : P F α) : Prop := ∀ (σ : St F) (j : B), j ∉ W → (run p σ).2 j = σ j

theorem writes_ret {W : List B} {α : Type} (a : α) : Writes W (Prog.ret a : P F α) := fun _ _ _ => rfl

theorem writes_load {W : List B} {α : Type} {j : B} {r : Rect (shp j)} {h : 0 < r.shape.numel}
    {k : (r.shape.Idx → Elt F (elt j)) → P F α} (hk : ∀ v, Writes W (k v)) : Writes W (.op (.load j r h) k) :=
  fun σ i hi => hk _ σ i hi

theorem writes_store {W : List B} {α : Type} {j : B} {r : Rect (shp j)} {v : r.shape.Idx → Elt F (elt j)}
    {h : ∀ M : Mems, ((M.m j).access r).Stores Finset.univ} {k : PUnit → P F α} (hj : j ∈ W) (hk : Writes W (k ⟨⟩)) :
    Writes W (.op (.store j r v h) k) :=
  fun σ i hi => (hk _ i hi).trans (put_ne (fun e : i = j => hi (e.symm ▸ hj)) _ _)

theorem writes_bind {W : List B} {α β : Type} {p : P F α} {k : α → P F β} (hp : Writes W p) (hk : ∀ a, Writes W (k a)) :
    Writes W (p >>= k) := fun σ i hi => by rw [run_bind]; exact (hk _ _ i hi).trans (hp σ i hi)

theorem writes_loopFrom {W : List B} {N : ℕ} {f : (k : ℕ) → k < N → P F PUnit} (hf : ∀ k hk, Writes W (f k hk)) :
    ∀ (n k : ℕ) (h : k + n ≤ N), Writes W (loopFrom f n k h)
  | 0, _, _ => writes_ret _
  | n + 1, k, h => writes_bind (hf k _) fun _ => writes_loopFrom hf n (k + 1) _

theorem writes_loop {W : List B} {N : ℕ} {f : (k : ℕ) → k < N → P F PUnit} (hf : ∀ k hk, Writes W (f k hk)) :
    Writes W (loop N f) := writes_loopFrom hf N 0 _

theorem writes_mono {W W' : List B} {α : Type} {p : P F α} (h : Writes W p) (hs : ∀ j, j ∈ W → j ∈ W') : Writes W' p :=
  fun σ j hj => h σ j fun hm => hj (hs j hm)

theorem writes_ite {W : List B} {α : Type} {c : Prop} [Decidable c] {p q : P F α} (hp : Writes W p) (hq : Writes W q) :
    Writes W (if c then p else q) := by split <;> assumption

theorem writes_initA  : Writes [.b20, .b21, .b18, .b19, .b30] (initA  : P F _) := by
  unfold initA
  repeat' first
    | exact writes_ret _
    | exact fun _ => writes_ret _
    | (refine writes_load fun _ => ?_)
    | (refine writes_store (by decide) ?_)

theorem writes_initH (h : ℕ) (hh : h < 112) : Writes [.b22] (initH h hh : P F _) := by
  unfold initH
  repeat' first
    | exact writes_ret _
    | exact fun _ => writes_ret _
    | (refine writes_load fun _ => ?_)
    | (refine writes_store (by decide) ?_)

theorem writes_quantB  : Writes [.b13, .b12, .b23] (quantB  : P F _) := by
  unfold quantB
  repeat' first
    | exact writes_ret _
    | exact fun _ => writes_ret _
    | (refine writes_load fun _ => ?_)
    | (refine writes_store (by decide) ?_)

theorem writes_storeB (g : ℕ) (hg : g < 8) (e : IVec S8x128 32) : Writes [.b24, .b26] (storeB g hg e : P F _) := by
  unfold storeB
  repeat' first
    | exact writes_ret _
    | exact fun _ => writes_ret _
    | (refine writes_load fun _ => ?_)
    | (refine writes_store (by decide) ?_)

theorem writes_quantC  : Writes [.b15, .b14, .b23] (quantC  : P F _) := by
  unfold quantC
  repeat' first
    | exact writes_ret _
    | exact fun _ => writes_ret _
    | (refine writes_load fun _ => ?_)
    | (refine writes_store (by decide) ?_)

theorem writes_storeC (g : ℕ) (hg : g < 8) (e : IVec S8x128 32) : Writes [.b25, .b27] (storeC g hg e : P F _) := by
  unfold storeC
  repeat' first
    | exact writes_ret _
    | exact fun _ => writes_ret _
    | (refine writes_load fun _ => ?_)
    | (refine writes_store (by decide) ?_)

theorem writes_prep  : Writes [.b29, .b30, .b32, .b33, .b34, .b31] (prep  : P F _) := by
  unfold prep
  repeat' first
    | exact writes_ret _
    | exact fun _ => writes_ret _
    | (refine writes_load fun _ => ?_)
    | (refine writes_store (by decide) ?_)

theorem writes_amax (h : ℕ) (hh : h < 112) : Writes [.b28] (amax h hh : P F _) := by
  unfold amax
  repeat' first
    | exact writes_ret _
    | exact fun _ => writes_ret _
    | (refine writes_load fun _ => ?_)
    | (refine writes_store (by decide) ?_)

theorem writes_expo (o : ℕ) (ho : o < 14) : Writes [.b11, .b35, .b36] (expo o ho : P F _) := by
  unfold expo
  repeat' first
    | exact writes_ret _
    | exact fun _ => writes_ret _
    | (refine writes_load fun _ => ?_)
    | (refine writes_store (by decide) ?_)

theorem writes_code (h : ℕ) (hh : h < 112) : Writes [.b10] (code h hh : P F _) := by
  unfold code
  repeat' first
    | exact writes_ret _
    | exact fun _ => writes_ret _
    | (refine writes_load fun _ => ?_)
    | (refine writes_store (by decide) ?_)

theorem writes_mask  : Writes [] (mask  : P F _) := by
  unfold mask
  repeat' first
    | exact writes_ret _
    | exact fun _ => writes_ret _
    | (refine writes_load fun _ => ?_)
    | (refine writes_store (by decide) ?_)

theorem writes_pre (g : ℕ) (hg : g < 8) : Writes [.b37, .b39, .b38] (pre g hg : P F _) := by
  unfold pre
  repeat' first
    | exact writes_ret _
    | exact fun _ => writes_ret _
    | (refine writes_load fun _ => ?_)
    | (refine writes_store (by decide) ?_)

theorem writes_head (g : ℕ) (hg : g < 8) (r : ℕ) (hr : r < 14) (mk : Vec F S64x128 .i32) : Writes [.b40, .b9] (head g hg r hr mk : P F _) := by
  unfold head
  repeat' first
    | exact writes_ret _
    | exact fun _ => writes_ret _
    | (refine writes_load fun _ => ?_)
    | (refine writes_store (by decide) ?_)

theorem writes_dot (g : ℕ) (hg : g < 8) : Writes [] (dot g hg : P F _) := by
  unfold dot
  repeat' first
    | exact writes_ret _
    | exact fun _ => writes_ret _
    | (refine writes_load fun _ => ?_)
    | (refine writes_store (by decide) ?_)

theorem writes_hupd (g : ℕ) (hg : g < 8) (r : ℕ) (hr : r < 14) (d : FVec F S896x128 .f32) : Writes [.b22] (hupd g hg r hr d : P F _) := by
  unfold hupd
  repeat' first
    | exact writes_ret _
    | exact fun _ => writes_ret _
    | (refine writes_load fun _ => ?_)
    | (refine writes_store (by decide) ?_)

theorem writes_finA  : Writes [.b41] (finA  : P F _) := by
  unfold finA
  repeat' first
    | exact writes_ret _
    | exact fun _ => writes_ret _
    | (refine writes_load fun _ => ?_)
    | (refine writes_store (by decide) ?_)

theorem writes_finH (h : ℕ) (hh : h < 112) (n : IVec S64x128 32) : Writes [.b16, .b41] (finH h hh n : P F _) := by
  unfold finH
  repeat' first
    | exact writes_ret _
    | exact fun _ => writes_ret _
    | (refine writes_load fun _ => ?_)
    | (refine writes_store (by decide) ?_)

theorem writes_finZ  : Writes [.b17] (finZ  : P F _) := by
  unfold finZ
  repeat' first
    | exact writes_ret _
    | exact fun _ => writes_ret _
    | (refine writes_load fun _ => ?_)
    | (refine writes_store (by decide) ?_)

theorem writes_initP : Writes [.b20, .b21, .b18, .b19, .b30, .b22] (initP : P F _) :=
  writes_bind (writes_mono writes_initA (by decide)) fun _ => writes_loop fun h hh => writes_mono (writes_initH h hh) (by decide)

theorem writes_finP : Writes [.b41, .b16, .b17] (finP : P F _) :=
  writes_bind (writes_mono writes_finA (by decide)) fun n => writes_bind (writes_loop fun h hh => writes_mono (writes_finH h hh n) (by decide))
    fun _ => writes_mono writes_finZ (by decide)

/-- The buffers a grid point writes before its heads. -/
abbrev frontW : List B := [.b13, .b12, .b23, .b24, .b26, .b15, .b14, .b25, .b27, .b29, .b30, .b32, .b33, .b34, .b31, .b28, .b11, .b35, .b36, .b10]

/-- The buffers the heads write. -/
abbrev headW : List B := [.b37, .b39, .b38, .b40, .b9, .b22]

abbrev mainW : List B := [.b13, .b12, .b23, .b24, .b26, .b15, .b14, .b25, .b27, .b29, .b30, .b32, .b33, .b34, .b31, .b28, .b11, .b35, .b36, .b10, .b37, .b39, .b38, .b40, .b9, .b22]

/-- What every grid point does before its heads. -/
def front : P F PUnit := quantB >>= fun e1 => (loop 8 fun g hg => storeB g hg e1) >>= fun _ => quantC >>= fun e2 =>
  (loop 8 fun g hg => storeC g hg e2) >>= fun _ => prep >>= fun _ =>
    loop 14 fun o ho => (loop 8 fun k hk => amax (o * 8 + k) (by omega)) >>= fun _ => expo o ho >>= fun _ =>
      loop 8 fun k hk => code (o * 8 + k) (by omega)

/-- One group's heads. -/
def group (mk : Vec F S64x128 .i32) (g : ℕ) (hg : g < 8) : P F PUnit :=
  pre g hg >>= fun _ => (loop 14 fun r hr => head g hg r hr mk) >>= fun _ => dot g hg >>= fun d => loop 14 fun r hr => hupd g hg r hr d

/-- Every group's heads. -/
def groups : P F PUnit := mask >>= fun mk => loop 8 (group mk)

theorem writes_front : Writes frontW (front : P F _) := by
  refine writes_bind (writes_mono writes_quantB (by decide)) fun e1 => writes_bind (writes_loop fun g hg => writes_mono (writes_storeB g hg e1) (by decide)) fun _ =>
    writes_bind (writes_mono writes_quantC (by decide)) fun e2 => writes_bind (writes_loop fun g hg => writes_mono (writes_storeC g hg e2) (by decide)) fun _ =>
    writes_bind (writes_mono writes_prep (by decide)) fun _ => writes_loop fun o ho => writes_bind (writes_loop fun k hk => writes_mono (writes_amax _ _) (by decide)) fun _ =>
    writes_bind (writes_mono (writes_expo o ho) (by decide)) fun _ => writes_loop fun k hk => writes_mono (writes_code _ _) (by decide)

theorem writes_group (mk : Vec F S64x128 .i32) (g : ℕ) (hg : g < 8) : Writes headW (group mk g hg) :=
  writes_bind (writes_mono (writes_pre g hg) (by decide)) fun _ => writes_bind (writes_loop fun r hr => writes_mono (writes_head g hg r hr mk) (by decide)) fun _ =>
    writes_bind (writes_mono (writes_dot g hg) (by decide)) fun d => writes_loop fun r hr => writes_mono (writes_hupd g hg r hr d) (by decide)

theorem writes_groups : Writes headW (groups : P F _) :=
  writes_bind (writes_mono writes_mask (by decide)) fun mk => writes_loop fun g hg => writes_group mk g hg

theorem run_assoc {α β γ : Type} (p : P F α) (k : α → P F β) (l : β → P F γ) (σ : St F) :
    run (p >>= k >>= l) σ = run (p >>= fun a => k a >>= l) σ := by
  simp only [run_bind]

/-- A grid point is its front and then its heads. -/
theorem run_main (σ : St F) : run mainP σ = run groups (run front σ).2 := by
  rw [← run_bind front (fun _ => groups)]
  unfold mainP front groups group
  simp only [run_bind]

theorem writes_main : Writes mainW (mainP : P F _) := fun σ j hj => by
  rw [run_main]
  exact (writes_mono writes_groups (by decide : ∀ j, j ∈ headW → j ∈ mainW) _ j hj).trans
    (writes_mono writes_front (by decide : ∀ j, j ∈ frontW → j ∈ mainW) _ j hj)

end Cert.KernelIdeal.Y
-- ==== Proof.Same.lean ====
/-
  The printed body is the body in loop form: the two are the same term once the loops are unrolled, which the kernel checks by
  computing. Only the first condition, on the grid point, is decided by hypothesis.
-/
module

public import proofs.«01_k».proof.Proof.Loop

@[expose] public section

set_option synthInstance.maxSize 4096
set_option maxRecDepth 16384

noncomputable section

namespace Cert.KernelIdeal.Y

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Whether the grid point is the first. -/
abbrev isFirst (i : grid0.Coords) : Prop :=
  Scalar.cmpi .ne (Scalar.extui (Scalar.cmpi .eq (BitVec.ofNat 32 (i 0).val) 0#32) : BitVec 32) 0#32 = 1#1

/-- Past the first grid point the body is `mainP`, then at the last one `finP`. -/
theorem same_else (i : grid0.Coords) (hi : ¬ isFirst i) (a1 : Memref sig .tc .vmem S7168x256 .bf16) (h1 : a1.IsWhole) (a2 : Memref sig .tc .vmem S112x256 .f32) (h2 : a2.IsWhole) (a3 : Memref sig .tc .vmem S1x112 .f32) (h3 : a3.IsWhole) (a4 : Memref sig .tc .vmem S256x8x128 .bf16) (h4 : a4.IsWhole) (a5 : Memref sig .tc .vmem S256x8x128 .bf16) (h5 : a5.IsWhole) (a6 : Memref sig .tc .vmem S1x112 .f32) (h6 : a6.IsWhole) (a7 : Memref sig .tc .vmem S7168x128 .fp8e4m3) (h7 : a7.IsWhole) (a8 : Memref sig .tc .vmem S64x112 .f32) (h8 : a8.IsWhole) (a9 : Memref sig .tc .vmem S7168x256 .bf16) (h9 : a9.IsWhole) (a10 : Memref sig .tc .vmem S7168x256 .fp8e4m3) (h10 : a10.IsWhole) (a11 : Memref sig .tc .vmem S112x256 .f32) (h11 : a11.IsWhole) (a12 : Memref sig .tc .vmem S256x8x128 .fp8e4m3) (h12 : a12.IsWhole) (a13 : Memref sig .tc .vmem S1x1x8 .f32) (h13 : a13.IsWhole) (a14 : Memref sig .tc .vmem S256x8x128 .fp8e4m3) (h14 : a14.IsWhole) (a15 : Memref sig .tc .vmem S1x1x8 .f32) (h15 : a15.IsWhole) (a16 : Memref sig .tc .vmem S7168x128 .fp8e4m3) (h16 : a16.IsWhole) (a17 : Memref sig .tc .vmem S64x112 .f32) (h17 : a17.IsWhole) (a18 : Memref sig .tc .vmem S112x128 .f32) (h18 : a18.IsWhole) (a19 : Memref sig .tc .vmem S112x128 .f32) (h19 : a19.IsWhole) (a20 : Memref sig .tc .vmem S256x256 .bf16) (h20 : a20.IsWhole) (a21 : Memref sig .tc .vmem S64x128 .i32) (h21 : a21.IsWhole) (a22 : Memref sig .tc .vmem S7168x128 .f32) (h22 : a22.IsWhole) (a23 : Memref sig .tc .vmem S256x8x128 .f32) (h23 : a23.IsWhole) (a24 : Memref sig .tc .vmem S8x256x128 .fp8e4m3) (h24 : a24.IsWhole) (a25 : Memref sig .tc .vmem S8x256x128 .fp8e4m3) (h25 : a25.IsWhole) (a26 : Memref sig .tc .vmem S112x128 .f32) (h26 : a26.IsWhole) (a27 : Memref sig .tc .vmem S112x128 .f32) (h27 : a27.IsWhole) (a28 : Memref sig .tc .vmem S112x256 .f32) (h28 : a28.IsWhole) (a29 : Memref sig .tc .vmem S112x256 .f32) (h29 : a29.IsWhole) (a30 : Memref sig .tc .vmem S128x256 .f32) (h30 : a30.IsWhole) (a31 : Memref sig .tc .vmem S256x128 .f32) (h31 : a31.IsWhole) (a32 : Memref sig .tc .vmem S112x256 .f32) (h32 : a32.IsWhole) (a33 : Memref sig .tc .vmem S112x256 .f32) (h33 : a33.IsWhole) (a34 : Memref sig .tc .vmem S112x128 .f32) (h34 : a34.IsWhole) (a35 : Memref sig .tc .vmem S112x256 .f32) (h35 : a35.IsWhole) (a36 : Memref sig .tc .vmem S112x256 .f32) (h36 : a36.IsWhole) (a37 : Memref sig .tc .vmem S256x256 .f32) (h37 : a37.IsWhole) (a38 : Memref sig .tc .vmem S896x256 .f32) (h38 : a38.IsWhole) (a39 : Memref sig .tc .vmem S896x128 .bf16) (h39 : a39.IsWhole) (a40 : Memref sig .tc .vmem S896x256 .bf16) (h40 : a40.IsWhole) (a41 : Memref sig .tc .vmem S64x128 .f32) (h41 : a41.IsWhole) :
    cc0_ssd_scan (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 =
      (toProg (Mems.mk41 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41) mainP >>= fun _ =>
        if h : k0_cond2 i = 1#1 then toProg (Mems.mk41 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41) finP else .ret ⟨⟩) := by
  have h167 := (rfl : k0_part167 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 = k0_part167 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41).trans (dif_neg hi)
  unfold cc0_ssd_scan k0_part532
  rw [h167]
  sl_kernel_rfl

/-- At the first grid point the body is `initP`, then `mainP`, then at the last one `finP`. -/
theorem same_then (i : grid0.Coords) (hi : isFirst i) (a1 : Memref sig .tc .vmem S7168x256 .bf16) (h1 : a1.IsWhole) (a2 : Memref sig .tc .vmem S112x256 .f32) (h2 : a2.IsWhole) (a3 : Memref sig .tc .vmem S1x112 .f32) (h3 : a3.IsWhole) (a4 : Memref sig .tc .vmem S256x8x128 .bf16) (h4 : a4.IsWhole) (a5 : Memref sig .tc .vmem S256x8x128 .bf16) (h5 : a5.IsWhole) (a6 : Memref sig .tc .vmem S1x112 .f32) (h6 : a6.IsWhole) (a7 : Memref sig .tc .vmem S7168x128 .fp8e4m3) (h7 : a7.IsWhole) (a8 : Memref sig .tc .vmem S64x112 .f32) (h8 : a8.IsWhole) (a9 : Memref sig .tc .vmem S7168x256 .bf16) (h9 : a9.IsWhole) (a10 : Memref sig .tc .vmem S7168x256 .fp8e4m3) (h10 : a10.IsWhole) (a11 : Memref sig .tc .vmem S112x256 .f32) (h11 : a11.IsWhole) (a12 : Memref sig .tc .vmem S256x8x128 .fp8e4m3) (h12 : a12.IsWhole) (a13 : Memref sig .tc .vmem S1x1x8 .f32) (h13 : a13.IsWhole) (a14 : Memref sig .tc .vmem S256x8x128 .fp8e4m3) (h14 : a14.IsWhole) (a15 : Memref sig .tc .vmem S1x1x8 .f32) (h15 : a15.IsWhole) (a16 : Memref sig .tc .vmem S7168x128 .fp8e4m3) (h16 : a16.IsWhole) (a17 : Memref sig .tc .vmem S64x112 .f32) (h17 : a17.IsWhole) (a18 : Memref sig .tc .vmem S112x128 .f32) (h18 : a18.IsWhole) (a19 : Memref sig .tc .vmem S112x128 .f32) (h19 : a19.IsWhole) (a20 : Memref sig .tc .vmem S256x256 .bf16) (h20 : a20.IsWhole) (a21 : Memref sig .tc .vmem S64x128 .i32) (h21 : a21.IsWhole) (a22 : Memref sig .tc .vmem S7168x128 .f32) (h22 : a22.IsWhole) (a23 : Memref sig .tc .vmem S256x8x128 .f32) (h23 : a23.IsWhole) (a24 : Memref sig .tc .vmem S8x256x128 .fp8e4m3) (h24 : a24.IsWhole) (a25 : Memref sig .tc .vmem S8x256x128 .fp8e4m3) (h25 : a25.IsWhole) (a26 : Memref sig .tc .vmem S112x128 .f32) (h26 : a26.IsWhole) (a27 : Memref sig .tc .vmem S112x128 .f32) (h27 : a27.IsWhole) (a28 : Memref sig .tc .vmem S112x256 .f32) (h28 : a28.IsWhole) (a29 : Memref sig .tc .vmem S112x256 .f32) (h29 : a29.IsWhole) (a30 : Memref sig .tc .vmem S128x256 .f32) (h30 : a30.IsWhole) (a31 : Memref sig .tc .vmem S256x128 .f32) (h31 : a31.IsWhole) (a32 : Memref sig .tc .vmem S112x256 .f32) (h32 : a32.IsWhole) (a33 : Memref sig .tc .vmem S112x256 .f32) (h33 : a33.IsWhole) (a34 : Memref sig .tc .vmem S112x128 .f32) (h34 : a34.IsWhole) (a35 : Memref sig .tc .vmem S112x256 .f32) (h35 : a35.IsWhole) (a36 : Memref sig .tc .vmem S112x256 .f32) (h36 : a36.IsWhole) (a37 : Memref sig .tc .vmem S256x256 .f32) (h37 : a37.IsWhole) (a38 : Memref sig .tc .vmem S896x256 .f32) (h38 : a38.IsWhole) (a39 : Memref sig .tc .vmem S896x128 .bf16) (h39 : a39.IsWhole) (a40 : Memref sig .tc .vmem S896x256 .bf16) (h40 : a40.IsWhole) (a41 : Memref sig .tc .vmem S64x128 .f32) (h41 : a41.IsWhole) :
    cc0_ssd_scan (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 =
      (toProg (Mems.mk41 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41) initP >>= fun _ => toProg (Mems.mk41 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41) mainP >>= fun _ =>
        if h : k0_cond2 i = 1#1 then toProg (Mems.mk41 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41) finP else .ret ⟨⟩) := by
  have h167 := (rfl : k0_part167 (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 = k0_part167 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41).trans (dif_pos hi)
  unfold cc0_ssd_scan k0_part532
  rw [h167]
  sl_kernel_rfl

end Cert.KernelIdeal.Y
-- ==== Proof.Run.lean ====
/-
  The run of the kernel's pipeline with its first result named. A plan says what is carried from one grid point to the next and what
  the first result's block holds after each point; the launch then ends with that result's array at those blocks. The other results
  are forgotten. With nothing named, a plan gives that the launch ends and leaves the arguments alone.
-/
module

public import proofs.«01_k».proof.Proof.Same
public import proofs.«01_k».proof.Proof.Gen.KernelIdeal.Frame.Runs
public import Idealize.ShloMosaic.Lib.Claim

@[expose] public section

set_option synthInstance.maxSize 4096
set_option maxRecDepth 16384

noncomputable section

namespace Cert.KernelIdeal.Y

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The body at one grid point. -/
def pt (i : grid0.Coords) : P F PUnit :=
  (if isFirst i then initP else .ret ⟨⟩) >>= fun _ => mainP >>= fun _ => if k0_cond2 i = 1#1 then finP else .ret ⟨⟩

/-- The printed body is `pt`. -/
theorem same_pt (i : grid0.Coords) (a1 : Memref sig .tc .vmem S7168x256 .bf16) (h1 : a1.IsWhole) (a2 : Memref sig .tc .vmem S112x256 .f32) (h2 : a2.IsWhole) (a3 : Memref sig .tc .vmem S1x112 .f32) (h3 : a3.IsWhole) (a4 : Memref sig .tc .vmem S256x8x128 .bf16) (h4 : a4.IsWhole) (a5 : Memref sig .tc .vmem S256x8x128 .bf16) (h5 : a5.IsWhole) (a6 : Memref sig .tc .vmem S1x112 .f32) (h6 : a6.IsWhole) (a7 : Memref sig .tc .vmem S7168x128 .fp8e4m3) (h7 : a7.IsWhole) (a8 : Memref sig .tc .vmem S64x112 .f32) (h8 : a8.IsWhole) (a9 : Memref sig .tc .vmem S7168x256 .bf16) (h9 : a9.IsWhole) (a10 : Memref sig .tc .vmem S7168x256 .fp8e4m3) (h10 : a10.IsWhole) (a11 : Memref sig .tc .vmem S112x256 .f32) (h11 : a11.IsWhole) (a12 : Memref sig .tc .vmem S256x8x128 .fp8e4m3) (h12 : a12.IsWhole) (a13 : Memref sig .tc .vmem S1x1x8 .f32) (h13 : a13.IsWhole) (a14 : Memref sig .tc .vmem S256x8x128 .fp8e4m3) (h14 : a14.IsWhole) (a15 : Memref sig .tc .vmem S1x1x8 .f32) (h15 : a15.IsWhole) (a16 : Memref sig .tc .vmem S7168x128 .fp8e4m3) (h16 : a16.IsWhole) (a17 : Memref sig .tc .vmem S64x112 .f32) (h17 : a17.IsWhole) (a18 : Memref sig .tc .vmem S112x128 .f32) (h18 : a18.IsWhole) (a19 : Memref sig .tc .vmem S112x128 .f32) (h19 : a19.IsWhole) (a20 : Memref sig .tc .vmem S256x256 .bf16) (h20 : a20.IsWhole) (a21 : Memref sig .tc .vmem S64x128 .i32) (h21 : a21.IsWhole) (a22 : Memref sig .tc .vmem S7168x128 .f32) (h22 : a22.IsWhole) (a23 : Memref sig .tc .vmem S256x8x128 .f32) (h23 : a23.IsWhole) (a24 : Memref sig .tc .vmem S8x256x128 .fp8e4m3) (h24 : a24.IsWhole) (a25 : Memref sig .tc .vmem S8x256x128 .fp8e4m3) (h25 : a25.IsWhole) (a26 : Memref sig .tc .vmem S112x128 .f32) (h26 : a26.IsWhole) (a27 : Memref sig .tc .vmem S112x128 .f32) (h27 : a27.IsWhole) (a28 : Memref sig .tc .vmem S112x256 .f32) (h28 : a28.IsWhole) (a29 : Memref sig .tc .vmem S112x256 .f32) (h29 : a29.IsWhole) (a30 : Memref sig .tc .vmem S128x256 .f32) (h30 : a30.IsWhole) (a31 : Memref sig .tc .vmem S256x128 .f32) (h31 : a31.IsWhole) (a32 : Memref sig .tc .vmem S112x256 .f32) (h32 : a32.IsWhole) (a33 : Memref sig .tc .vmem S112x256 .f32) (h33 : a33.IsWhole) (a34 : Memref sig .tc .vmem S112x128 .f32) (h34 : a34.IsWhole) (a35 : Memref sig .tc .vmem S112x256 .f32) (h35 : a35.IsWhole) (a36 : Memref sig .tc .vmem S112x256 .f32) (h36 : a36.IsWhole) (a37 : Memref sig .tc .vmem S256x256 .f32) (h37 : a37.IsWhole) (a38 : Memref sig .tc .vmem S896x256 .f32) (h38 : a38.IsWhole) (a39 : Memref sig .tc .vmem S896x128 .bf16) (h39 : a39.IsWhole) (a40 : Memref sig .tc .vmem S896x256 .bf16) (h40 : a40.IsWhole) (a41 : Memref sig .tc .vmem S64x128 .f32) (h41 : a41.IsWhole) :
    cc0_ssd_scan (F := F) i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 = toProg (Mems.mk41 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41) (pt i) := by
  unfold pt
  by_cases hi : isFirst i
  · rw [same_then i hi, if_pos hi, toProg_bind]
    refine congrArg _ (funext fun _ => ?_)
    rw [toProg_bind]
    refine congrArg _ (funext fun _ => ?_)
    split <;> rfl
  · rw [same_else i hi, if_neg hi]
    change _ = toProg _ (mainP >>= _)
    rw [toProg_bind]
    refine congrArg _ (funext fun _ => ?_)
    split <;> rfl

/-- The buffers the body is given at grid point `t`. -/
@[reducible] def mems (t : Fin cfg0.N) : Mems := Mems.mk41 (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _)

theorem bodyAt_eq (t : Fin cfg0.N) : bodyAt0 (F := F) t = toProg (mems t) (pt (grid0.coords t)) :=
  same_pt (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _)

/-- All the buffers, one by one. -/
theorem owning_eq (t : Fin cfg0.N) (c : Dev nD) (σ : St F) :
    (owning (mems t) c σ : sProp 𝕄) = iprop(owns (c : Thread nD τ) (ms0_0 t) fullShare (σ .b1) ∗ owns (c : Thread nD τ) (ms0_1 t) fullShare (σ .b2) ∗ owns (c : Thread nD τ) (ms0_2 t) fullShare (σ .b3) ∗ owns (c : Thread nD τ) (ms0_3 t) fullShare (σ .b4) ∗ owns (c : Thread nD τ) (ms0_4 t) fullShare (σ .b5) ∗ owns (c : Thread nD τ) (ms0_5 t) fullShare (σ .b6) ∗ owns (c : Thread nD τ) (ms0_6 t) fullShare (σ .b7) ∗ owns (c : Thread nD τ) (ms0_7 t) fullShare (σ .b8) ∗ owns (c : Thread nD τ) (ms0_8 t) fullShare (σ .b9) ∗ owns (c : Thread nD τ) (ms0_9 t) fullShare (σ .b10) ∗ owns (c : Thread nD τ) (ms0_10 t) fullShare (σ .b11) ∗ owns (c : Thread nD τ) (ms0_11 t) fullShare (σ .b12) ∗ owns (c : Thread nD τ) (ms0_12 t) fullShare (σ .b13) ∗ owns (c : Thread nD τ) (ms0_13 t) fullShare (σ .b14) ∗ owns (c : Thread nD τ) (ms0_14 t) fullShare (σ .b15) ∗ owns (c : Thread nD τ) (ms0_15 t) fullShare (σ .b16) ∗ owns (c : Thread nD τ) (ms0_16 t) fullShare (σ .b17) ∗ owns (c : Thread nD τ) scM0_0 fullShare (σ .b18) ∗ owns (c : Thread nD τ) scM0_1 fullShare (σ .b19) ∗ owns (c : Thread nD τ) scM0_2 fullShare (σ .b20) ∗ owns (c : Thread nD τ) scM0_3 fullShare (σ .b21) ∗ owns (c : Thread nD τ) scM0_4 fullShare (σ .b22) ∗ owns (c : Thread nD τ) scM0_5 fullShare (σ .b23) ∗ owns (c : Thread nD τ) scM0_6 fullShare (σ .b24) ∗ owns (c : Thread nD τ) scM0_7 fullShare (σ .b25) ∗ owns (c : Thread nD τ) scM0_8 fullShare (σ .b26) ∗ owns (c : Thread nD τ) scM0_9 fullShare (σ .b27) ∗ owns (c : Thread nD τ) scM0_10 fullShare (σ .b28) ∗ owns (c : Thread nD τ) scM0_11 fullShare (σ .b29) ∗ owns (c : Thread nD τ) scM0_12 fullShare (σ .b30) ∗ owns (c : Thread nD τ) scM0_13 fullShare (σ .b31) ∗ owns (c : Thread nD τ) scM0_14 fullShare (σ .b32) ∗ owns (c : Thread nD τ) scM0_15 fullShare (σ .b33) ∗ owns (c : Thread nD τ) scM0_16 fullShare (σ .b34) ∗ owns (c : Thread nD τ) scM0_17 fullShare (σ .b35) ∗ owns (c : Thread nD τ) scM0_18 fullShare (σ .b36) ∗ owns (c : Thread nD τ) scM0_19 fullShare (σ .b37) ∗ owns (c : Thread nD τ) scM0_20 fullShare (σ .b38) ∗ owns (c : Thread nD τ) scM0_21 fullShare (σ .b39) ∗ owns (c : Thread nD τ) scM0_22 fullShare (σ .b40) ∗ owns (c : Thread nD τ) scM0_23 fullShare (σ .b41)) :=
  bigSep_univ_eq_bigSepL [B.b1, B.b2, B.b3, B.b4, B.b5, B.b6, B.b7, B.b8, B.b9, B.b10, B.b11, B.b12, B.b13, B.b14, B.b15, B.b16, B.b17, B.b18, B.b19, B.b20, B.b21, B.b22, B.b23, B.b24, B.b25, B.b26, B.b27, B.b28, B.b29, B.b30, B.b31, B.b32, B.b33, B.b34, B.b35, B.b36, B.b37, B.b38, B.b39, B.b40, B.b41] (by decide) (by decide) _

/-- A state from its buffers. -/
@[reducible] def mkSt (x1 : (shp .b1).Idx → Elt F (elt .b1)) (x2 : (shp .b2).Idx → Elt F (elt .b2)) (x3 : (shp .b3).Idx → Elt F (elt .b3)) (x4 : (shp .b4).Idx → Elt F (elt .b4)) (x5 : (shp .b5).Idx → Elt F (elt .b5)) (x6 : (shp .b6).Idx → Elt F (elt .b6)) (x7 : (shp .b7).Idx → Elt F (elt .b7)) (x8 : (shp .b8).Idx → Elt F (elt .b8)) (x9 : (shp .b9).Idx → Elt F (elt .b9)) (x10 : (shp .b10).Idx → Elt F (elt .b10)) (x11 : (shp .b11).Idx → Elt F (elt .b11)) (x12 : (shp .b12).Idx → Elt F (elt .b12)) (x13 : (shp .b13).Idx → Elt F (elt .b13)) (x14 : (shp .b14).Idx → Elt F (elt .b14)) (x15 : (shp .b15).Idx → Elt F (elt .b15)) (x16 : (shp .b16).Idx → Elt F (elt .b16)) (x17 : (shp .b17).Idx → Elt F (elt .b17)) (x18 : (shp .b18).Idx → Elt F (elt .b18)) (x19 : (shp .b19).Idx → Elt F (elt .b19)) (x20 : (shp .b20).Idx → Elt F (elt .b20)) (x21 : (shp .b21).Idx → Elt F (elt .b21)) (x22 : (shp .b22).Idx → Elt F (elt .b22)) (x23 : (shp .b23).Idx → Elt F (elt .b23)) (x24 : (shp .b24).Idx → Elt F (elt .b24)) (x25 : (shp .b25).Idx → Elt F (elt .b25)) (x26 : (shp .b26).Idx → Elt F (elt .b26)) (x27 : (shp .b27).Idx → Elt F (elt .b27)) (x28 : (shp .b28).Idx → Elt F (elt .b28)) (x29 : (shp .b29).Idx → Elt F (elt .b29)) (x30 : (shp .b30).Idx → Elt F (elt .b30)) (x31 : (shp .b31).Idx → Elt F (elt .b31)) (x32 : (shp .b32).Idx → Elt F (elt .b32)) (x33 : (shp .b33).Idx → Elt F (elt .b33)) (x34 : (shp .b34).Idx → Elt F (elt .b34)) (x35 : (shp .b35).Idx → Elt F (elt .b35)) (x36 : (shp .b36).Idx → Elt F (elt .b36)) (x37 : (shp .b37).Idx → Elt F (elt .b37)) (x38 : (shp .b38).Idx → Elt F (elt .b38)) (x39 : (shp .b39).Idx → Elt F (elt .b39)) (x40 : (shp .b40).Idx → Elt F (elt .b40)) (x41 : (shp .b41).Idx → Elt F (elt .b41)) : St F
  | .b1 => x1
  | .b2 => x2
  | .b3 => x3
  | .b4 => x4
  | .b5 => x5
  | .b6 => x6
  | .b7 => x7
  | .b8 => x8
  | .b9 => x9
  | .b10 => x10
  | .b11 => x11
  | .b12 => x12
  | .b13 => x13
  | .b14 => x14
  | .b15 => x15
  | .b16 => x16
  | .b17 => x17
  | .b18 => x18
  | .b19 => x19
  | .b20 => x20
  | .b21 => x21
  | .b22 => x22
  | .b23 => x23
  | .b24 => x24
  | .b25 => x25
  | .b26 => x26
  | .b27 => x27
  | .b28 => x28
  | .b29 => x29
  | .b30 => x30
  | .b31 => x31
  | .b32 => x32
  | .b33 => x33
  | .b34 => x34
  | .b35 => x35
  | .b36 => x36
  | .b37 => x37
  | .b38 => x38
  | .b39 => x39
  | .b40 => x40
  | .b41 => x41

variable (m : (ℓ : Loc nD τ sig) → Buf (Elt F) ℓ) (ρ : Dev nD → PrngReg)

/-- The state's inputs are the blocks of grid point `t`. -/
structure Ins (c : Dev nD) (t : Fin cfg0.N) (σ : St F) : Prop where
  i1 : σ .b1 = iblk m c 0 t
  i2 : σ .b2 = iblk m c 1 t
  i3 : σ .b3 = iblk m c 2 t
  i4 : σ .b4 = iblk m c 3 t
  i5 : σ .b5 = iblk m c 4 t
  i6 : σ .b6 = iblk m c 5 t
  i7 : σ .b7 = iblk m c 6 t
  i8 : σ .b8 = iblk m c 7 t

/-- What is carried from point to point (columns of `A` and `D`, the triangular matrix, the mask, the state `h`), what the first
    result's block holds after each point, and why. -/
structure Plan where
  fy : Bool
  y : Dev nD → Fin cfg0.N → ((shp .b9).Idx → Elt F (elt .b9))
  inv : Dev nD → ℕ → ((shp .b18).Idx → Elt F (elt .b18)) → ((shp .b19).Idx → Elt F (elt .b19)) → ((shp .b20).Idx → Elt F (elt .b20)) → ((shp .b21).Idx → Elt F (elt .b21)) → ((shp .b22).Idx → Elt F (elt .b22)) → Prop
  zero : ∀ c x18 x19 x20 x21 x22, inv c 0 x18 x19 x20 x21 x22
  step : ∀ c (t : Fin cfg0.N) (σ : St F), Ins m c t σ → inv c t.val (σ .b18) (σ .b19) (σ .b20) (σ .b21) (σ .b22) →
    inv c (t.val + 1) ((run (pt (grid0.coords t)) σ).2 .b18) ((run (pt (grid0.coords t)) σ).2 .b19) ((run (pt (grid0.coords t)) σ).2 .b20) ((run (pt (grid0.coords t)) σ).2 .b21) ((run (pt (grid0.coords t)) σ).2 .b22)
      ∧ (fy = false → (run (pt (grid0.coords t)) σ).2 .b9 = y c t)
      ∧ Ins m c t (run (pt (grid0.coords t)) σ).2

variable {m} (P : Plan m)

/-- What is known before point `n`. -/
def Phi (c : Dev nD) (n : ℕ) : sProp 𝕄 :=
  iprop(∃ x18 x19 x20 x21 x22, ⌜P.inv c n x18 x19 x20 x21 x22⌝
    ∗ iprop(owns (c : Thread nD τ) scM0_0 fullShare x18 ∗ owns (c : Thread nD τ) scM0_1 fullShare x19 ∗ owns (c : Thread nD τ) scM0_2 fullShare x20 ∗ owns (c : Thread nD τ) scM0_3 fullShare x21 ∗ owns (c : Thread nD τ) scM0_4 fullShare x22 ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d))
    ∗ (∃ r, prngReg c r))

set_option maxHeartbeats 4000000 in
/-- After the body, what the next point is promised. -/
theorem body_out (c : Dev nD) (t : Fin cfg0.N) (σ : St F) (O : sProp 𝕄)
    (hinv : P.inv c (t.val + 1) (σ .b18) (σ .b19) (σ .b20) (σ .b21) (σ .b22)) (hy : P.fy = false → σ .b9 = P.y c t) (hi : Ins m c t σ) :
    iprop(owning (mems t) c σ ∗ (∃ r, prngReg c r) ∗ O) ⊢ iprop(Phi P c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, ⌜P.fy = false → d = P.y c t⌝ ∗ owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) := by
  rw [owning_eq]
  unfold Phi
  rw [hi.i1, hi.i2, hi.i3, hi.i4, hi.i5, hi.i6, hi.i7, hi.i8]
  iintro ⟨⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩, Hg, Ho⟩
  isplitl [H18 H19 H20 H21 H22 H23 H24 H25 H26 H27 H28 H29 H30 H31 H32 H33 H34 H35 H36 H37 H38 H39 H40 H41 Hg]
  · iexists (σ .b18), (σ .b19), (σ .b20), (σ .b21), (σ .b22)
    isplitr
    · ipureintro; exact hinv
    isplitl [H18 H19 H20 H21 H22 H23 H24 H25 H26 H27 H28 H29 H30 H31 H32 H33 H34 H35 H36 H37 H38 H39 H40 H41]
    · isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [H35]; · iexists _; iexact H35
      isplitl [H36]; · iexists _; iexact H36
      isplitl [H37]; · iexists _; iexact H37
      isplitl [H38]; · iexists _; iexact H38
      isplitl [H39]; · iexists _; iexact H39
      isplitl [H40]; · iexists _; iexact H40
      iexists _; iexact H41
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists (σ .b9)
    isplitr
    · ipureintro; exact hy
    iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

set_option maxHeartbeats 4000000 in
/-- The body at any point. -/
theorem body_core (c : Dev nD) (t : Fin cfg0.N) (O : sProp 𝕄) :
    iprop(Phi P c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) ⊢ wp frame (wpE (defs₀ (F := F)) Variants.none (c : Thread nD τ) none) Set.univ (bodyAt0 t) (fun _ => iprop(Phi P c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, ⌜P.fy = false → d = P.y c t⌝ ∗ owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d))) := by
  rw [bodyAt_eq]
  unfold Phi
  iintro ⟨⟨%x18, %x19, %x20, %x21, %x22, %hinv, ⟨H18, H19, H20, H21, H22, ⟨%x23, H23⟩, ⟨%x24, H24⟩, ⟨%x25, H25⟩, ⟨%x26, H26⟩, ⟨%x27, H27⟩, ⟨%x28, H28⟩, ⟨%x29, H29⟩, ⟨%x30, H30⟩, ⟨%x31, H31⟩, ⟨%x32, H32⟩, ⟨%x33, H33⟩, ⟨%x34, H34⟩, ⟨%x35, H35⟩, ⟨%x36, H36⟩, ⟨%x37, H37⟩, ⟨%x38, H38⟩, ⟨%x39, H39⟩, ⟨%x40, H40⟩, ⟨%x41, H41⟩⟩, Hg⟩, Ho, H1, H2, H3, H4, H5, H6, H7, H8, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩⟩
  have hs := P.step c t (mkSt (iblk m c 0 t) (iblk m c 1 t) (iblk m c 2 t) (iblk m c 3 t) (iblk m c 4 t) (iblk m c 5 t) (iblk m c 6 t) (iblk m c 7 t) x9 x10 x11 x12 x13 x14 x15 x16 x17 x18 x19 x20 x21 x22 x23 x24 x25 x26 x27 x28 x29 x30 x31 x32 x33 x34 x35 x36 x37 x38 x39 x40 x41) ⟨rfl, rfl, rfl, rfl, rfl, rfl, rfl, rfl⟩ hinv
  iapply (sound (mems t) c (pt (grid0.coords t)) (mkSt (iblk m c 0 t) (iblk m c 1 t) (iblk m c 2 t) (iblk m c 3 t) (iblk m c 4 t) (iblk m c 5 t) (iblk m c 6 t) (iblk m c 7 t) x9 x10 x11 x12 x13 x14 x15 x16 x17 x18 x19 x20 x21 x22 x23 x24 x25 x26 x27 x28 x29 x30 x31 x32 x33 x34 x35 x36 x37 x38 x39 x40 x41) _)
  isplitl [H1 H2 H3 H4 H5 H6 H7 H8 H9 H10 H11 H12 H13 H14 H15 H16 H17 H18 H19 H20 H21 H22 H23 H24 H25 H26 H27 H28 H29 H30 H31 H32 H33 H34 H35 H36 H37 H38 H39 H40 H41]
  · rw [owning_eq]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    iexact H41
  iintro H
  iapply (body_out P c t _ O hs.1 hs.2.1 hs.2.2)
  isplitl [H]; · iexact H
  isplitl [Hg]; · iexact Hg
  iexact Ho

/-- The forgotten results: all but the first, and the first where the plan says so. -/
def forgets (b : Bool) : Fin 17 → Bool := fun w => (w.val == 8 && b) || (9 ≤ w.val : Bool)

/-- The pipeline's proof data. -/
def pdat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => P.y c t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := Phi P c t.val
  q _ := fullShare
  owed _ := 0

theorem pA_eq (c : Dev nD) (w : Fin cfg0.W) : (pdat P 0 c).A w = V m c (Pipeline.arrRef spec0 w) := by dsimp only [pdat]
theorem pafter_0 (c : Dev nD) (t : Fin cfg0.N) : (pdat P 0 c).after 0 t = iblk m c 0 t := by dsimp only [pdat]
theorem pafter_1 (c : Dev nD) (t : Fin cfg0.N) : (pdat P 0 c).after 1 t = iblk m c 1 t := by dsimp only [pdat]
theorem pafter_2 (c : Dev nD) (t : Fin cfg0.N) : (pdat P 0 c).after 2 t = iblk m c 2 t := by dsimp only [pdat]
theorem pafter_3 (c : Dev nD) (t : Fin cfg0.N) : (pdat P 0 c).after 3 t = iblk m c 3 t := by dsimp only [pdat]
theorem pafter_4 (c : Dev nD) (t : Fin cfg0.N) : (pdat P 0 c).after 4 t = iblk m c 4 t := by dsimp only [pdat]
theorem pafter_5 (c : Dev nD) (t : Fin cfg0.N) : (pdat P 0 c).after 5 t = iblk m c 5 t := by dsimp only [pdat]
theorem pafter_6 (c : Dev nD) (t : Fin cfg0.N) : (pdat P 0 c).after 6 t = iblk m c 6 t := by dsimp only [pdat]
theorem pafter_7 (c : Dev nD) (t : Fin cfg0.N) : (pdat P 0 c).after 7 t = iblk m c 7 t := by dsimp only [pdat]
theorem pafter_8 (c : Dev nD) (t : Fin cfg0.N) : (pdat P 0 c).after 8 t = P.y c t := by dsimp only [pdat]
theorem pbefore_0 (c : Dev nD) (t : Fin cfg0.N) (d) : (pdat P 0 c).before 0 t d = iblk m c 0 t :=
  before0_0_of m (pdat P 0 c) (pA_eq P c 0) (pafter_0 P c) t d
theorem pbefore_1 (c : Dev nD) (t : Fin cfg0.N) (d) : (pdat P 0 c).before 1 t d = iblk m c 1 t :=
  before0_1_of m (pdat P 0 c) (pA_eq P c 1) (pafter_1 P c) t d
theorem pbefore_2 (c : Dev nD) (t : Fin cfg0.N) (d) : (pdat P 0 c).before 2 t d = iblk m c 2 t :=
  before0_2_of m (pdat P 0 c) (pA_eq P c 2) (pafter_2 P c) t d
theorem pbefore_3 (c : Dev nD) (t : Fin cfg0.N) (d) : (pdat P 0 c).before 3 t d = iblk m c 3 t :=
  before0_3_of m (pdat P 0 c) (pA_eq P c 3) (pafter_3 P c) t d
theorem pbefore_4 (c : Dev nD) (t : Fin cfg0.N) (d) : (pdat P 0 c).before 4 t d = iblk m c 4 t :=
  before0_4_of m (pdat P 0 c) (pA_eq P c 4) (pafter_4 P c) t d
theorem pbefore_5 (c : Dev nD) (t : Fin cfg0.N) (d) : (pdat P 0 c).before 5 t d = iblk m c 5 t :=
  before0_5_of m (pdat P 0 c) (pA_eq P c 5) (pafter_5 P c) t d
theorem pbefore_6 (c : Dev nD) (t : Fin cfg0.N) (d) : (pdat P 0 c).before 6 t d = iblk m c 6 t :=
  before0_6_of m (pdat P 0 c) (pA_eq P c 6) (pafter_6 P c) t d
theorem pbefore_7 (c : Dev nD) (t : Fin cfg0.N) (d) : (pdat P 0 c).before 7 t d = iblk m c 7 t :=
  before0_7_of m (pdat P 0 c) (pA_eq P c 7) (pafter_7 P c) t d

set_option maxHeartbeats 4000000 in
/-- The body's triple in the pipeline's words, the first result forgotten. -/
theorem sound_t (hf : P.fy = true) (c : Dev nD) (t : Fin cfg0.N) :
    iprop((pdat P 0 c).Φ t.castSucc ∗ (pdat P 0 c).owesAt () t.castSucc ∗ (∃ d, owns (c : Thread nD τ) (ms0_0 t) fullShare ((pdat P 0 c).before 0 t d)) ∗ (∃ d, owns (c : Thread nD τ) (ms0_1 t) fullShare ((pdat P 0 c).before 1 t d)) ∗ (∃ d, owns (c : Thread nD τ) (ms0_2 t) fullShare ((pdat P 0 c).before 2 t d)) ∗ (∃ d, owns (c : Thread nD τ) (ms0_3 t) fullShare ((pdat P 0 c).before 3 t d)) ∗ (∃ d, owns (c : Thread nD τ) (ms0_4 t) fullShare ((pdat P 0 c).before 4 t d)) ∗ (∃ d, owns (c : Thread nD τ) (ms0_5 t) fullShare ((pdat P 0 c).before 5 t d)) ∗ (∃ d, owns (c : Thread nD τ) (ms0_6 t) fullShare ((pdat P 0 c).before 6 t d)) ∗ (∃ d, owns (c : Thread nD τ) (ms0_7 t) fullShare ((pdat P 0 c).before 7 t d)) ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) ⊢ wp frame (wpE (defs₀ (F := F)) Variants.none (c : Thread nD τ) none) Set.univ (bodyAt0 t) (fun _ => iprop((pdat P 0 c).Φ t.succ ∗ (pdat P 0 c).owesAt () t.succ ∗ (pdat P 0 c).leavesExact 0 t ∗ (pdat P 0 c).leavesExact 1 t ∗ (pdat P 0 c).leavesExact 2 t ∗ (pdat P 0 c).leavesExact 3 t ∗ (pdat P 0 c).leavesExact 4 t ∗ (pdat P 0 c).leavesExact 5 t ∗ (pdat P 0 c).leavesExact 6 t ∗ (pdat P 0 c).leavesExact 7 t ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d))) := by
  have hpost : iprop(Phi P c (t.val + 1) ∗ (pdat P 0 c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, ⌜P.fy = false → d = P.y c t⌝ ∗ owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) ⊢ iprop((pdat P 0 c).Φ t.succ ∗ (pdat P 0 c).owesAt () t.succ ∗ (pdat P 0 c).leavesExact 0 t ∗ (pdat P 0 c).leavesExact 1 t ∗ (pdat P 0 c).leavesExact 2 t ∗ (pdat P 0 c).leavesExact 3 t ∗ (pdat P 0 c).leavesExact 4 t ∗ (pdat P 0 c).leavesExact 5 t ∗ (pdat P 0 c).leavesExact 6 t ∗ (pdat P 0 c).leavesExact 7 t ∗ (∃ d, owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) := by
    rw [show (pdat P 0 c).leavesExact 0 t = owns (c : Thread nD τ) (ms0_0 t) fullShare ((pdat P 0 c).after 0 t) from by
      unfold Dat.leavesExact; rw [liveAt0_0 t], pafter_0]
    rw [show (pdat P 0 c).leavesExact 1 t = owns (c : Thread nD τ) (ms0_1 t) fullShare ((pdat P 0 c).after 1 t) from by
      unfold Dat.leavesExact; rw [liveAt0_1 t], pafter_1]
    rw [show (pdat P 0 c).leavesExact 2 t = owns (c : Thread nD τ) (ms0_2 t) fullShare ((pdat P 0 c).after 2 t) from by
      unfold Dat.leavesExact; rw [liveAt0_2 t], pafter_2]
    rw [show (pdat P 0 c).leavesExact 3 t = owns (c : Thread nD τ) (ms0_3 t) fullShare ((pdat P 0 c).after 3 t) from by
      unfold Dat.leavesExact; rw [liveAt0_3 t], pafter_3]
    rw [show (pdat P 0 c).leavesExact 4 t = owns (c : Thread nD τ) (ms0_4 t) fullShare ((pdat P 0 c).after 4 t) from by
      unfold Dat.leavesExact; rw [liveAt0_4 t], pafter_4]
    rw [show (pdat P 0 c).leavesExact 5 t = owns (c : Thread nD τ) (ms0_5 t) fullShare ((pdat P 0 c).after 5 t) from by
      unfold Dat.leavesExact; rw [liveAt0_5 t], pafter_5]
    rw [show (pdat P 0 c).leavesExact 6 t = owns (c : Thread nD τ) (ms0_6 t) fullShare ((pdat P 0 c).after 6 t) from by
      unfold Dat.leavesExact; rw [liveAt0_6 t], pafter_6]
    rw [show (pdat P 0 c).leavesExact 7 t = owns (c : Thread nD τ) (ms0_7 t) fullShare ((pdat P 0 c).after 7 t) from by
      unfold Dat.leavesExact; rw [liveAt0_7 t], pafter_7]
    change _ ⊢ iprop(Phi P c (t.val + 1) ∗ (pdat P 0 c).owesAt () t.castSucc ∗ _)
    iintro ⟨HP, Ho, H1, H2, H3, H4, H5, H6, H7, H8, ⟨%d9, %h9, H9⟩, H10, H11, H12, H13, H14, H15, H16, H17⟩
    isplitl [HP]; · iexact HP
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  refine BIBase.Entails.trans ?_ ((body_core P c t ((pdat P 0 c).owesAt () t.castSucc)).trans (wp_mono _ _ _ fun _ => hpost))
  simp only [pbefore_0, pbefore_1, pbefore_2, pbefore_3, pbefore_4, pbefore_5, pbefore_6, pbefore_7]
  change iprop(Phi P c t.val ∗ _) ⊢ _
  iintro ⟨HP, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  isplitl [HP]; · iexact HP
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

set_option maxHeartbeats 4000000 in
/-- The body's triple in the pipeline's words, the first result named. -/
theorem sound_f (hf : P.fy = false) (c : Dev nD) (t : Fin cfg0.N) :
    iprop((pdat P 0 c).Φ t.castSucc ∗ (pdat P 0 c).owesAt () t.castSucc ∗ (∃ d, owns (c : Thread nD τ) (ms0_0 t) fullShare ((pdat P 0 c).before 0 t d)) ∗ (∃ d, owns (c : Thread nD τ) (ms0_1 t) fullShare ((pdat P 0 c).before 1 t d)) ∗ (∃ d, owns (c : Thread nD τ) (ms0_2 t) fullShare ((pdat P 0 c).before 2 t d)) ∗ (∃ d, owns (c : Thread nD τ) (ms0_3 t) fullShare ((pdat P 0 c).before 3 t d)) ∗ (∃ d, owns (c : Thread nD τ) (ms0_4 t) fullShare ((pdat P 0 c).before 4 t d)) ∗ (∃ d, owns (c : Thread nD τ) (ms0_5 t) fullShare ((pdat P 0 c).before 5 t d)) ∗ (∃ d, owns (c : Thread nD τ) (ms0_6 t) fullShare ((pdat P 0 c).before 6 t d)) ∗ (∃ d, owns (c : Thread nD τ) (ms0_7 t) fullShare ((pdat P 0 c).before 7 t d)) ∗ (∃ d, owns (c : Thread nD τ) (ms0_8 t) fullShare ((pdat P 0 c).before 8 t d)) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) ⊢ wp frame (wpE (defs₀ (F := F)) Variants.none (c : Thread nD τ) none) Set.univ (bodyAt0 t) (fun _ => iprop((pdat P 0 c).Φ t.succ ∗ (pdat P 0 c).owesAt () t.succ ∗ (pdat P 0 c).leavesExact 0 t ∗ (pdat P 0 c).leavesExact 1 t ∗ (pdat P 0 c).leavesExact 2 t ∗ (pdat P 0 c).leavesExact 3 t ∗ (pdat P 0 c).leavesExact 4 t ∗ (pdat P 0 c).leavesExact 5 t ∗ (pdat P 0 c).leavesExact 6 t ∗ (pdat P 0 c).leavesExact 7 t ∗ (pdat P 0 c).leavesExact 8 t ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d))) := by
  have hpost : iprop(Phi P c (t.val + 1) ∗ (pdat P 0 c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, ⌜P.fy = false → d = P.y c t⌝ ∗ owns (c : Thread nD τ) (ms0_8 t) fullShare d) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) ⊢ iprop((pdat P 0 c).Φ t.succ ∗ (pdat P 0 c).owesAt () t.succ ∗ (pdat P 0 c).leavesExact 0 t ∗ (pdat P 0 c).leavesExact 1 t ∗ (pdat P 0 c).leavesExact 2 t ∗ (pdat P 0 c).leavesExact 3 t ∗ (pdat P 0 c).leavesExact 4 t ∗ (pdat P 0 c).leavesExact 5 t ∗ (pdat P 0 c).leavesExact 6 t ∗ (pdat P 0 c).leavesExact 7 t ∗ (pdat P 0 c).leavesExact 8 t ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d)) := by
    rw [show (pdat P 0 c).leavesExact 0 t = owns (c : Thread nD τ) (ms0_0 t) fullShare ((pdat P 0 c).after 0 t) from by
      unfold Dat.leavesExact; rw [liveAt0_0 t], pafter_0]
    rw [show (pdat P 0 c).leavesExact 1 t = owns (c : Thread nD τ) (ms0_1 t) fullShare ((pdat P 0 c).after 1 t) from by
      unfold Dat.leavesExact; rw [liveAt0_1 t], pafter_1]
    rw [show (pdat P 0 c).leavesExact 2 t = owns (c : Thread nD τ) (ms0_2 t) fullShare ((pdat P 0 c).after 2 t) from by
      unfold Dat.leavesExact; rw [liveAt0_2 t], pafter_2]
    rw [show (pdat P 0 c).leavesExact 3 t = owns (c : Thread nD τ) (ms0_3 t) fullShare ((pdat P 0 c).after 3 t) from by
      unfold Dat.leavesExact; rw [liveAt0_3 t], pafter_3]
    rw [show (pdat P 0 c).leavesExact 4 t = owns (c : Thread nD τ) (ms0_4 t) fullShare ((pdat P 0 c).after 4 t) from by
      unfold Dat.leavesExact; rw [liveAt0_4 t], pafter_4]
    rw [show (pdat P 0 c).leavesExact 5 t = owns (c : Thread nD τ) (ms0_5 t) fullShare ((pdat P 0 c).after 5 t) from by
      unfold Dat.leavesExact; rw [liveAt0_5 t], pafter_5]
    rw [show (pdat P 0 c).leavesExact 6 t = owns (c : Thread nD τ) (ms0_6 t) fullShare ((pdat P 0 c).after 6 t) from by
      unfold Dat.leavesExact; rw [liveAt0_6 t], pafter_6]
    rw [show (pdat P 0 c).leavesExact 7 t = owns (c : Thread nD τ) (ms0_7 t) fullShare ((pdat P 0 c).after 7 t) from by
      unfold Dat.leavesExact; rw [liveAt0_7 t], pafter_7]
    rw [show (pdat P 0 c).leavesExact 8 t = owns (c : Thread nD τ) (ms0_8 t) fullShare ((pdat P 0 c).after 8 t) from by
      unfold Dat.leavesExact; rw [liveAt0_8 t], pafter_8]
    change _ ⊢ iprop(Phi P c (t.val + 1) ∗ (pdat P 0 c).owesAt () t.castSucc ∗ _)
    iintro ⟨HP, Ho, H1, H2, H3, H4, H5, H6, H7, H8, ⟨%d9, %h9, H9⟩, H10, H11, H12, H13, H14, H15, H16, H17⟩
    isplitl [HP]; · iexact HP
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    obtain rfl := h9 hf
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  refine BIBase.Entails.trans ?_ ((body_core P c t ((pdat P 0 c).owesAt () t.castSucc)).trans (wp_mono _ _ _ fun _ => hpost))
  simp only [pbefore_0, pbefore_1, pbefore_2, pbefore_3, pbefore_4, pbefore_5, pbefore_6, pbefore_7]
  change iprop(Phi P c t.val ∗ _) ⊢ _
  iintro ⟨HP, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  isplitl [HP]; · iexact HP
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

/-- The body table's row at point `t`'s slots. -/
theorem row_eq (t : Fin cfg0.N) : defs₀ (F := F) .tc cfg0.body (cfg0.bodyArgs t (cfg0.slots t)) = bodyAt0 t := by
  unfold defs₀; rw [Defs.onTc_tc]

/-- The pipeline's obligation. -/
theorem obligation (c : Dev nD) : BodyObligation (pdat P 0 c) (defs₀ (F := F)) Variants.none () Set.univ (forgets P.fy) := fun t => by
  rw [bigSep_W0, bigSep_W0, row_eq]
  rcases hf : P.fy with _ | _
  · exact triple_restated (sound_f P hf c t) rfl .rfl fun _ => .rfl
  · exact triple_restated (sound_t P hf c t) rfl .rfl fun _ => .rfl

theorem pin (c : Dev nD) : Pipeline.ΦA spec0 c ⊢ (pdat P 0 c).Φ 0 := by
  rw [PhiA0_eq]
  change _ ⊢ Phi P c 0
  unfold Phi
  iintro ⟨⟨⟨%x18, H18⟩, ⟨%x19, H19⟩, ⟨%x20, H20⟩, ⟨%x21, H21⟩, ⟨%x22, H22⟩, H23, H24, H25, H26, H27, H28, H29, H30, H31, H32, H33, H34, H35, H36, H37, H38, H39, H40, H41⟩, Hg⟩
  iexists x18, x19, x20, x21, x22
  isplitr
  · ipureintro; exact P.zero c x18 x19 x20 x21 x22
  isplitl [H18 H19 H20 H21 H22 H23 H24 H25 H26 H27 H28 H29 H30 H31 H32 H33 H34 H35 H36 H37 H38 H39 H40 H41]
  · isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    iexact H41
  iexact Hg

theorem pout (c : Dev nD) : (pdat P 0 c).Φ (Fin.last cfg0.N) ⊢ Pipeline.ΦA spec0 c := by
  rw [PhiA0_eq]
  change Phi P c cfg0.N ⊢ _
  unfold Phi
  iintro ⟨%x18, %x19, %x20, %x21, %x22, %hinv, ⟨H18, H19, H20, H21, H22, H23, H24, H25, H26, H27, H28, H29, H30, H31, H32, H33, H34, H35, H36, H37, H38, H39, H40, H41⟩, Hg⟩
  isplitl [H18 H19 H20 H21 H22 H23 H24 H25 H26 H27 H28 H29 H30 H31 H32 H33 H34 H35 H36 H37 H38 H39 H40 H41]
  · isplitl [H18]; · iexists _; iexact H18
    isplitl [H19]; · iexists _; iexact H19
    isplitl [H20]; · iexists _; iexact H20
    isplitl [H21]; · iexists _; iexact H21
    isplitl [H22]; · iexists _; iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    iexact H41
  iexact Hg

set_option backward.isDefEq.respectTransparency.types false in
/-- The launch. -/
theorem launch_run : θ_run defs (onTc (τ := τ) (main (F := F))) (s₀ m ρ)
    (fun r => (Pipeline.RDat.FramePost (cfgs 0) (fun c => (pdat P 0 c).toRForget (forgets P.fy)) (V m)) r ∧ r.2.sem = fun _ => 0) :=
  Pipeline.θ_run_frame_track_forget (Q' := _) cfgs (pdat P) (0 : Fin 1) launch0 defs₀ Variants.none (forgets P.fy) m ρ main
    (hbody := fun c => (obligation P c).loose) (hshare := fun c => (pdat P 0 c).share_full fun _ => rfl)
    (howed := fun _ _ => rfl) (V := V m) (hmain := hmain m Variants.none) (hA := pA_eq P) (hin := pin P) (hout := pout P)

set_option maxHeartbeats 1020000 in
/-- The arguments are left alone and every semaphore is at zero. -/
theorem args_kept (P : Plan m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (launch_run ρ P)

end Cert.KernelIdeal.Y
-- ==== Proof.Still.lean ====
/-
  A grid point leaves its inputs alone; with nothing named, the launch ends and leaves the arguments alone.
-/
module

public import proofs.«01_k».proof.Proof.Keeps
public import proofs.«01_k».proof.Proof.Run

@[expose] public section

set_option synthInstance.maxSize 4096
set_option maxRecDepth 16384

noncomputable section

namespace Cert.KernelIdeal.Y

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A grid point leaves its inputs alone. -/
theorem pt_keeps (i : grid0.Coords) (σ : St F) (j : B)
    (hj : j ∉ ([.b20, .b21, .b18, .b19, .b30, .b22, .b13, .b12, .b23, .b24, .b26, .b15, .b14, .b25, .b27, .b29, .b32, .b33, .b34, .b31, .b28, .b11, .b35, .b36, .b10, .b37, .b39, .b38, .b40, .b9, .b41, .b16, .b17] : List B)) : (run (pt i) σ).2 j = σ j := by
  refine writes_bind (W := [.b20, .b21, .b18, .b19, .b30, .b22, .b13, .b12, .b23, .b24, .b26, .b15, .b14, .b25, .b27, .b29, .b32, .b33, .b34, .b31, .b28, .b11, .b35, .b36, .b10, .b37, .b39, .b38, .b40, .b9, .b41, .b16, .b17]) ?_ (fun _ => writes_bind ?_ fun _ => ?_) σ j hj
  · exact writes_ite (writes_mono writes_initP (by decide)) (writes_ret _)
  · exact writes_mono writes_main (by decide)
  · exact writes_ite (writes_mono writes_finP (by decide)) (writes_ret _)

theorem pt_ins (m : (ℓ : Loc nD τ sig) → Buf (Elt F) ℓ) (c : Dev nD) (t : Fin cfg0.N) (σ : St F) (h : Ins m c t σ) :
    Ins m c t (run (pt (grid0.coords t)) σ).2 :=
  ⟨(pt_keeps _ σ .b1 (by decide)).trans h.i1, (pt_keeps _ σ .b2 (by decide)).trans h.i2, (pt_keeps _ σ .b3 (by decide)).trans h.i3,
   (pt_keeps _ σ .b4 (by decide)).trans h.i4, (pt_keeps _ σ .b5 (by decide)).trans h.i5, (pt_keeps _ σ .b6 (by decide)).trans h.i6,
   (pt_keeps _ σ .b7 (by decide)).trans h.i7, (pt_keeps _ σ .b8 (by decide)).trans h.i8⟩

/-- Nothing named. -/
def nothing (m : (ℓ : Loc nD τ sig) → Buf (Elt F) ℓ) : Plan m where
  fy := true
  y := fun c t => iblk m c 0 t
  inv := fun _ _ _ _ _ _ _ => True
  zero := fun _ _ _ _ _ _ => trivial
  step := fun c t σ h _ => ⟨trivial, fun e => absurd e (by decide), pt_ins m c t σ h⟩

end Cert.KernelIdeal.Y
-- ==== Proof.Maths.lean ====
/-
  The mathematics the kernel and the reference share, free of both: powers of two as bit patterns, the exponent a quantiser chooses
  and why its clip changes nothing, maxima, and extended-real sums with a positive factor.
-/
module

public import Idealize.ShloMosaic.Lib.Pointwise

@[expose] public section

set_option maxRecDepth 16384

noncomputable section

namespace Cert.Y

open Idealize.ShloMosaic

/-! ## Powers of two as words -/

theorem pow_fields (n : Fin 255) : ((BitVec.ofNat 32 n.val <<< 23).extractLsb' 23 8).toNat = n.val
    ∧ ((BitVec.ofNat 32 n.val <<< 23).extractLsb' 0 23).toNat = 0
    ∧ ((BitVec.ofNat 32 n.val <<< 23).extractLsb' 31 1 == 1#1) = false := by
  revert n; decide +kernel

theorem pow_bits {n : ℕ} (h1 : 1 ≤ n) (h2 : n ≤ 254) :
    Ideal.ofBits .f32 (BitVec.ofNat 32 n <<< 23) = (((2 : ℝ) ^ ((n : ℤ) - 127) : ℝ) : EReal) := by
  obtain ⟨e1, e2, e3⟩ := pow_fields ⟨n, by omega⟩
  change Ideal.ieee 8 23 (BitVec.ofNat 32 n <<< 23) = _
  simp only [Ideal.ieee, e1, e2, e3]
  rw [if_neg (by omega), if_neg (by omega), EReal.coe_eq_coe_iff]
  have : ((n : ℤ) - 127) = 23 + ((n : ℤ) - 127 - 23) := by ring
  conv_rhs => rw [this, zpow_add₀ (by norm_num)]
  norm_num

theorem pow_word {e : ℤ} (h1 : -126 ≤ e) (h2 : e ≤ 127) :
    Ideal.ofBits .f32 (IntOp.shli ArithUnit.vector (IntOp.addi (BitVec.ofInt 32 e) 127#32) 23#32) = (((2 : ℝ) ^ e : ℝ) : EReal) := by
  have hw : IntOp.addi (BitVec.ofInt 32 e) 127#32 = BitVec.ofNat 32 (e + 127).toNat := by
    change BitVec.ofInt 32 e + 127#32 = _
    rw [show (127#32 : BitVec 32) = BitVec.ofInt 32 127 from rfl, ← BitVec.ofInt_add, ← BitVec.ofInt_natCast]
    congr 1; omega
  rw [hw]
  change Ideal.ofBits .f32 (BitVec.ofNat 32 (e + 127).toNat <<< 23) = _
  rw [pow_bits (by omega) (by omega)]
  congr 2; omega

theorem pow_word_neg {e : ℤ} (h1 : -127 ≤ e) (h2 : e ≤ 126) :
    Ideal.ofBits .f32 (IntOp.shli ArithUnit.vector (IntOp.addi (IntOp.subi 0#32 (BitVec.ofInt 32 e)) 127#32) 23#32)
      = (((2 : ℝ) ^ (-e) : ℝ) : EReal) := by
  have hw : IntOp.subi 0#32 (BitVec.ofInt 32 e) = BitVec.ofInt 32 (-e) := by
    change 0#32 - BitVec.ofInt 32 e = _
    rw [BitVec.ofInt_neg]; simp
  rw [hw, pow_word (by omega) (by omega)]

theorem sitofp_ofInt {e : ℤ} (h1 : -1000 ≤ e) (h2 : e ≤ 1000) : FloatOps.sitofp (F := Ideal) .f32 (BitVec.ofInt 32 e) = ((e : ℝ) : EReal) := by
  change (((BitVec.ofInt 32 e).toInt : ℝ) : EReal) = _
  rw [BitVec.toInt_ofInt, Int.bmod_eq_of_le (by norm_num; omega) (by norm_num; omega)]

/-! ## The exponent -/

/-- A magnitude the quantiser takes: zero, or within a wide range. -/
def Sn (v : EReal) : Prop := ∃ r : ℝ, v = r ∧ 0 ≤ r ∧ (r = 0 ∨ (2 : ℝ) ^ (-100 : ℤ) ≤ r) ∧ r ≤ (2 : ℝ) ^ (100 : ℤ)

/-- The constant both programs multiply a maximum by. -/
def kap : ℝ := 9586981 * (2 : ℝ) ^ (-32 : ℤ)

theorem kap_bits : Ideal.ofBits .f32 991054117#32 = ((kap : ℝ) : EReal) := by
  change Ideal.ieee 8 23 991054117#32 = _
  have e1 : ((991054117#32 : BitVec 32).extractLsb' 23 8).toNat = 118 := by decide
  have e2 : ((991054117#32 : BitVec 32).extractLsb' 0 23).toNat = 1198373 := by decide
  have e3 : ((991054117#32 : BitVec 32).extractLsb' 31 1 == 1#1) = false := by decide
  simp only [Ideal.ieee, e1, e2, e3, kap]
  norm_num

theorem kap_pos : 0 < kap := by unfold kap; positivity
theorem kap_ge : 1 / 448 ≤ kap := by unfold kap; norm_num
theorem kap_le : kap ≤ 1 := by unfold kap; norm_num

/-- The exponent chosen for a maximum `a`. -/
def ex (a : ℝ) : ℤ := if a = 0 then 0 else ⌊Real.log (a * kap) * (Real.log 2)⁻¹⌋ + 1

theorem log2_pos : 0 < Real.log 2 := Real.log_pos (by norm_num)

theorem log_zpow (n : ℤ) : Real.log ((2 : ℝ) ^ n) * (Real.log 2)⁻¹ = n := by
  rw [Real.log_zpow, mul_assoc, mul_inv_cancel₀ log2_pos.ne', mul_one]

theorem ex_range {a : ℝ} (h0 : 0 ≤ a) (h1 : a = 0 ∨ (2 : ℝ) ^ (-100 : ℤ) ≤ a) (h2 : a ≤ (2 : ℝ) ^ (100 : ℤ)) : -110 ≤ ex a ∧ ex a ≤ 101 := by
  unfold ex
  split_ifs with h
  · norm_num
  · have ha := h1.resolve_left h
    have hi : 0 < (Real.log 2)⁻¹ := inv_pos.mpr log2_pos
    have hp : 0 < a := lt_of_lt_of_le (by positivity) ha
    have hlo : (2 : ℝ) ^ (-109 : ℤ) ≤ a * kap := by
      calc (2 : ℝ) ^ (-109 : ℤ) = (2 : ℝ) ^ (-100 : ℤ) * (1 / 512) := by norm_num
        _ ≤ a * kap := mul_le_mul ha (le_trans (by norm_num) kap_ge) (by norm_num) h0
    have hhi : a * kap ≤ (2 : ℝ) ^ (100 : ℤ) := by
      calc a * kap ≤ (2 : ℝ) ^ (100 : ℤ) * 1 := mul_le_mul h2 kap_le kap_pos.le (by positivity)
        _ = _ := mul_one _
    have l1 := mul_le_mul_of_nonneg_right (Real.log_le_log (by positivity) hlo) hi.le
    have l2 := mul_le_mul_of_nonneg_right (Real.log_le_log (mul_pos hp kap_pos) hhi) hi.le
    rw [log_zpow] at l1 l2
    have f1 : (-109 : ℤ) ≤ ⌊Real.log (a * kap) * (Real.log 2)⁻¹⌋ := Int.le_floor.mpr (by exact_mod_cast l1)
    have f2 : ⌊Real.log (a * kap) * (Real.log 2)⁻¹⌋ ≤ 100 := by
      have := (Int.floor_le (Real.log (a * kap) * (Real.log 2)⁻¹)).trans l2
      exact_mod_cast this
    omega

theorem ex_bound {a : ℝ} (h0 : 0 ≤ a) : a ≤ 448 * (2 : ℝ) ^ ex a := by
  unfold ex
  split_ifs with h
  · rw [h]; norm_num
  · have hp : 0 < a := lt_of_le_of_ne h0 (Ne.symm h)
    have hpk : 0 < a * kap := mul_pos hp kap_pos
    have hlt := Int.lt_floor_add_one (Real.log (a * kap) * (Real.log 2)⁻¹)
    set n : ℤ := ⌊Real.log (a * kap) * (Real.log 2)⁻¹⌋ + 1 with hn
    have h3 : Real.log (a * kap) * (Real.log 2)⁻¹ < (n : ℝ) := by rw [hn]; push_cast; exact hlt
    rw [← log_zpow n] at h3
    have h4 : Real.log (a * kap) < Real.log ((2 : ℝ) ^ n) := lt_of_mul_lt_mul_right h3 (inv_pos.mpr log2_pos).le
    have h5 : a * kap < (2 : ℝ) ^ n := (Real.log_lt_log_iff hpk (by positivity)).mp h4
    have h6 : a * (1 / 448) ≤ a * kap := mul_le_mul_of_nonneg_left kap_ge h0
    linarith

/-- The word the kernel computes for a maximum `a`. -/
theorem ex_word {a : ℝ} (h0 : 0 ≤ a) (h1 : a = 0 ∨ (2 : ℝ) ^ (-100 : ℤ) ≤ a) (h2 : a ≤ (2 : ℝ) ^ (100 : ℤ)) :
    (if (a : EReal) * Ideal.ofBits .f32 991054117#32 = 0 then 0#32
      else IntOp.addi (FloatOps.fptosi (F := Ideal) (φ := .f32) 32 (Ideal.liftRound Int.floor (Ideal.log ((a : EReal) * Ideal.ofBits .f32 991054117#32)
        * (((Real.log 2)⁻¹ : ℝ) : EReal)))) 1#32) = BitVec.ofInt 32 (ex a) := by
  have hr := ex_range h0 h1 h2
  rw [kap_bits, ← EReal.coe_mul]
  by_cases h : a = 0
  · rw [if_pos (by rw [h]; simp), ex, if_pos h]; rfl
  · have hp : 0 < a := lt_of_le_of_ne h0 (Ne.symm h)
    have hpk : 0 < a * kap := mul_pos hp kap_pos
    rw [if_neg (by rw [EReal.coe_eq_zero]; exact hpk.ne'), Ideal.log_coe, if_neg (not_le.mpr hpk), ← EReal.coe_mul, Ideal.liftRound_coe]
    rw [ex, if_neg h] at hr ⊢
    set n : ℤ := ⌊Real.log (a * kap) * (Real.log 2)⁻¹⌋ with hn
    change Ideal.fptosi 32 ((n : ℝ) : EReal) + 1#32 = _
    rw [Ideal.fptosi, Ideal.toIntClamped_coe, Int.floor_intCast, Int.ceil_intCast, ite_self]
    rw [show max (-((2 ^ (32 - 1) : ℕ) : ℤ)) (min (((2 ^ (32 - 1) : ℕ) : ℤ) - 1) n) = n from by
      rw [min_eq_right (by norm_num; omega), max_eq_right (by norm_num; omega)]]
    rw [show (1#32 : BitVec 32) = BitVec.ofInt 32 1 from rfl, ← BitVec.ofInt_add]

/-- The clip changes nothing. -/
theorem clip_id {v a : ℝ} (h : |v| ≤ a) (h0 : 0 ≤ a) :
    min ((448 : ℝ) : EReal) (max ((-448 : ℝ) : EReal) ((v : EReal) * (((2 : ℝ) ^ (-ex a) : ℝ) : EReal))) = ((v * (2 : ℝ) ^ (-ex a) : ℝ) : EReal) := by
  have hb := ex_bound h0
  have hp : (0 : ℝ) < 2 ^ ex a := by positivity
  have h1 : |v * (2 : ℝ) ^ (-ex a)| ≤ 448 := by
    rw [abs_mul, abs_of_pos (by positivity : (0 : ℝ) < 2 ^ (-ex a)), zpow_neg, ← div_eq_mul_inv, div_le_iff₀ hp]
    exact h.trans hb
  have h2 := abs_le.mp h1
  rw [← EReal.coe_mul, max_eq_right (by exact_mod_cast h2.1), min_eq_right (by exact_mod_cast h2.2)]

theorem ofBits_448 : Ideal.ofBits .bf16 17376#16 = ((448 : ℝ) : EReal) := by
  change Ideal.ieee 8 7 17376#16 = _
  have e1 : ((17376#16 : BitVec 16).extractLsb' 7 8).toNat = 135 := by decide
  have e2 : ((17376#16 : BitVec 16).extractLsb' 0 7).toNat = 96 := by decide
  have e3 : ((17376#16 : BitVec 16).extractLsb' 15 1 == 1#1) = false := by decide
  simp only [Ideal.ieee, e1, e2, e3]
  norm_num

theorem ofBits_neg448 : Ideal.ofBits .bf16 50144#16 = ((-448 : ℝ) : EReal) := by
  change Ideal.ieee 8 7 50144#16 = _
  have e1 : ((50144#16 : BitVec 16).extractLsb' 7 8).toNat = 135 := by decide
  have e2 : ((50144#16 : BitVec 16).extractLsb' 0 7).toNat = 96 := by decide
  have e3 : ((50144#16 : BitVec 16).extractLsb' 15 1 == 1#1) = true := by decide
  simp only [Ideal.ieee, e1, e2, e3]
  norm_num

theorem ofBits_448f : Ideal.ofBits .f32 0x43E00000#32 = ((448 : ℝ) : EReal) := by
  change Ideal.ieee 8 23 0x43E00000#32 = _
  have e1 : ((0x43E00000#32 : BitVec 32).extractLsb' 23 8).toNat = 135 := by decide
  have e2 : ((0x43E00000#32 : BitVec 32).extractLsb' 0 23).toNat = 6291456 := by decide
  have e3 : ((0x43E00000#32 : BitVec 32).extractLsb' 31 1 == 1#1) = false := by decide
  simp only [Ideal.ieee, e1, e2, e3]
  norm_num

theorem ofBits_neg448f : Ideal.ofBits .f32 0xC3E00000#32 = ((-448 : ℝ) : EReal) := by
  change Ideal.ieee 8 23 0xC3E00000#32 = _
  have e1 : ((0xC3E00000#32 : BitVec 32).extractLsb' 23 8).toNat = 135 := by decide
  have e2 : ((0xC3E00000#32 : BitVec 32).extractLsb' 0 23).toNat = 6291456 := by decide
  have e3 : ((0xC3E00000#32 : BitVec 32).extractLsb' 31 1 == 1#1) = true := by decide
  simp only [Ideal.ieee, e1, e2, e3]
  norm_num

theorem ofBits_bot : Ideal.ofBits .f32 4286578688#32 = ⊥ := by
  change Ideal.ieee 8 23 4286578688#32 = _
  have e1 : ((4286578688#32 : BitVec 32).extractLsb' 23 8).toNat = 255 := by decide
  have e2 : ((4286578688#32 : BitVec 32).extractLsb' 0 23).toNat = 0 := by decide
  have e3 : ((4286578688#32 : BitVec 32).extractLsb' 31 1 == 1#1) = true := by decide
  simp only [Ideal.ieee, e1, e2, e3]
  norm_num

theorem ofBits_bot16 : Ideal.ofBits .bf16 65408#16 = ⊥ := by
  change Ideal.ieee 8 7 65408#16 = _
  have e1 : ((65408#16 : BitVec 16).extractLsb' 7 8).toNat = 255 := by decide
  have e2 : ((65408#16 : BitVec 16).extractLsb' 0 7).toNat = 0 := by decide
  have e3 : ((65408#16 : BitVec 16).extractLsb' 15 1 == 1#1) = true := by decide
  simp only [Ideal.ieee, e1, e2, e3]
  norm_num

/-! ## Maxima -/

theorem Sn.max {u v : EReal} (hu : Sn u) (hv : Sn v) : Sn (max u v) := by
  rcases max_choice u v with h | h <;> rw [h] <;> assumption

theorem fold_sup {n : ℕ} (f : Fin n → EReal) : Finset.fold Max.max ⊥ f Finset.univ = Finset.univ.sup f := by
  rw [Finset.sup_def, Finset.fold]; rfl

theorem Sn.fold {n : ℕ} {f : Fin (n + 1) → EReal} (h : ∀ i, Sn (f i)) : Sn (Finset.fold Max.max ⊥ f Finset.univ) := by
  rw [fold_sup]
  obtain ⟨i, -, hi⟩ := Finset.exists_mem_eq_sup Finset.univ Finset.univ_nonempty f
  rw [hi]; exact h i

theorem le_fold {n : ℕ} (f : Fin n → EReal) (i : Fin n) : f i ≤ Finset.fold Max.max ⊥ f Finset.univ := by
  rw [fold_sup]; exact Finset.le_sup (Finset.mem_univ i)

/-- A value the quantiser takes. -/
def Ok (v : EReal) : Prop := Sn (max v (-v))

theorem Ok.real {v : EReal} (h : Ok v) : v = ((v.toReal : ℝ) : EReal) := by
  obtain ⟨r, hr, -⟩ := h
  induction v with
  | bot => simp at hr
  | top => simp at hr
  | coe x => simp

theorem abs_real (v : ℝ) : max (v : EReal) (-(v : EReal)) = ((|v| : ℝ) : EReal) := by
  rw [← EReal.coe_neg]
  rcases le_total 0 v with h | h
  · rw [abs_of_nonneg h, max_eq_left (by exact_mod_cast (by linarith : -v ≤ v))]
  · rw [abs_of_nonpos h, max_eq_right (by exact_mod_cast (by linarith : v ≤ -v))]

/-! ## Extended-real sums with a positive factor -/

theorem sum_mul_coe {ι : Type} (s : Finset ι) (f : ι → EReal) {c : ℝ} (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih]
    exact (EReal.right_distrib_of_nonneg_of_ne_top (by exact_mod_cast hc) (EReal.coe_ne_top c) _ _).symm

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Y
-- ==== Proof.Rows.lean ====
/-
  Reading a buffer after one store of a block of whole rows, and loops whose rounds each fill their own rows.
-/
module

public import proofs.«01_k».proof.Proof.Keeps
public import proofs.«01_k».proof.Proof.Maths

@[expose] public section

set_option synthInstance.maxSize 4096
set_option maxRecDepth 16384

noncomputable section

namespace Cert.KernelIdeal.Y

open Cert.KernelIdeal Cert.KernelIdeal.Gen
open Idealize.ShloMosaic Idealize.ShloMosaic.TcCoe

variable {F : FTy → Type} [FloatOps F] [Named F]

theorem wr_row2 {R C r o : ℕ} {e : EltTy} (inb : ∀ a, (![o, 0] : Fin 2 → ℕ) a + (![r, C] : Fin 2 → ℕ) a ≤ (![R, C] : Fin 2 → ℕ) a)
    (v : (⟨2, ![r, C]⟩ : Shape).Idx → Elt F e) (X : (⟨2, ![R, C]⟩ : Shape).Idx → Elt F e) (a : Fin R) (b : Fin C) :
    wr (F := F) (e := e) (Rect.unit (s := ⟨2, ![R, C]⟩) ![o, 0] ![r, C] inb) v X (ix2 a b)
      = if h : o ≤ a.val ∧ a.val < o + r then v (ix2 ⟨a.val - o, by omega⟩ b) else X (ix2 a b) := by
  split
  · rename_i h
    have he : (Rect.unit (s := ⟨2, ![R, C]⟩) ![o, 0] ![r, C] inb).emb (ix2 ⟨a.val - o, by omega⟩ b) = ix2 a b := by
      funext i
      refine Fin.ext ?_
      fin_cases i
      · change o + 1 * (a.val - o) = a.val; omega
      · change 0 + 1 * b.val = b.val; omega
    rw [← he]
    exact wr_emb _ _ _ _
  · rename_i h
    refine wr_not _ _ _ fun x hx => h ?_
    have h0 : ((Rect.unit (s := ⟨2, ![R, C]⟩) ![o, 0] ![r, C] inb).emb x 0).val = a.val := by rw [hx]; rfl
    change o + 1 * (x 0).val = a.val at h0
    have h1 : (x 0).val < r := (x 0).isLt
    omega

theorem wr_all2 {R C : ℕ} {e : EltTy} (inb : ∀ a, (![0, 0] : Fin 2 → ℕ) a + (![R, C] : Fin 2 → ℕ) a ≤ (![R, C] : Fin 2 → ℕ) a)
    (v X : (⟨2, ![R, C]⟩ : Shape).Idx → Elt F e) (a : Fin R) (b : Fin C) :
    wr (F := F) (e := e) (Rect.unit (s := ⟨2, ![R, C]⟩) ![0, 0] ![R, C] inb) v X (ix2 a b) = v (ix2 a b) := by
  rw [wr_row2, dif_pos ⟨Nat.zero_le _, by omega⟩]; rfl

theorem wr_row3 {G L C g : ℕ} {e : EltTy} (inb : ∀ a, (![g, 0, 0] : Fin 3 → ℕ) a + (![1, L, C] : Fin 3 → ℕ) a ≤ (![G, L, C] : Fin 3 → ℕ) a)
    (v : (⟨3, ![1, L, C]⟩ : Shape).Idx → Elt F e) (X : (⟨3, ![G, L, C]⟩ : Shape).Idx → Elt F e) (k : Fin G) (a : Fin L) (b : Fin C) :
    wr (F := F) (e := e) (Rect.unit (s := ⟨3, ![G, L, C]⟩) ![g, 0, 0] ![1, L, C] inb) v X (ix3 k a b)
      = if k.val = g then v (ix3 0 a b) else X (ix3 k a b) := by
  split
  · rename_i h
    have he : (Rect.unit (s := ⟨3, ![G, L, C]⟩) ![g, 0, 0] ![1, L, C] inb).emb (ix3 (0 : Fin 1) a b) = ix3 k a b := by
      funext i
      refine Fin.ext ?_
      fin_cases i
      · change g + 1 * 0 = k.val; omega
      · change 0 + 1 * a.val = a.val; omega
      · change 0 + 1 * b.val = b.val; omega
    rw [← he]
    exact wr_emb _ _ _ _
  · rename_i h
    refine wr_not _ _ _ fun x hx => h ?_
    have h0 : ((Rect.unit (s := ⟨3, ![G, L, C]⟩) ![g, 0, 0] ![1, L, C] inb).emb x 0).val = k.val := by rw [hx]; rfl
    change g + 1 * (x 0).val = k.val at h0
    have h1 : (x 0).val < 1 := (x 0).isLt
    omega

theorem wr_all3 {G L C : ℕ} {e : EltTy} (inb : ∀ a, (![0, 0, 0] : Fin 3 → ℕ) a + (![G, L, C] : Fin 3 → ℕ) a ≤ (![G, L, C] : Fin 3 → ℕ) a)
    (v X : (⟨3, ![G, L, C]⟩ : Shape).Idx → Elt F e) (k : Fin G) (a : Fin L) (b : Fin C) :
    wr (F := F) (e := e) (Rect.unit (s := ⟨3, ![G, L, C]⟩) ![0, 0, 0] ![G, L, C] inb) v X (ix3 k a b) = v (ix3 k a b) := by
  have he : (Rect.unit (s := ⟨3, ![G, L, C]⟩) ![0, 0, 0] ![G, L, C] inb).emb (ix3 k a b) = ix3 k a b := by
    funext i
    refine Fin.ext ?_
    fin_cases i
    · change 0 + 1 * k.val = k.val; omega
    · change 0 + 1 * a.val = a.val; omega
    · change 0 + 1 * b.val = b.val; omega
  conv_lhs => rw [← he]
  exact wr_emb _ _ _ _

theorem run_load {α : Type} {j : B} {r : Rect (shp j)} {h : 0 < r.shape.numel} {k : (r.shape.Idx → Elt F (elt j)) → P F α} (σ : St F) :
    run (.op (.load j r h) k) σ = run (k (View.ld (σ j) r)) σ := rfl

theorem run_store {α : Type} {j : B} {r : Rect (shp j)} {v : r.shape.Idx → Elt F (elt j)} {h : ∀ M : Mems, ((M.m j).access r).Stores Finset.univ}
    {k : PUnit → P F α} (σ : St F) : run (.op (.store j r v h) k) σ = run (k ⟨⟩) (put j (wr r v (σ j)) σ) := rfl

theorem run_ret {α : Type} (a : α) (σ : St F) : run (.ret a : P F α) σ = (a, σ) := rfl

theorem loopFrom_inv {N : ℕ} {f : (k : ℕ) → k < N → P F PUnit} (I : ℕ → St F → Prop) (hs : ∀ k hk σ, I k σ → I (k + 1) (run (f k hk) σ).2) :
    ∀ (n k : ℕ) (h : k + n ≤ N) (σ : St F), I k σ → I (k + n) (run (loopFrom f n k h) σ).2
  | 0, _, _, _, hi => hi
  | n + 1, k, h, σ, hi => by
    have h1 := loopFrom_inv I hs n (k + 1) (by omega) _ (hs k (by omega) σ hi)
    change I (k + (n + 1)) (run (f k _ >>= fun _ => loopFrom f n (k + 1) _) σ).2
    rw [run_bind, show k + (n + 1) = k + 1 + n by omega]
    exact h1

/-- What holds before a loop and is moved on by each round holds after it. Buffers the rounds do not write may be relied on. -/
theorem loop_fill {N : ℕ} {W : List B} {f : (k : ℕ) → k < N → P F PUnit} (hw : ∀ k hk, Writes W (f k hk)) (R : ℕ → St F → Prop) (σ : St F)
    (h0 : R 0 σ) (hs : ∀ k hk σ', (∀ j, j ∉ W → σ' j = σ j) → R k σ' → R (k + 1) (run (f k hk) σ').2) : R N (run (loop N f) σ).2 := by
  have := loopFrom_inv (f := f) (fun k σ' => (∀ j, j ∉ W → σ' j = σ j) ∧ R k σ')
    (fun k hk σ' h => ⟨fun j hj => (hw k hk σ' j hj).trans (h.1 j hj), hs k hk σ' h.1 h.2⟩) N 0 (by omega) σ ⟨fun _ _ => rfl, h0⟩
  have h2 : ∀ n, n = N → R n (run (loopFrom f N 0 (Nat.le_of_eq (Nat.zero_add N))) σ).2 → R N (run (loop N f) σ).2 := fun n e h => e ▸ h
  exact h2 _ (Nat.zero_add N) this.2

end Cert.KernelIdeal.Y
-- ==== Proof.Spec.lean ====
/-
  What one grid point computes, as sums: the decays, the weights of a chunk against itself, what a chunk adds to the carried state,
  and the first result's block.
-/
module

public import proofs.«01_k».proof.Proof.Rows

@[expose] public section

set_option synthInstance.maxSize 4096
set_option maxRecDepth 16384

noncomputable section

namespace Cert.KernelIdeal.Y

open Cert.KernelIdeal Cert.KernelIdeal.Gen
open Idealize.ShloMosaic Idealize.ShloMosaic.TcCoe

/-- The inputs of one grid point: `x`, `dt`, `A`, the two factors, `D`. -/
structure Blk where
  x : S7168x256.Idx → EReal
  dt : S112x256.Idx → EReal
  a : S1x112.Idx → EReal
  b : S256x8x128.Idx → EReal
  c : S256x8x128.Idx → EReal
  d : S1x112.Idx → EReal

/-- The inputs are real, and the quantised ones are within the quantiser's range. -/
structure Blk.Good (k : Blk) : Prop where
  x : ∀ i, Cert.Y.Ok (k.x i)
  b : ∀ i, Cert.Y.Ok (k.b i)
  c : ∀ i, Cert.Y.Ok (k.c i)
  dt : ∀ i, k.dt i = ((k.dt i).toReal : EReal)
  dt0 : ∀ i, 0 ≤ (k.dt i).toReal
  a : ∀ i, k.a i = ((k.a i).toReal : EReal)

/-- The group of a head. -/
def gr (h : Fin 112) : Fin 8 := ⟨h.val / 14, by omega⟩

/-- The row of a head's channel. -/
def row (h : Fin 112) (p : Fin 64) : Fin 7168 := ⟨h.val * 64 + p.val, by omega⟩

namespace Blk

variable (k : Blk)

def cum (h : Fin 112) (t : Fin 256) : ℝ := ∑ s : Fin 256, if s ≤ t then (k.a (ix2 0 h)).toReal * (k.dt (ix2 h s)).toReal else 0

def wgt (h : Fin 112) (s t : Fin 256) : ℝ :=
  if s ≤ t then (∑ n : Fin 128, (k.b (ix3 s (gr h) n)).toReal * (k.c (ix3 t (gr h) n)).toReal) * Real.exp (k.cum h t - k.cum h s) * (k.dt (ix2 h s)).toReal
  else 0

def yd (h : Fin 112) (p : Fin 64) (t : Fin 256) : ℝ := ∑ s : Fin 256, (k.x (ix2 (row h p) s)).toReal * k.wgt h s t

def st (h : Fin 112) (p : Fin 64) (n : Fin 128) : ℝ :=
  ∑ l : Fin 256, (k.x (ix2 (row h p) l)).toReal * (Real.exp (k.cum h 255 - k.cum h l) * (k.dt (ix2 h l)).toReal) * (k.b (ix3 l (gr h) n)).toReal

def yo (H : S7168x128.Idx → EReal) (h : Fin 112) (p : Fin 64) (t : Fin 256) : EReal :=
  (∑ n : Fin 128, H (ix2 (row h p) n) * (((k.c (ix3 t (gr h) n)).toReal : ℝ) : EReal)) * ((Real.exp (k.cum h t) : ℝ) : EReal)

def yv (H : S7168x128.Idx → EReal) (h : Fin 112) (p : Fin 64) (t : Fin 256) : EReal :=
  ((k.yd h p t : ℝ) : EReal) + k.yo H h p t + k.d (ix2 0 h) * k.x (ix2 (row h p) t)

def hn (H : S7168x128.Idx → EReal) (h : Fin 112) (p : Fin 64) (n : Fin 128) : EReal :=
  ((Real.exp (k.cum h 255) : ℝ) : EReal) * H (ix2 (row h p) n) + ((k.st h p n : ℝ) : EReal)

end Blk

/-- What the front leaves for the heads. -/
structure Fr (k : Blk) (eb ec : Fin 8 → ℤ) (σ : St Ideal) : Prop where
  b24 : ∀ (g : Fin 8) (l : Fin 256) (n : Fin 128), σ .b24 (ix3 g l n) = (((k.b (ix3 l g n)).toReal * (2 : ℝ) ^ (-eb g) : ℝ) : EReal)
  b25 : ∀ (g : Fin 8) (l : Fin 256) (n : Fin 128), σ .b25 (ix3 g l n) = (((k.c (ix3 l g n)).toReal * (2 : ℝ) ^ (-ec g) : ℝ) : EReal)
  b29 : ∀ (h : Fin 112) (t : Fin 256), σ .b29 (ix2 h t) = ((k.cum h t * (Real.log 2)⁻¹ : ℝ) : EReal)
  b31 : ∀ (h : Fin 112) (t : Fin 256) (j : Fin 128), j.val = h.val → σ .b31 (ix2 t j) = ((k.cum h t * (Real.log 2)⁻¹ : ℝ) : EReal)
    - (Ideal.log (k.dt (ix2 h t)) * (((Real.log 2)⁻¹ : ℝ) : EReal) + (((eb (gr h) : ℝ) : EReal) + ((ec (gr h) : ℝ) : EReal)))
  b32 : ∀ (h : Fin 112) (t : Fin 256), σ .b32 (ix2 h t) = ((Real.exp (k.cum h t) * (2 : ℝ) ^ ec (gr h) : ℝ) : EReal)
  b33 : ∀ (h : Fin 112) (t : Fin 256), σ .b33 (ix2 h t) = ((Real.exp (k.cum h 255 - k.cum h t) * (k.dt (ix2 h t)).toReal * (2 : ℝ) ^ eb (gr h) : ℝ) : EReal)
  b34 : ∀ (h : Fin 112) (n : Fin 128), σ .b34 (ix2 h n) = ((Real.exp (k.cum h 255) : ℝ) : EReal)
  bx : ∀ (h : Fin 112) (t : Fin 256), ∃ e : ℤ, σ .b35 (ix2 h t) = (((2 : ℝ) ^ e : ℝ) : EReal)
    ∧ ∀ p : Fin 64, σ .b10 (ix2 (row h p) t) = (((k.x (ix2 (row h p) t)).toReal * (2 : ℝ) ^ (-e) : ℝ) : EReal)

end Cert.KernelIdeal.Y
-- ==== Proof.Left.lean ====
/-
  What each phase leaves in each buffer it writes, in terms of what the buffers held before it.
-/
module

public import proofs.«01_k».proof.Proof.Keeps

@[expose] public section

set_option synthInstance.maxSize 4096
set_option maxRecDepth 16384

noncomputable section

namespace Cert.KernelIdeal.Y

open Cert.KernelIdeal Cert.KernelIdeal.Gen
open Idealize.ShloMosaic Idealize.ShloMosaic.TcCoe

variable {F : FTy → Type} [FloatOps F] [Named F]

theorem initA_b20  (σ : St F) :
    (run (initA ) σ).2 .b20 = (wr (Rect.unit (s := S256x256) ![0, 0] S256x256.size inb_S256x256_S256x256_0_0) (initAV1) (σ .b20)) := rfl

theorem initA_b21  (σ : St F) :
    (run (initA ) σ).2 .b21 = (wr (Rect.unit (s := S64x128) ![0, 0] S64x128.size inb_S64x128_S64x128_0_0) (initAV2) (σ .b21)) := rfl

theorem initA_b18  (σ : St F) :
    (run (initA ) σ).2 .b18 = (wr (Rect.unit (s := S112x128) ![0, 0] S112x128.size inb_S112x128_S112x128_0_0) (initAV3 (View.ld (σ .b3) (Rect.unit (s := S1x112) ![0, 0] S1x112.size inb_S1x112_S1x112_0_0))) (σ .b18)) := rfl

theorem initA_b19  (σ : St F) :
    (run (initA ) σ).2 .b19 = (wr (Rect.unit (s := S112x128) ![0, 0] S112x128.size inb_S112x128_S112x128_0_0) (initAV4 (View.ld (σ .b6) (Rect.unit (s := S1x112) ![0, 0] S1x112.size inb_S1x112_S1x112_0_0))) (σ .b19)) := rfl

theorem initA_b30  (σ : St F) :
    (run (initA ) σ).2 .b30 = (wr (Rect.unit (s := S128x256) ![0, 0] S128x256.size inb_S128x256_S128x256_0_0) (initAV5) (σ .b30)) := rfl

theorem initH_b22 (h : ℕ) (hh : h < 112) (σ : St F) :
    (run (initH h hh) σ).2 .b22 = (wr (Rect.unit (s := S7168x128) ![h * 64, 0] S64x128.size (inb2 (by omega) (by omega))) (initHV (View.ld (σ .b8) (Rect.unit (s := S64x112) ![0, h] S64x1.size (inb2 (by omega) (by omega)))) (View.ld (σ .b7) (Rect.unit (s := S7168x128) ![h * 64, 0] S64x128.size (inb2 (by omega) (by omega))))) (σ .b22)) := rfl

theorem quantB_ret  (σ : St F) :
    (run (quantB ) σ).1 = (quantBC1 (View.ld (σ .b4) (Rect.unit (s := S256x8x128) ![0, 0, 0] S256x8x128.size inb_S256x8x128_S256x8x128_0_0_0))) := rfl

theorem quantB_b13  (σ : St F) :
    (run (quantB ) σ).2 .b13 = (wr (Rect.unit (s := S1x1x8) ![0, 0, 0] S1x1x8.size inb_S1x1x8_S1x1x8_0_0_0) (quantBV1 (quantBC1 (View.ld (σ .b4) (Rect.unit (s := S256x8x128) ![0, 0, 0] S256x8x128.size inb_S256x8x128_S256x8x128_0_0_0)))) (σ .b13)) := rfl

theorem quantB_b12  (σ : St F) :
    (run (quantB ) σ).2 .b12 = (wr (Rect.unit (s := S256x8x128) ![0, 0, 0] S256x8x128.size inb_S256x8x128_S256x8x128_0_0_0) (quantBV2 (View.ld (σ .b4) (Rect.unit (s := S256x8x128) ![0, 0, 0] S256x8x128.size inb_S256x8x128_S256x8x128_0_0_0)) (quantBC1 (View.ld (σ .b4) (Rect.unit (s := S256x8x128) ![0, 0, 0] S256x8x128.size inb_S256x8x128_S256x8x128_0_0_0)))) (σ .b12)) := rfl

theorem quantB_b23  (σ : St F) :
    (run (quantB ) σ).2 .b23 = (wr (Rect.unit (s := S256x8x128) ![0, 0, 0] S256x8x128.size inb_S256x8x128_S256x8x128_0_0_0) (quantBV3 (View.ld (σ .b4) (Rect.unit (s := S256x8x128) ![0, 0, 0] S256x8x128.size inb_S256x8x128_S256x8x128_0_0_0)) (quantBC1 (View.ld (σ .b4) (Rect.unit (s := S256x8x128) ![0, 0, 0] S256x8x128.size inb_S256x8x128_S256x8x128_0_0_0)))) (σ .b23)) := rfl

theorem storeB_run (g : ℕ) (hg : g < 8) (v26 : IVec S8x128 32) (σ : St F) :
    (run (storeB g hg v26) σ).2 = (put .b26 (wr (Rect.unit (s := S112x128) ![g * 14, 0] S14x128.size (inb2 (by omega) (by omega))) (storeBV2 g hg v26) (σ .b26)) (put .b24 (wr (Rect.unit (s := S8x256x128) ![g, 0, 0] S1x256x128.size (inb3 (by omega) (by omega) (by omega))) (storeBV1 (View.ld (σ .b23) (Rect.unit (s := S256x8x128) ![0, g, 0] S256x1x128.size (inb3 (by omega) (by omega) (by omega))))) (σ .b24)) σ)) := rfl

theorem storeB_b24 (g : ℕ) (hg : g < 8) (v26 : IVec S8x128 32) (σ : St F) :
    (run (storeB g hg v26) σ).2 .b24 = (wr (Rect.unit (s := S8x256x128) ![g, 0, 0] S1x256x128.size (inb3 (by omega) (by omega) (by omega))) (storeBV1 (View.ld (σ .b23) (Rect.unit (s := S256x8x128) ![0, g, 0] S256x1x128.size (inb3 (by omega) (by omega) (by omega))))) (σ .b24)) := by
  rw [storeB_run]; simp (disch := decide) only [put_ne, put_self]

theorem storeB_b26 (g : ℕ) (hg : g < 8) (v26 : IVec S8x128 32) (σ : St F) :
    (run (storeB g hg v26) σ).2 .b26 = (wr (Rect.unit (s := S112x128) ![g * 14, 0] S14x128.size (inb2 (by omega) (by omega))) (storeBV2 g hg v26) (σ .b26)) := by
  rw [storeB_run]; simp (disch := decide) only [put_ne, put_self]

theorem quantC_ret  (σ : St F) :
    (run (quantC ) σ).1 = (quantBC1 (View.ld (σ .b5) (Rect.unit (s := S256x8x128) ![0, 0, 0] S256x8x128.size inb_S256x8x128_S256x8x128_0_0_0))) := rfl

theorem quantC_b15  (σ : St F) :
    (run (quantC ) σ).2 .b15 = (wr (Rect.unit (s := S1x1x8) ![0, 0, 0] S1x1x8.size inb_S1x1x8_S1x1x8_0_0_0) (quantBV1 (quantBC1 (View.ld (σ .b5) (Rect.unit (s := S256x8x128) ![0, 0, 0] S256x8x128.size inb_S256x8x128_S256x8x128_0_0_0)))) (σ .b15)) := rfl

theorem quantC_b14  (σ : St F) :
    (run (quantC ) σ).2 .b14 = (wr (Rect.unit (s := S256x8x128) ![0, 0, 0] S256x8x128.size inb_S256x8x128_S256x8x128_0_0_0) (quantBV2 (View.ld (σ .b5) (Rect.unit (s := S256x8x128) ![0, 0, 0] S256x8x128.size inb_S256x8x128_S256x8x128_0_0_0)) (quantBC1 (View.ld (σ .b5) (Rect.unit (s := S256x8x128) ![0, 0, 0] S256x8x128.size inb_S256x8x128_S256x8x128_0_0_0)))) (σ .b14)) := rfl

theorem quantC_b23  (σ : St F) :
    (run (quantC ) σ).2 .b23 = (wr (Rect.unit (s := S256x8x128) ![0, 0, 0] S256x8x128.size inb_S256x8x128_S256x8x128_0_0_0) (quantBV3 (View.ld (σ .b5) (Rect.unit (s := S256x8x128) ![0, 0, 0] S256x8x128.size inb_S256x8x128_S256x8x128_0_0_0)) (quantBC1 (View.ld (σ .b5) (Rect.unit (s := S256x8x128) ![0, 0, 0] S256x8x128.size inb_S256x8x128_S256x8x128_0_0_0)))) (σ .b23)) := rfl

theorem storeC_run (g : ℕ) (hg : g < 8) (v191 : IVec S8x128 32) (σ : St F) :
    (run (storeC g hg v191) σ).2 = (put .b27 (wr (Rect.unit (s := S112x128) ![g * 14, 0] S14x128.size (inb2 (by omega) (by omega))) (storeBV2 g hg v191) (σ .b27)) (put .b25 (wr (Rect.unit (s := S8x256x128) ![g, 0, 0] S1x256x128.size (inb3 (by omega) (by omega) (by omega))) (storeBV1 (View.ld (σ .b23) (Rect.unit (s := S256x8x128) ![0, g, 0] S256x1x128.size (inb3 (by omega) (by omega) (by omega))))) (σ .b25)) σ)) := rfl

theorem storeC_b25 (g : ℕ) (hg : g < 8) (v191 : IVec S8x128 32) (σ : St F) :
    (run (storeC g hg v191) σ).2 .b25 = (wr (Rect.unit (s := S8x256x128) ![g, 0, 0] S1x256x128.size (inb3 (by omega) (by omega) (by omega))) (storeBV1 (View.ld (σ .b23) (Rect.unit (s := S256x8x128) ![0, g, 0] S256x1x128.size (inb3 (by omega) (by omega) (by omega))))) (σ .b25)) := by
  rw [storeC_run]; simp (disch := decide) only [put_ne, put_self]

theorem storeC_b27 (g : ℕ) (hg : g < 8) (v191 : IVec S8x128 32) (σ : St F) :
    (run (storeC g hg v191) σ).2 .b27 = (wr (Rect.unit (s := S112x128) ![g * 14, 0] S14x128.size (inb2 (by omega) (by omega))) (storeBV2 g hg v191) (σ .b27)) := by
  rw [storeC_run]; simp (disch := decide) only [put_ne, put_self]

theorem prep_b29  (σ : St F) :
    (run (prep ) σ).2 .b29 = (wr (Rect.unit (s := S112x256) ![0, 0] S112x256.size inb_S112x256_S112x256_0_0) (prepV1 (View.ld (σ .b18) (Rect.unit (s := S112x128) ![0, 0] S112x1.size inb_S112x128_S112x1_0_0)) (View.ld (σ .b2) (Rect.unit (s := S112x256) ![0, 0] S112x256.size inb_S112x256_S112x256_0_0)) (View.ld (σ .b20) (Rect.unit (s := S256x256) ![0, 0] S256x256.size inb_S256x256_S256x256_0_0))) (σ .b29)) := rfl

theorem prep_b30  (σ : St F) :
    (run (prep ) σ).2 .b30 = (wr (Rect.unit (s := S128x256) ![0, 0] S112x256.size inb_S128x256_S112x256_0_0) (prepV2 (View.ld (σ .b18) (Rect.unit (s := S112x128) ![0, 0] S112x1.size inb_S112x128_S112x1_0_0)) (View.ld (σ .b2) (Rect.unit (s := S112x256) ![0, 0] S112x256.size inb_S112x256_S112x256_0_0)) (View.ld (σ .b20) (Rect.unit (s := S256x256) ![0, 0] S256x256.size inb_S256x256_S256x256_0_0)) (View.ld (σ .b2) (Rect.unit (s := S112x256) ![0, 0] S112x256.size inb_S112x256_S112x256_0_0)) (View.ld (σ .b26) (Rect.unit (s := S112x128) ![0, 0] S112x1.size inb_S112x128_S112x1_0_0)) (View.ld (σ .b27) (Rect.unit (s := S112x128) ![0, 0] S112x1.size inb_S112x128_S112x1_0_0))) (σ .b30)) := rfl

theorem prep_b32  (σ : St F) :
    (run (prep ) σ).2 .b32 = (wr (Rect.unit (s := S112x256) ![0, 0] S112x256.size inb_S112x256_S112x256_0_0) (prepV3 (View.ld (σ .b18) (Rect.unit (s := S112x128) ![0, 0] S112x1.size inb_S112x128_S112x1_0_0)) (View.ld (σ .b2) (Rect.unit (s := S112x256) ![0, 0] S112x256.size inb_S112x256_S112x256_0_0)) (View.ld (σ .b20) (Rect.unit (s := S256x256) ![0, 0] S256x256.size inb_S256x256_S256x256_0_0)) (View.ld (σ .b27) (Rect.unit (s := S112x128) ![0, 0] S112x1.size inb_S112x128_S112x1_0_0))) (σ .b32)) := rfl

theorem prep_b33  (σ : St F) :
    (run (prep ) σ).2 .b33 = (wr (Rect.unit (s := S112x256) ![0, 0] S112x256.size inb_S112x256_S112x256_0_0) (prepV4 (View.ld (σ .b18) (Rect.unit (s := S112x128) ![0, 0] S112x1.size inb_S112x128_S112x1_0_0)) (View.ld (σ .b2) (Rect.unit (s := S112x256) ![0, 0] S112x256.size inb_S112x256_S112x256_0_0)) (View.ld (σ .b20) (Rect.unit (s := S256x256) ![0, 0] S256x256.size inb_S256x256_S256x256_0_0)) (View.ld (σ .b2) (Rect.unit (s := S112x256) ![0, 0] S112x256.size inb_S112x256_S112x256_0_0)) (View.ld (σ .b26) (Rect.unit (s := S112x128) ![0, 0] S112x1.size inb_S112x128_S112x1_0_0))) (σ .b33)) := rfl

theorem prep_b34  (σ : St F) :
    (run (prep ) σ).2 .b34 = (wr (Rect.unit (s := S112x128) ![0, 0] S112x128.size inb_S112x128_S112x128_0_0) (prepV5 (View.ld (σ .b18) (Rect.unit (s := S112x128) ![0, 0] S112x1.size inb_S112x128_S112x1_0_0)) (View.ld (σ .b2) (Rect.unit (s := S112x256) ![0, 0] S112x256.size inb_S112x256_S112x256_0_0)) (View.ld (σ .b20) (Rect.unit (s := S256x256) ![0, 0] S256x256.size inb_S256x256_S256x256_0_0))) (σ .b34)) := rfl

theorem prep_b31  (σ : St F) :
    (run (prep ) σ).2 .b31 = (wr (Rect.unit (s := S256x128) ![0, 0] S256x128.size inb_S256x128_S256x128_0_0) (prepV6 (View.ld (wr (Rect.unit (s := S128x256) ![0, 0] S112x256.size inb_S128x256_S112x256_0_0) (prepV2 (View.ld (σ .b18) (Rect.unit (s := S112x128) ![0, 0] S112x1.size inb_S112x128_S112x1_0_0)) (View.ld (σ .b2) (Rect.unit (s := S112x256) ![0, 0] S112x256.size inb_S112x256_S112x256_0_0)) (View.ld (σ .b20) (Rect.unit (s := S256x256) ![0, 0] S256x256.size inb_S256x256_S256x256_0_0)) (View.ld (σ .b2) (Rect.unit (s := S112x256) ![0, 0] S112x256.size inb_S112x256_S112x256_0_0)) (View.ld (σ .b26) (Rect.unit (s := S112x128) ![0, 0] S112x1.size inb_S112x128_S112x1_0_0)) (View.ld (σ .b27) (Rect.unit (s := S112x128) ![0, 0] S112x1.size inb_S112x128_S112x1_0_0))) (σ .b30)) (Rect.unit (s := S128x256) ![0, 0] S128x256.size inb_S128x256_S128x256_0_0))) (σ .b31)) := rfl

theorem amax_run (h : ℕ) (hh : h < 112) (σ : St F) :
    (run (amax h hh) σ).2 = (put .b28 (wr (Rect.unit (s := S112x256) ![h, 0] S1x256.size (inb2 (by omega) (by omega))) (amaxV (View.ld (σ .b1) (Rect.unit (s := S7168x256) ![h * 64, 0] S64x256.size (inb2 (by omega) (by omega))))) (σ .b28)) σ) := rfl

theorem amax_b28 (h : ℕ) (hh : h < 112) (σ : St F) :
    (run (amax h hh) σ).2 .b28 = (wr (Rect.unit (s := S112x256) ![h, 0] S1x256.size (inb2 (by omega) (by omega))) (amaxV (View.ld (σ .b1) (Rect.unit (s := S7168x256) ![h * 64, 0] S64x256.size (inb2 (by omega) (by omega))))) (σ .b28)) := by
  rw [amax_run]; simp (disch := decide) only [put_ne, put_self]

theorem expo_run (o : ℕ) (ho : o < 14) (σ : St F) :
    (run (expo o ho) σ).2 = (put .b36 (wr (Rect.unit (s := S112x256) ![o * 8, 0] S8x256.size (inb2 (by omega) (by omega))) (expoV3 (View.ld (σ .b28) (Rect.unit (s := S112x256) ![o * 8, 0] S8x256.size (inb2 (by omega) (by omega))))) (σ .b36)) (put .b35 (wr (Rect.unit (s := S112x256) ![o * 8, 0] S8x256.size (inb2 (by omega) (by omega))) (expoV2 (View.ld (σ .b28) (Rect.unit (s := S112x256) ![o * 8, 0] S8x256.size (inb2 (by omega) (by omega))))) (σ .b35)) (put .b11 (wr (Rect.unit (s := S112x256) ![o * 8, 0] S8x256.size (inb2 (by omega) (by omega))) (expoV1 (View.ld (σ .b28) (Rect.unit (s := S112x256) ![o * 8, 0] S8x256.size (inb2 (by omega) (by omega))))) (σ .b11)) σ))) := rfl

theorem expo_b11 (o : ℕ) (ho : o < 14) (σ : St F) :
    (run (expo o ho) σ).2 .b11 = (wr (Rect.unit (s := S112x256) ![o * 8, 0] S8x256.size (inb2 (by omega) (by omega))) (expoV1 (View.ld (σ .b28) (Rect.unit (s := S112x256) ![o * 8, 0] S8x256.size (inb2 (by omega) (by omega))))) (σ .b11)) := by
  rw [expo_run]; simp (disch := decide) only [put_ne, put_self]

theorem expo_b35 (o : ℕ) (ho : o < 14) (σ : St F) :
    (run (expo o ho) σ).2 .b35 = (wr (Rect.unit (s := S112x256) ![o * 8, 0] S8x256.size (inb2 (by omega) (by omega))) (expoV2 (View.ld (σ .b28) (Rect.unit (s := S112x256) ![o * 8, 0] S8x256.size (inb2 (by omega) (by omega))))) (σ .b35)) := by
  rw [expo_run]; simp (disch := decide) only [put_ne, put_self]

theorem expo_b36 (o : ℕ) (ho : o < 14) (σ : St F) :
    (run (expo o ho) σ).2 .b36 = (wr (Rect.unit (s := S112x256) ![o * 8, 0] S8x256.size (inb2 (by omega) (by omega))) (expoV3 (View.ld (σ .b28) (Rect.unit (s := S112x256) ![o * 8, 0] S8x256.size (inb2 (by omega) (by omega))))) (σ .b36)) := by
  rw [expo_run]; simp (disch := decide) only [put_ne, put_self]

theorem code_run (h : ℕ) (hh : h < 112) (σ : St F) :
    (run (code h hh) σ).2 = (put .b10 (wr (Rect.unit (s := S7168x256) ![h * 64, 0] S64x256.size (inb2 (by omega) (by omega))) (codeV (View.ld (σ .b1) (Rect.unit (s := S7168x256) ![h * 64, 0] S64x256.size (inb2 (by omega) (by omega)))) (View.ld (σ .b36) (Rect.unit (s := S112x256) ![h, 0] S1x256.size (inb2 (by omega) (by omega))))) (σ .b10)) σ) := rfl

theorem code_b10 (h : ℕ) (hh : h < 112) (σ : St F) :
    (run (code h hh) σ).2 .b10 = (wr (Rect.unit (s := S7168x256) ![h * 64, 0] S64x256.size (inb2 (by omega) (by omega))) (codeV (View.ld (σ .b1) (Rect.unit (s := S7168x256) ![h * 64, 0] S64x256.size (inb2 (by omega) (by omega)))) (View.ld (σ .b36) (Rect.unit (s := S112x256) ![h, 0] S1x256.size (inb2 (by omega) (by omega))))) (σ .b10)) := by
  rw [code_run]; simp (disch := decide) only [put_ne, put_self]

theorem pre_b37 (g : ℕ) (hg : g < 8) (σ : St F) :
    (run (pre g hg) σ).2 .b37 = (wr (Rect.unit (s := S256x256) ![0, 0] S256x256.size inb_S256x256_S256x256_0_0) (preV1 (View.ld (σ .b24) (Rect.unit (s := S8x256x128) ![g, 0, 0] S1x256x128.size (inb3 (by omega) (by omega) (by omega)))) (View.ld (σ .b25) (Rect.unit (s := S8x256x128) ![g, 0, 0] S1x256x128.size (inb3 (by omega) (by omega) (by omega))))) (σ .b37)) := rfl

theorem pre_b39 (g : ℕ) (hg : g < 8) (σ : St F) :
    (run (pre g hg) σ).2 .b39 = (wr (Rect.unit (s := S896x128) ![0, 0] S896x128.size inb_S896x128_S896x128_0_0) (preV2 (View.ld (σ .b22) (Rect.unit (s := S7168x128) ![g * 896, 0] S896x128.size (inb2 (by omega) (by omega))))) (σ .b39)) := rfl

theorem pre_b38 (g : ℕ) (hg : g < 8) (σ : St F) :
    (run (pre g hg) σ).2 .b38 = (wr (Rect.unit (s := S896x256) ![0, 0] S896x256.size inb_S896x256_S896x256_0_0) (preV3 (View.ld (wr (Rect.unit (s := S896x128) ![0, 0] S896x128.size inb_S896x128_S896x128_0_0) (preV2 (View.ld (σ .b22) (Rect.unit (s := S7168x128) ![g * 896, 0] S896x128.size (inb2 (by omega) (by omega))))) (σ .b39)) (Rect.unit (s := S896x128) ![0, 0] S896x128.size inb_S896x128_S896x128_0_0)) (View.ld (σ .b25) (Rect.unit (s := S8x256x128) ![g, 0, 0] S1x256x128.size (inb3 (by omega) (by omega) (by omega))))) (σ .b38)) := rfl

theorem head_run (g : ℕ) (hg : g < 8) (r : ℕ) (hr : r < 14) (v4901 : Vec F S64x128 .i32) (σ : St F) :
    (run (head g hg r hr v4901) σ).2 = (put .b9 (wr (Rect.unit (s := S7168x256) ![(g * 14 + r) * 64, 0] S64x256.size (inb2 (by omega) (by omega))) (headV2 v4901 (View.ld (σ .b10) (Rect.unit (s := S7168x256) ![(g * 14 + r) * 64, 0] S64x256.size (inb2 (by omega) (by omega)))) (View.ld (σ .b35) (Rect.unit (s := S112x256) ![g * 14 + r, 0] S1x256.size (inb2 (by omega) (by omega)))) (View.ld (σ .b31) (Rect.unit (s := S256x128) ![0, g * 14 + r] S128x1.size (inb2 (by omega) (by omega)))) (View.ld (σ .b31) (Rect.unit (s := S256x128) ![128, g * 14 + r] S128x1.size (inb2 (by omega) (by omega)))) (View.ld (σ .b29) (Rect.unit (s := S112x256) ![g * 14 + r, 0] S1x128.size (inb2 (by omega) (by omega)))) (View.ld (σ .b29) (Rect.unit (s := S112x256) ![g * 14 + r, 128] S1x128.size (inb2 (by omega) (by omega)))) (View.ld (σ .b37) (Rect.unit (s := S256x256) ![0, 0] S128x128.size inb_S256x256_S128x128_0_0)) (View.ld (σ .b37) (Rect.unit (s := S256x256) ![0, 128] S128x128.size inb_S256x256_S128x128_0_128)) (View.ld (σ .b37) (Rect.unit (s := S256x256) ![128, 128] S128x128.size inb_S256x256_S128x128_128_128)) (View.ld (σ .b38) (Rect.unit (s := S896x256) ![r * 64, 0] S64x256.size (inb2 (by omega) (by omega)))) (View.ld (σ .b32) (Rect.unit (s := S112x256) ![g * 14 + r, 0] S1x256.size (inb2 (by omega) (by omega)))) (View.ld (σ .b19) (Rect.unit (s := S112x128) ![g * 14 + r, 0] S1x1.size (inb2 (by omega) (by omega)))) (View.ld (σ .b1) (Rect.unit (s := S7168x256) ![(g * 14 + r) * 64, 0] S64x256.size (inb2 (by omega) (by omega))))) (σ .b9)) (put .b40 (wr (Rect.unit (s := S896x256) ![r * 64, 0] S64x256.size (inb2 (by omega) (by omega))) (headV1 (View.ld (σ .b10) (Rect.unit (s := S7168x256) ![(g * 14 + r) * 64, 0] S64x256.size (inb2 (by omega) (by omega)))) (View.ld (σ .b35) (Rect.unit (s := S112x256) ![g * 14 + r, 0] S1x256.size (inb2 (by omega) (by omega)))) (View.ld (σ .b33) (Rect.unit (s := S112x256) ![g * 14 + r, 0] S1x256.size (inb2 (by omega) (by omega))))) (σ .b40)) σ)) := rfl

theorem head_b40 (g : ℕ) (hg : g < 8) (r : ℕ) (hr : r < 14) (v4901 : Vec F S64x128 .i32) (σ : St F) :
    (run (head g hg r hr v4901) σ).2 .b40 = (wr (Rect.unit (s := S896x256) ![r * 64, 0] S64x256.size (inb2 (by omega) (by omega))) (headV1 (View.ld (σ .b10) (Rect.unit (s := S7168x256) ![(g * 14 + r) * 64, 0] S64x256.size (inb2 (by omega) (by omega)))) (View.ld (σ .b35) (Rect.unit (s := S112x256) ![g * 14 + r, 0] S1x256.size (inb2 (by omega) (by omega)))) (View.ld (σ .b33) (Rect.unit (s := S112x256) ![g * 14 + r, 0] S1x256.size (inb2 (by omega) (by omega))))) (σ .b40)) := by
  rw [head_run]; simp (disch := decide) only [put_ne, put_self]

theorem head_b9 (g : ℕ) (hg : g < 8) (r : ℕ) (hr : r < 14) (v4901 : Vec F S64x128 .i32) (σ : St F) :
    (run (head g hg r hr v4901) σ).2 .b9 = (wr (Rect.unit (s := S7168x256) ![(g * 14 + r) * 64, 0] S64x256.size (inb2 (by omega) (by omega))) (headV2 v4901 (View.ld (σ .b10) (Rect.unit (s := S7168x256) ![(g * 14 + r) * 64, 0] S64x256.size (inb2 (by omega) (by omega)))) (View.ld (σ .b35) (Rect.unit (s := S112x256) ![g * 14 + r, 0] S1x256.size (inb2 (by omega) (by omega)))) (View.ld (σ .b31) (Rect.unit (s := S256x128) ![0, g * 14 + r] S128x1.size (inb2 (by omega) (by omega)))) (View.ld (σ .b31) (Rect.unit (s := S256x128) ![128, g * 14 + r] S128x1.size (inb2 (by omega) (by omega)))) (View.ld (σ .b29) (Rect.unit (s := S112x256) ![g * 14 + r, 0] S1x128.size (inb2 (by omega) (by omega)))) (View.ld (σ .b29) (Rect.unit (s := S112x256) ![g * 14 + r, 128] S1x128.size (inb2 (by omega) (by omega)))) (View.ld (σ .b37) (Rect.unit (s := S256x256) ![0, 0] S128x128.size inb_S256x256_S128x128_0_0)) (View.ld (σ .b37) (Rect.unit (s := S256x256) ![0, 128] S128x128.size inb_S256x256_S128x128_0_128)) (View.ld (σ .b37) (Rect.unit (s := S256x256) ![128, 128] S128x128.size inb_S256x256_S128x128_128_128)) (View.ld (σ .b38) (Rect.unit (s := S896x256) ![r * 64, 0] S64x256.size (inb2 (by omega) (by omega)))) (View.ld (σ .b32) (Rect.unit (s := S112x256) ![g * 14 + r, 0] S1x256.size (inb2 (by omega) (by omega)))) (View.ld (σ .b19) (Rect.unit (s := S112x128) ![g * 14 + r, 0] S1x1.size (inb2 (by omega) (by omega)))) (View.ld (σ .b1) (Rect.unit (s := S7168x256) ![(g * 14 + r) * 64, 0] S64x256.size (inb2 (by omega) (by omega))))) (σ .b9)) := by
  rw [head_run]; simp (disch := decide) only [put_ne, put_self]

theorem hupd_b22 (g : ℕ) (hg : g < 8) (r : ℕ) (hr : r < 14) (v7063 : FVec F S896x128 .f32) (σ : St F) :
    (run (hupd g hg r hr v7063) σ).2 .b22 = (wr (Rect.unit (s := S7168x128) ![(g * 14 + r) * 64, 0] S64x128.size (inb2 (by omega) (by omega))) (hupdV r hr v7063 (View.ld (σ .b34) (Rect.unit (s := S112x128) ![g * 14 + r, 0] S1x128.size (inb2 (by omega) (by omega)))) (View.ld (σ .b22) (Rect.unit (s := S7168x128) ![(g * 14 + r) * 64, 0] S64x128.size (inb2 (by omega) (by omega))))) (σ .b22)) := rfl

end Cert.KernelIdeal.Y
-- ==== Proof.Window.lean ====
/-
  The reference's own operations read as mathematics: its running sum as a sum over earlier steps, its exponent as the one of
  `Maths`, and its maximum over one axis.
-/
module

public import proofs.«01_k».proof.Proof.Maths

@[expose] public section

set_option maxRecDepth 16384

noncomputable section

namespace Cert.Y

open Idealize.ShloMosaic

/-! ## The running sum -/

theorem foldl_add_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

abbrev W4 : Shape := ⟨4, ![1, 256, 1, 1]⟩
abbrev S4 : Shape := ⟨4, ![7, 256, 8, 14]⟩

theorem numel_W4 : W4.numel = 256 := by decide

/-- Position `n` of the window is step `n`. -/
theorem symm_W4 (n : Fin W4.numel) : (W4.rowMajor.symm n (0 : Fin 4)).val = 0 ∧ (W4.rowMajor.symm n (1 : Fin 4)).val = n.val
    ∧ (W4.rowMajor.symm n (2 : Fin 4)).val = 0 ∧ (W4.rowMajor.symm n (3 : Fin 4)).val = 0 := by
  have h := congrArg Fin.val (W4.rowMajor.apply_symm_apply n)
  rw [Shape.rowMajor_val_four] at h
  have h0 : (W4.rowMajor.symm n (0 : Fin 4)).val < 1 := (W4.rowMajor.symm n (0 : Fin 4)).isLt
  have h2 : (W4.rowMajor.symm n (2 : Fin 4)).val < 1 := (W4.rowMajor.symm n (2 : Fin 4)).isLt
  have h3 : (W4.rowMajor.symm n (3 : Fin 4)).val < 1 := (W4.rowMajor.symm n (3 : Fin 4)).isLt
  change (((W4.rowMajor.symm n (0 : Fin 4)).val * 256 + (W4.rowMajor.symm n (1 : Fin 4)).val) * 1 + (W4.rowMajor.symm n (2 : Fin 4)).val) * 1 + (W4.rowMajor.symm n (3 : Fin 4)).val = n.val at h
  omega

/-- The running sum along the steps of a chunk. -/
theorem cumsum4 (x : S4.Idx → EReal) (h : S4.ReduceWindows (![1, 256, 1, 1] : Fin 4 → Nat) ![1, 1, 1, 1] ![0, 255, 0, 0] ![0, 0, 0, 0] S4)
    (c : Fin 7) (t : Fin 256) (g : Fin 8) (r : Fin 14) :
    Ideal.hostReduceWindowAdd ![1, 256, 1, 1] ![1, 1, 1, 1] ![0, 255, 0, 0] ![0, 0, 0, 0] h x 0 (ix4 c t g r)
      = ∑ s : Fin 256, if s ≤ t then x (ix4 c s g r) else 0 := by
  unfold Ideal.hostReduceWindowAdd Host.reduceWindow
  refine (foldl_add_sum _ _ _).trans ?_
  rw [zero_add, ← Fin.sum_univ_def]
  refine Fintype.sum_equiv ((finCongr numel_W4).trans (Equiv.addRight (t + 1))) _ _ fun n => ?_
  obtain ⟨e0, e1, e2, e3⟩ := symm_W4 n
  have hn : n.val < 256 := lt_of_lt_of_eq n.isLt numel_W4
  have ht := t.isLt
  have hs : (((finCongr numel_W4).trans (Equiv.addRight (t + 1))) n).val = if 255 ≤ t.val + n.val then t.val + n.val - 255 else t.val + n.val + 1 := by
    change (n.cast numel_W4 + (t + 1)).val = _
    rw [Fin.val_add, Fin.val_add]
    change (n.val + (t.val + 1) % 256) % 256 = _
    split_ifs <;> omega
  generalize ((finCongr numel_W4).trans (Equiv.addRight (t + 1))) n = s at hs
  split
  · next hin =>
    have h1 := (hin (1 : Fin 4)).1
    change 255 ≤ t.val * 1 + (W4.rowMajor.symm n (1 : Fin 4)).val at h1
    rw [e1] at h1
    rw [if_pos (by omega)] at hs
    rw [if_pos (Fin.le_def.mpr (by omega))]
    refine congrArg x (funext fun a => Fin.ext ?_)
    match a with
    | ⟨0, _⟩ => change c.val * 1 + (W4.rowMajor.symm n (0 : Fin 4)).val - 0 = c.val; omega
    | ⟨1, _⟩ => change t.val * 1 + (W4.rowMajor.symm n (1 : Fin 4)).val - 255 = s.val; omega
    | ⟨2, _⟩ => change g.val * 1 + (W4.rowMajor.symm n (2 : Fin 4)).val - 0 = g.val; omega
    | ⟨3, _⟩ => change r.val * 1 + (W4.rowMajor.symm n (3 : Fin 4)).val - 0 = r.val; omega
  · next hin =>
    rw [if_neg fun hle => hin fun a => ?_]
    have hle' : s.val ≤ t.val := hle
    have hc := c.isLt; have hg := g.isLt; have hr := r.isLt
    have h1 : 255 ≤ t.val + n.val := by
      by_contra hh; rw [if_neg hh] at hs; omega
    match a with
    | ⟨0, _⟩ => change 0 ≤ c.val * 1 + (W4.rowMajor.symm n (0 : Fin 4)).val ∧ c.val * 1 + (W4.rowMajor.symm n (0 : Fin 4)).val - 0 < 7; omega
    | ⟨1, _⟩ => change 255 ≤ t.val * 1 + (W4.rowMajor.symm n (1 : Fin 4)).val ∧ t.val * 1 + (W4.rowMajor.symm n (1 : Fin 4)).val - 255 < 256; omega
    | ⟨2, _⟩ => change 0 ≤ g.val * 1 + (W4.rowMajor.symm n (2 : Fin 4)).val ∧ g.val * 1 + (W4.rowMajor.symm n (2 : Fin 4)).val - 0 < 8; omega
    | ⟨3, _⟩ => change 0 ≤ r.val * 1 + (W4.rowMajor.symm n (3 : Fin 4)).val ∧ r.val * 1 + (W4.rowMajor.symm n (3 : Fin 4)).val - 0 < 14; omega

/-! ## The exponent -/

theorem exp_ln2 (e : ℤ) : Real.exp ((e : ℝ) * Real.log 2) = (2 : ℝ) ^ e := by
  rw [mul_comm, Real.exp_mul, Real.exp_log (by norm_num), Real.rpow_intCast]

/-- The power of two a quantiser multiplies back by. -/
theorem scale_ref (e : ℤ) : Ideal.exp (((e : ℝ) : EReal) * ((Real.log 2 : ℝ) : EReal)) = (((2 : ℝ) ^ e : ℝ) : EReal) := by
  rw [← EReal.coe_mul, Ideal.exp_coe, exp_ln2]

theorem inv_ref (e : ℤ) : Ideal.exp (-((e : ℝ) : EReal) * ((Real.log 2 : ℝ) : EReal)) = (((2 : ℝ) ^ (-e) : ℝ) : EReal) := by
  rw [← EReal.coe_neg, ← Int.cast_neg, scale_ref]

theorem ofBits_one : Ideal.ofBits .f32 0x3F800000#32 = ((1 : ℝ) : EReal) := by
  change Ideal.ieee 8 23 0x3F800000#32 = _
  have e1 : ((0x3F800000#32 : BitVec 32).extractLsb' 23 8).toNat = 127 := by decide
  have e2 : ((0x3F800000#32 : BitVec 32).extractLsb' 0 23).toNat = 0 := by decide
  have e3 : ((0x3F800000#32 : BitVec 32).extractLsb' 31 1 == 1#1) = false := by decide
  simp only [Ideal.ieee, e1, e2, e3]
  rw [if_neg (by omega), if_neg (by omega), EReal.coe_eq_coe_iff]
  norm_num

theorem ofBits_two : Ideal.ofBits .f32 0x40000000#32 = ((2 : ℝ) : EReal) := by
  change Ideal.ieee 8 23 0x40000000#32 = _
  have e1 : ((0x40000000#32 : BitVec 32).extractLsb' 23 8).toNat = 128 := by decide
  have e2 : ((0x40000000#32 : BitVec 32).extractLsb' 0 23).toNat = 0 := by decide
  have e3 : ((0x40000000#32 : BitVec 32).extractLsb' 31 1 == 1#1) = false := by decide
  simp only [Ideal.ieee, e1, e2, e3]
  rw [if_neg (by omega), if_neg (by omega), EReal.coe_eq_coe_iff]
  norm_num

theorem log_two : Ideal.log ((2 : ℝ) : EReal) = ((Real.log 2 : ℝ) : EReal) := by
  rw [Ideal.log_coe, if_neg (by norm_num)]

/-- The exponent as the reference writes it. -/
theorem ex_ref {a : ℝ} (h0 : 0 ≤ a) :
    (if (a : EReal) = 0 then (0 : EReal) else Ideal.liftRound Int.floor (Ideal.div (Ideal.log ((a : EReal) * ((kap : ℝ) : EReal))) ((Real.log 2 : ℝ) : EReal)) + ((1 : ℝ) : EReal))
      = ((ex a : ℝ) : EReal) := by
  unfold ex
  by_cases h : a = 0
  · simp [h]
  · have hp : 0 < a := lt_of_le_of_ne h0 (Ne.symm h)
    rw [if_neg (by rw [← EReal.coe_zero, EReal.coe_eq_coe_iff]; exact h), if_neg h, ← EReal.coe_mul, Ideal.log_coe,
      if_neg (not_le.mpr (mul_pos hp kap_pos)), Ideal.div_coe log2_pos.ne', one_div,
      ← EReal.coe_mul, Ideal.liftRound_coe, ← EReal.coe_add, EReal.coe_eq_coe_iff]
    push_cast; rfl

end Cert.Y
-- ==== Proof.Heads.lean ====
/-
  The heads of one grid point: from what the front leaves, each head's block of the first result, and the carried states moved on.
-/
module

public import proofs.«01_k».proof.Proof.Spec
public import proofs.«01_k».proof.Proof.Left
public import proofs.«01_k».proof.Proof.Window

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe

/-- A decay with the step's length and the two scales folded into its exponent. -/
theorem decay_real (ct cs d : ℝ) (hd : 0 ≤ d) (eb ec : ℤ) :
    FloatOps.exp2 (F := Ideal) (φ := .f32) (((ct * (Real.log 2)⁻¹ : ℝ) : EReal) - (((cs * (Real.log 2)⁻¹ : ℝ) : EReal)
      - (Ideal.log (d : EReal) * (((Real.log 2)⁻¹ : ℝ) : EReal) + (((eb : ℝ) : EReal) + ((ec : ℝ) : EReal)))))
      = ((Real.exp (ct - cs) * d * (2 : ℝ) ^ (eb + ec) : ℝ) : EReal) := by
  change Ideal.exp2 _ = _
  have hl := Cert.Y.log2_pos
  rcases eq_or_lt_of_le hd with h | h
  · rw [← h, Ideal.log_coe, if_pos le_rfl, EReal.bot_mul_coe_of_pos (inv_pos.mpr hl), EReal.bot_add, EReal.coe_sub_bot, sub_eq_add_neg _ (⊤ : EReal), EReal.neg_top, EReal.add_bot, Ideal.exp2_bot]
    simp
  · rw [Ideal.log_coe, if_neg (not_le.mpr h), ← EReal.coe_mul, ← EReal.coe_add, ← EReal.coe_add, ← EReal.coe_sub, ← EReal.coe_sub, Ideal.exp2_coe, EReal.coe_eq_coe_iff]
    change (2 : ℝ) ^ (_ : ℝ) = _
    rw [Real.rpow_def_of_pos (by norm_num), ← Cert.Y.exp_ln2, ← Real.exp_log h, ← Real.exp_add, ← Real.exp_add, Real.exp_log h]
    congr 1
    push_cast
    field_simp
    ring

/-- One weight of a chunk against itself. -/
theorem weight_real (k : Blk) (hk : k.Good) (eb ec : Fin 8 → ℤ) (h : Fin 112) (s t : Fin 256) :
    (∑ n : Fin 128, (((k.b (ix3 s (gr h) n)).toReal * (2 : ℝ) ^ (-eb (gr h)) : ℝ) : EReal) * (((k.c (ix3 t (gr h) n)).toReal * (2 : ℝ) ^ (-ec (gr h)) : ℝ) : EReal))
      * FloatOps.exp2 (F := Ideal) (φ := .f32) (((k.cum h t * (Real.log 2)⁻¹ : ℝ) : EReal) - (((k.cum h s * (Real.log 2)⁻¹ : ℝ) : EReal)
        - (Ideal.log (k.dt (ix2 h s)) * (((Real.log 2)⁻¹ : ℝ) : EReal) + (((eb (gr h) : ℝ) : EReal) + ((ec (gr h) : ℝ) : EReal)))))
      = (((∑ n : Fin 128, (k.b (ix3 s (gr h) n)).toReal * (k.c (ix3 t (gr h) n)).toReal) * Real.exp (k.cum h t - k.cum h s) * (k.dt (ix2 h s)).toReal : ℝ) : EReal) := by
  rw [hk.dt, decay_real _ _ _ (hk.dt0 _)]
  simp only [← EReal.coe_mul]
  rw [Cert.Y.coe_sum, ← EReal.coe_mul, EReal.coe_eq_coe_iff]
  rw [show (∑ n : Fin 128, (k.b (ix3 s (gr h) n)).toReal * (2 : ℝ) ^ (-eb (gr h)) * ((k.c (ix3 t (gr h) n)).toReal * (2 : ℝ) ^ (-ec (gr h))))
      = (∑ n : Fin 128, (k.b (ix3 s (gr h) n)).toReal * (k.c (ix3 t (gr h) n)).toReal) * (2 : ℝ) ^ (-(eb (gr h) + ec (gr h))) from by
    rw [Finset.sum_mul]; refine Finset.sum_congr rfl fun n _ => ?_
    rw [neg_add, zpow_add₀ (by norm_num)]; ring]
  have hp : (2 : ℝ) ^ (-(eb (gr h) + ec (gr h))) * (2 : ℝ) ^ (eb (gr h) + ec (gr h)) = 1 := by
    rw [← zpow_add₀ (by norm_num)]; simp
  rw [EReal.toReal_coe]
  linear_combination ((∑ n : Fin 128, (k.b (ix3 s (gr h) n)).toReal * (k.c (ix3 t (gr h) n)).toReal) * Real.exp (k.cum h t - k.cum h s) * (k.dt (ix2 h s)).toReal) * hp

/-- The mask's words, read as half words, are nonzero where the column is not after the row. -/
def Tri (mk : Vec Ideal S64x128 .i32) : Prop := ∀ (s t : Fin 128) (a b : EReal),
  Scalar.select (IntOp.cmpi CmpIPredicate.ne (bitcast S128x128 16 mk bitcasts_S64x128_w32_S128x128_w16 (ix2 s t)) 0#16) a b = if s ≤ t then a else b

/-- What the heads start from. -/
structure Ready (k : Blk) (eb ec : Fin 8 → ℤ) (σ : St Ideal) : Prop where
  fr : Fr k eb ec σ
  b1 : ∀ i, σ .b1 i = k.x i
  b19 : ∀ h, σ .b19 (ix2 h 0) = k.d (ix2 0 h)

theorem Ready.congr {k : Blk} {eb ec : Fin 8 → ℤ} {σ σ' : St Ideal} (h : Ready k eb ec σ) (e : ∀ j, j ∉ headW → σ' j = σ j) : Ready k eb ec σ' where
  fr := by
    constructor
    · rw [e .b24 (by decide)]; exact h.fr.b24
    · rw [e .b25 (by decide)]; exact h.fr.b25
    · rw [e .b29 (by decide)]; exact h.fr.b29
    · rw [e .b31 (by decide)]; exact h.fr.b31
    · rw [e .b32 (by decide)]; exact h.fr.b32
    · rw [e .b33 (by decide)]; exact h.fr.b33
    · rw [e .b34 (by decide)]; exact h.fr.b34
    · rw [e .b35 (by decide), e .b10 (by decide)]; exact h.fr.bx
  b1 := by rw [e .b1 (by decide)]; exact h.b1
  b19 := by rw [e .b19 (by decide)]; exact h.b19

section
variable {k : Blk} (hk : k.Good) {eb ec : Fin 8 → ℤ}

/-- A head of a group. -/
abbrev hd (g : ℕ) (hg : g < 8) (r : ℕ) (hr : r < 14) : Fin 112 := ⟨g * 14 + r, by omega⟩

theorem gr_hd (g : ℕ) (hg : g < 8) (r : ℕ) (hr : r < 14) : gr (hd g hg r hr) = ⟨g, hg⟩ := Fin.ext (by change (g * 14 + r) / 14 = g; omega)

theorem pre37 (g : ℕ) (hg : g < 8) (σ : St Ideal) (s t : Fin 256) :
    (run (pre g hg) σ).2 .b37 (ix2 s t) = ∑ n : Fin 128, σ .b24 (ix3 ⟨g, hg⟩ s n) * σ .b25 (ix3 ⟨g, hg⟩ t n) := by
  rw [pre_b37, wr_all2]
  pointwise [preV1]

theorem pre38 (g : ℕ) (hg : g < 8) (σ : St Ideal) (i : Fin 896) (t : Fin 256) :
    (run (pre g hg) σ).2 .b38 (ix2 i t) = ∑ n : Fin 128, σ .b22 (ix2 ⟨g * 896 + i.val, by omega⟩ n) * σ .b25 (ix3 ⟨g, hg⟩ t n) := by
  rw [pre_b38, wr_all2]
  pointwise [preV3]
  refine Finset.sum_congr rfl fun n _ => ?_
  rw [wr_all2]
  pointwise [preV2]

/-- What is left for a head by its group's first step. -/
structure Pred (k : Blk) (eb ec : Fin 8 → ℤ) (H : S7168x128.Idx → EReal) (g : ℕ) (hg : g < 8) (σ : St Ideal) : Prop where
  b37 : ∀ s t : Fin 256, σ .b37 (ix2 s t) = ∑ n : Fin 128, (((k.b (ix3 s ⟨g, hg⟩ n)).toReal * (2 : ℝ) ^ (-eb ⟨g, hg⟩) : ℝ) : EReal)
    * (((k.c (ix3 t ⟨g, hg⟩ n)).toReal * (2 : ℝ) ^ (-ec ⟨g, hg⟩) : ℝ) : EReal)
  b38 : ∀ (r : ℕ) (hr : r < 14) (p : Fin 64) (i : Fin 896) (hi : i.val = r * 64 + p.val) (t : Fin 256), σ .b38 (ix2 i t)
    = ∑ n : Fin 128, H (ix2 (row (hd g hg r hr) p) n) * (((k.c (ix3 t ⟨g, hg⟩ n)).toReal * (2 : ℝ) ^ (-ec ⟨g, hg⟩) : ℝ) : EReal)

theorem sum_halves (f : Fin 256 → EReal) : ∑ s : Fin 256, f s = (∑ x : Fin 128, f ⟨x.val, by omega⟩) + ∑ x : Fin 128, f ⟨128 + x.val, by omega⟩ :=
  Fin.sum_univ_add (a := 128) (b := 128) f

include hk in
/-- One head's block of the first result. -/
theorem head9 {H : S7168x128.Idx → EReal} {mk : Vec Ideal S64x128 .i32} (hm : Tri mk) (g : ℕ) (hg : g < 8) (r : ℕ) (hr : r < 14) (σ : St Ideal)
    (hR : Ready k eb ec σ) (hP : Pred k eb ec H g hg σ) (p : Fin 64) (t : Fin 256) (j : Fin 7168) (hj : j.val = (g * 14 + r) * 64 + p.val) :
    (run (head g hg r hr mk) σ).2 .b9 (ix2 j t) = k.yv H (hd g hg r hr) p t := by
  have hp := p.isLt
  rw [head_b9, wr_row2, dif_pos ⟨by omega, by omega⟩]
  pointwise [headV2]
  have ej : ∀ hh, (⟨(g * 14 + r) * 64 + (j.val - (g * 14 + r) * 64), hh⟩ : Fin 7168) = row (hd g hg r hr) p := fun _ => Fin.ext (by
    change _ = (g * 14 + r) * 64 + p.val; dsimp only; omega)
  simp only [ej]
  have hx : ∀ s : Fin 256, σ .b10 (ix2 (row (hd g hg r hr) p) s) * σ .b35 (ix2 (hd g hg r hr) s) = (((k.x (ix2 (row (hd g hg r hr) p) s)).toReal : ℝ) : EReal) := fun s => by
    obtain ⟨e, h1, h2⟩ := hR.fr.bx (hd g hg r hr) s
    rw [h1, h2, ← EReal.coe_mul, mul_assoc, ← zpow_add₀ (by norm_num)]; simp
  have hw : ∀ s : Fin 256, σ .b37 (ix2 s t) * FloatOps.exp2 (F := Ideal) (φ := .f32) (σ .b29 (ix2 (hd g hg r hr) t) - σ .b31 (ix2 s ⟨g * 14 + r, by omega⟩))
      = (((∑ n : Fin 128, (k.b (ix3 s (gr (hd g hg r hr)) n)).toReal * (k.c (ix3 t (gr (hd g hg r hr)) n)).toReal) * Real.exp (k.cum (hd g hg r hr) t - k.cum (hd g hg r hr) s)
        * (k.dt (ix2 (hd g hg r hr) s)).toReal : ℝ) : EReal) := fun s => by
    rw [hR.fr.b29, hR.fr.b31 (hd g hg r hr) s _ rfl, hP.b37, ← weight_real k hk eb ec, gr_hd g hg r hr]
  have hmain : ∀ A B : EReal, A = ((k.yd (hd g hg r hr) p t : ℝ) : EReal) → B = k.yo H (hd g hg r hr) p t →
      A + B + σ .b19 (ix2 (hd g hg r hr) 0) * σ .b1 (ix2 (row (hd g hg r hr) p) t) = k.yv H (hd g hg r hr) p t := fun A B hA hB => by
    rw [hA, hB, hR.b19, hR.b1]; rfl
  refine hmain _ _ ?_ ?_
  · have key : ∀ (s : Fin 256) (v : EReal), v = (if s ≤ t then σ .b37 (ix2 s t) * FloatOps.exp2 (F := Ideal) (φ := .f32) (σ .b29 (ix2 (hd g hg r hr) t) - σ .b31 (ix2 s ⟨g * 14 + r, by omega⟩)) else 0) →
        σ .b10 (ix2 (row (hd g hg r hr) p) s) * σ .b35 (ix2 (hd g hg r hr) s) * v = (((k.x (ix2 (row (hd g hg r hr) p) s)).toReal * k.wgt (hd g hg r hr) s t : ℝ) : EReal) := fun s v hv => by
      rw [hx, hv, EReal.coe_mul, Blk.wgt]
      split_ifs
      · rw [hw]
      · simp
    unfold Blk.yd
    rw [← Cert.Y.coe_sum, sum_halves]
    have ht := t.isLt
    refine congrArg₂ (· + ·) (Finset.sum_congr rfl fun x _ => key ⟨x.val, by omega⟩ _ ?_) (Finset.sum_congr rfl fun x _ => key ⟨128 + x.val, by omega⟩ _ ?_)
    · by_cases h : t.val < 128
      · rw [dif_pos h, hm]
        exact if_congr Iff.rfl rfl rfl
      · have et : ∀ hh, (⟨128 + (t.val - 128), hh⟩ : Fin 256) = t := fun _ => Fin.ext (by dsimp only; omega)
        rw [dif_neg h, if_pos (Fin.le_def.mpr (by dsimp only; omega))]
        simp only [et]
    · by_cases h : t.val < 128
      · rw [dif_pos h, if_neg (fun hl => by have := Fin.le_def.mp hl; dsimp only at this; omega)]
      · have et : ∀ hh, (⟨128 + (t.val - 128), hh⟩ : Fin 256) = t := fun _ => Fin.ext (by dsimp only; omega)
        rw [dif_neg h, hm]
        simp only [et]
        refine if_congr ?_ rfl rfl
        rw [Fin.le_def, Fin.le_def]; dsimp only; omega
  · rw [hP.b38 r hr p _ (by dsimp only; omega), hR.fr.b32, gr_hd g hg r hr]
    unfold Blk.yo
    rw [gr_hd g hg r hr]
    have hz : (0 : ℝ) ≤ (2 : ℝ) ^ (-ec ⟨g, hg⟩) := by positivity
    rw [show (∑ n : Fin 128, H (ix2 (row (hd g hg r hr) p) n) * (((k.c (ix3 t ⟨g, hg⟩ n)).toReal * (2 : ℝ) ^ (-ec ⟨g, hg⟩) : ℝ) : EReal))
        = (∑ n : Fin 128, H (ix2 (row (hd g hg r hr) p) n) * (((k.c (ix3 t ⟨g, hg⟩ n)).toReal : ℝ) : EReal)) * (((2 : ℝ) ^ (-ec ⟨g, hg⟩) : ℝ) : EReal) from by
      rw [← Cert.Y.sum_mul_coe _ _ hz]; refine Finset.sum_congr rfl fun n _ => ?_; rw [EReal.coe_mul, mul_assoc]]
    rw [mul_assoc, ← EReal.coe_mul]
    congr 2
    rw [mul_comm (Real.exp _), ← mul_assoc, ← zpow_add₀ (by norm_num)]; simp

theorem head40 {mk : Vec Ideal S64x128 .i32} (g : ℕ) (hg : g < 8) (r : ℕ) (hr : r < 14) (σ : St Ideal)
    (hR : Ready k eb ec σ) (p : Fin 64) (t : Fin 256) (i : Fin 896) (hi : i.val = r * 64 + p.val) :
    (run (head g hg r hr mk) σ).2 .b40 (ix2 i t) = (((k.x (ix2 (row (hd g hg r hr) p) t)).toReal
      * (Real.exp (k.cum (hd g hg r hr) 255 - k.cum (hd g hg r hr) t) * (k.dt (ix2 (hd g hg r hr) t)).toReal * (2 : ℝ) ^ eb ⟨g, hg⟩) : ℝ) : EReal) := by
  have hp := p.isLt
  rw [head_b40, wr_row2, dif_pos ⟨by omega, by omega⟩]
  pointwise [headV1]
  have ej : ∀ hh, (⟨(g * 14 + r) * 64 + (i.val - r * 64), hh⟩ : Fin 7168) = row (hd g hg r hr) p := fun _ => Fin.ext (by
    change _ = (g * 14 + r) * 64 + p.val; dsimp only; omega)
  simp only [ej]
  obtain ⟨e, h1, h2⟩ := hR.fr.bx (hd g hg r hr) t
  rw [h1, h2, hR.fr.b33, gr_hd g hg r hr, ← EReal.coe_mul, ← EReal.coe_mul, EReal.coe_eq_coe_iff, mul_assoc _ ((2 : ℝ) ^ (-e)), ← zpow_add₀ (by norm_num)]
  simp

theorem dotv (g : ℕ) (hg : g < 8) (σ : St Ideal) (i : Fin 896) (n : Fin 128) :
    (run (dot g hg) σ).1 (ix2 i n) = ∑ x : Fin 256, σ .b40 (ix2 i x) * σ .b24 (ix3 ⟨g, hg⟩ x n) := by
  change dotC1 (View.ld (σ .b40) (Rect.unit (s := S896x256) ![0, 0] S896x256.size inb_S896x256_S896x256_0_0))
    (View.ld (σ .b24) (Rect.unit (s := S8x256x128) ![g, 0, 0] S1x256x128.size (inb3 (by omega) (by omega) (by omega)))) (ix2 i n) = _
  pointwise [dotC1]

theorem hupd22 (g : ℕ) (hg : g < 8) (r : ℕ) (hr : r < 14) (d : FVec Ideal S896x128 .f32) (σ : St Ideal) (h : Fin 112) (p : Fin 64) (n : Fin 128) :
    (run (hupd g hg r hr d) σ).2 .b22 (ix2 (row h p) n)
      = if h = hd g hg r hr then σ .b34 (ix2 h n) * σ .b22 (ix2 (row h p) n) + d (ix2 ⟨r * 64 + p.val, by omega⟩ n) else σ .b22 (ix2 (row h p) n) := by
  have hp := p.isLt
  rw [hupd_b22, wr_row2]
  by_cases hh : h = hd g hg r hr
  · have hv : h.val = g * 14 + r := congrArg Fin.val hh
    rw [dif_pos ⟨by change _ ≤ h.val * 64 + p.val; omega, by change h.val * 64 + p.val < _; omega⟩, if_pos hh]
    pointwise [hupdV]
    have e1 : ∀ hh, (⟨(g * 14 + r) * 64 + ((row h p).val - (g * 14 + r) * 64), hh⟩ : Fin 7168) = row h p := fun _ => Fin.ext (by
      change _ + (h.val * 64 + p.val - _) = h.val * 64 + p.val; omega)
    have e2 : ∀ hh, (⟨r * 64 + ((row h p).val - (g * 14 + r) * 64), hh⟩ : Fin 896) = ⟨r * 64 + p.val, by omega⟩ := fun _ => Fin.ext (by
      change r * 64 + (h.val * 64 + p.val - (g * 14 + r) * 64) = r * 64 + p.val; omega)
    have e3 : ∀ hh, (⟨g * 14 + r, hh⟩ : Fin 112) = h := fun _ => hh.symm
    rw [e1, e2, e3]
  · have hv : h.val ≠ g * 14 + r := fun e => hh (Fin.ext e)
    rw [dif_neg (by change ¬ (_ ≤ h.val * 64 + p.val ∧ h.val * 64 + p.val < _); omega), if_neg hh]

/-- What holds when `g` groups are done. -/
structure Done (k : Blk) (eb ec : Fin 8 → ℤ) (H : S7168x128.Idx → EReal) (g : ℕ) (σ : St Ideal) : Prop where
  rd : Ready k eb ec σ
  b22 : ∀ h p n, σ .b22 (ix2 (row h p) n) = if h.val < g * 14 then k.hn H h p n else H (ix2 (row h p) n)
  b9 : ∀ h p t, h.val < g * 14 → σ .b9 (ix2 (row h p) t) = k.yv H h p t

theorem Pred.congr {H : S7168x128.Idx → EReal} {g : ℕ} {hg : g < 8} {σ σ' : St Ideal} (h : Pred k eb ec H g hg σ) (e1 : σ' .b37 = σ .b37) (e2 : σ' .b38 = σ .b38) :
    Pred k eb ec H g hg σ' where
  b37 := by rw [e1]; exact h.b37
  b38 := by rw [e2]; exact h.b38

include hk in
theorem group_ok {H : S7168x128.Idx → EReal} {mk : Vec Ideal S64x128 .i32} (hm : Tri mk) (g : ℕ) (hg : g < 8) (σ : St Ideal) (hD : Done k eb ec H g σ) :
    Done k eb ec H (g + 1) (run (group mk g hg) σ).2 := by
  have w1 := writes_pre (F := Ideal) g hg σ
  have p37 := pre37 g hg σ
  have p38 := pre38 g hg σ
  unfold group
  rw [run_bind, run_bind, run_bind]
  generalize (run (pre g hg) σ).2 = σ1 at w1 p37 p38 ⊢
  have r1 : Ready k eb ec σ1 := hD.rd.congr fun j hj => w1 j fun h => hj (by revert h; revert j; decide)
  have q1 : Pred k eb ec H g hg σ1 := by
    refine ⟨fun s t => ?_, fun r hr p i hi t => ?_⟩
    · rw [p37]; refine Finset.sum_congr rfl fun n _ => ?_
      rw [hD.rd.fr.b24, hD.rd.fr.b25]
    · rw [p38]; refine Finset.sum_congr rfl fun n _ => ?_
      have hp := p.isLt
      rw [hD.rd.fr.b25, show (⟨g * 896 + i.val, by omega⟩ : Fin 7168) = row (hd g hg r hr) p from Fin.ext (by change g * 896 + i.val = (g * 14 + r) * 64 + p.val; omega),
        hD.b22, if_neg (by change ¬ (g * 14 + r < g * 14); omega)]
  have s22 : σ1 .b22 = σ .b22 := w1 _ (by decide)
  have s9 : σ1 .b9 = σ .b9 := w1 _ (by decide)
  have l2 := loop_fill (F := Ideal) (N := 14) (W := [.b40, .b9]) (f := fun r hr => head g hg r hr mk) (fun r hr => writes_head g hg r hr mk)
    (fun r σ' => (∀ (r' : ℕ) (hr' : r' < 14), r' < r → ∀ (p : Fin 64) (t : Fin 256) (i : Fin 896), i.val = r' * 64 + p.val →
        σ' .b40 (ix2 i t) = (((k.x (ix2 (row (hd g hg r' hr') p) t)).toReal
          * (Real.exp (k.cum (hd g hg r' hr') 255 - k.cum (hd g hg r' hr') t) * (k.dt (ix2 (hd g hg r' hr') t)).toReal * (2 : ℝ) ^ eb ⟨g, hg⟩) : ℝ) : EReal))
      ∧ ∀ (h : Fin 112) (p : Fin 64) (t : Fin 256), h.val < g * 14 + r → σ' .b9 (ix2 (row h p) t) = k.yv H h p t) σ1
    ⟨fun r' hr' h => absurd h (Nat.not_lt_zero _), fun h p t hh => by rw [s9]; exact hD.b9 h p t hh⟩
    (fun r hr σ' e hI => by
      have r' : Ready k eb ec σ' := r1.congr fun j hj => e j fun h => hj (by revert h; revert j; decide)
      have q' : Pred k eb ec H g hg σ' := q1.congr (e _ (by decide)) (e _ (by decide))
      refine ⟨fun r2 hr2 hlt p t i hi => ?_, fun h p t hh => ?_⟩
      · have hp := p.isLt
        by_cases h2 : r2 = r
        · subst h2; exact head40 g hg r2 hr2 σ' r' p t i hi
        · rw [head_b40, wr_row2, dif_neg (by omega)]
          exact hI.1 r2 hr2 (by omega) p t i hi
      · have hp := p.isLt
        by_cases h2 : h.val = g * 14 + r
        · have : h = hd g hg r hr := Fin.ext h2
          subst this
          exact head9 hk hm g hg r hr σ' r' q' p t _ rfl
        · rw [head_b9, wr_row2, dif_neg (by change ¬ (_ ≤ h.val * 64 + p.val ∧ h.val * 64 + p.val < _); omega)]
          exact hI.2 h p t (by omega))
  have w2 := writes_loop (F := Ideal) (N := 14) (W := [.b40, .b9]) (f := fun r hr => head g hg r hr mk) (fun r hr => writes_head g hg r hr mk) σ1
  generalize (run (loop 14 fun r hr => head g hg r hr mk) σ1).2 = σ2 at l2 w2 ⊢
  obtain ⟨c40, c9⟩ := l2
  have hd2 : (run (dot g hg) σ2).2 = σ2 := rfl
  have hdv := dotv g hg σ2
  rw [hd2]
  generalize (run (dot g hg) σ2).1 = d at hdv ⊢
  have r2 : Ready k eb ec σ2 := r1.congr fun j hj => w2 j fun h => hj (by revert h; revert j; decide)
  have hst : ∀ (r : ℕ) (hr : r < 14) (p : Fin 64) (n : Fin 128), d (ix2 ⟨r * 64 + p.val, by have := p.isLt; omega⟩ n) = ((k.st (hd g hg r hr) p n : ℝ) : EReal) := fun r hr p n => by
    rw [hdv]
    unfold Blk.st
    rw [← Cert.Y.coe_sum]
    refine Finset.sum_congr rfl fun x _ => ?_
    rw [c40 r hr hr p x _ rfl, r2.fr.b24, ← EReal.coe_mul, EReal.coe_eq_coe_iff, gr_hd g hg r hr]
    have hz : (2 : ℝ) ^ eb ⟨g, hg⟩ * (2 : ℝ) ^ (-eb ⟨g, hg⟩) = 1 := by rw [← zpow_add₀ (by norm_num)]; simp
    linear_combination ((k.x (ix2 (row (hd g hg r hr) p) x)).toReal * (Real.exp (k.cum (hd g hg r hr) 255 - k.cum (hd g hg r hr) x) * (k.dt (ix2 (hd g hg r hr) x)).toReal)
      * (k.b (ix3 x ⟨g, hg⟩ n)).toReal) * hz
  have l3 := loop_fill (F := Ideal) (N := 14) (W := [.b22]) (f := fun r hr => hupd g hg r hr d) (fun r hr => writes_hupd g hg r hr d)
    (fun r σ' => ∀ h p n, σ' .b22 (ix2 (row h p) n) = if h.val < g * 14 + r then k.hn H h p n else H (ix2 (row h p) n)) σ2
    (fun h p n => by rw [w2 .b22 (by decide), s22]; exact hD.b22 h p n)
    (fun r hr σ' e hI h p n => by
      rw [hupd22, hI, e .b34 (by decide), r2.fr.b34]
      by_cases h2 : h.val = g * 14 + r
      · have : h = hd g hg r hr := Fin.ext h2
        subst this
        rw [if_pos rfl, if_neg (by change ¬ (g * 14 + r < g * 14 + r); omega), if_pos (by change g * 14 + r < g * 14 + (r + 1); omega), hst r hr]
        rfl
      · rw [if_neg fun e => h2 (congrArg Fin.val e)]
        exact if_congr (by omega) rfl rfl)
  have w3 := writes_loop (F := Ideal) (N := 14) (W := [.b22]) (f := fun r hr => hupd g hg r hr d) (fun r hr => writes_hupd g hg r hr d) σ2
  generalize (run (loop 14 fun r hr => hupd g hg r hr d) σ2).2 = σ3 at l3 w3 ⊢
  refine ⟨r2.congr fun j hj => w3 j fun h => hj (by revert h; revert j; decide), fun h p n => ?_, fun h p t hh => ?_⟩
  · rw [l3]; exact if_congr (by omega) rfl rfl
  · rw [w3 .b9 (by decide)]; exact c9 h p t (by omega)

include hk in
/-- The heads: the first result's block, and the carried states moved on. -/
theorem groups_ok {H : S7168x128.Idx → EReal} (σ : St Ideal) (hm : Tri (σ .b21)) (hR : Ready k eb ec σ) (hH : ∀ h p n, σ .b22 (ix2 (row h p) n) = H (ix2 (row h p) n)) :
    (∀ h p t, (run groups σ).2 .b9 (ix2 (row h p) t) = k.yv H h p t) ∧ ∀ h p n, (run groups σ).2 .b22 (ix2 (row h p) n) = k.hn H h p n := by
  have hmk : (run mask σ).1 = σ .b21 := by
    change View.ld (σ .b21) (Rect.unit (s := S64x128) ![0, 0] S64x128.size inb_S64x128_S64x128_0_0) = _
    funext i
    rw [ValueIdx.eq_ix2 i]
    pointwise
  have hms : (run (F := Ideal) mask σ).2 = σ := rfl
  unfold groups
  rw [run_bind, hmk, hms]
  have := loop_fill (F := Ideal) (N := 8) (W := headW) (f := group (σ .b21)) (fun g hg => writes_group _ g hg) (fun g σ' => Done k eb ec H g σ') σ
    ⟨hR, fun h p n => by rw [hH, if_neg (by omega)], fun h p t hh => by omega⟩ (fun g hg σ' _ hI => group_ok hk hm g hg σ' hI)
  exact ⟨fun h p t => this.b9 h p t (by have := h.isLt; omega), fun h p n => by rw [this.b22, if_pos (by have := h.isLt; omega)]⟩

end

end Cert.KernelIdeal.Y
-- ==== Proof.Front.lean ====
/-
  What a grid point does before its heads: the exponents and codes of the two factors and of the values, and the decays.
-/
module

public import proofs.«01_k».proof.Proof.Heads

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe

theorem named_log2e : Named.named (F := Ideal) (φ := .f32) κ "log2e" 1069066811#32 = (((Real.log 2)⁻¹ : ℝ) : EReal) := rfl

/-- A maximum the quantiser takes. -/
def Sz (a : ℝ) : Prop := 0 ≤ a ∧ (a = 0 ∨ (2 : ℝ) ^ (-100 : ℤ) ≤ a) ∧ a ≤ (2 : ℝ) ^ (100 : ℤ)

theorem le_real {v : EReal} {a : ℝ} (hv : Cert.Y.Ok v) (h : max v (-v) ≤ (a : EReal)) : |v.toReal| ≤ a := by
  rw [hv.real, Cert.Y.abs_real] at h
  exact_mod_cast h

/-- The exponent of a factor's group. -/
theorem quant_exp (v : Vec Ideal S256x8x128 .bf16) (hv : ∀ i, Cert.Y.Ok (v i)) (g : Fin 8) :
    ∃ a : ℝ, Sz a ∧ (∀ (l : Fin 256) (n : Fin 128), |(v (ix3 l g n)).toReal| ≤ a) ∧ ∀ (j : Fin 128), quantBC1 v (ix2 g j) = BitVec.ofInt 32 (Cert.Y.ex a) := by
  have hs : Cert.Y.Sn (Finset.fold max ⊥ (fun n : Fin 128 => Finset.fold max ⊥ (fun l : Fin 256 => max (v (ix3 l g n)) (-(v (ix3 l g n)))) Finset.univ) Finset.univ) :=
    Cert.Y.Sn.fold (n := 127) fun n => Cert.Y.Sn.fold (n := 255) fun l => hv _
  obtain ⟨a, ha, h0, h1, h2⟩ := hs
  refine ⟨a, ⟨h0, h1, h2⟩, fun l n => le_real (hv _) ?_, fun j => ?_⟩
  · rw [← ha]
    exact (Cert.Y.le_fold (fun l : Fin 256 => max (v (ix3 l g n)) (-(v (ix3 l g n)))) l).trans
      (Cert.Y.le_fold (fun n : Fin 128 => Finset.fold max ⊥ (fun l : Fin 256 => max (v (ix3 l g n)) (-(v (ix3 l g n)))) Finset.univ) n)
  · pointwise [quantBC1]
    rw [named_log2e, Cert.Y.ofBits_bot, Cert.Y.ofBits_bot16]
    rw [← Cert.Y.ex_word h0 h1 h2, ← ha]
    rfl

/-- The codes of a factor. -/
theorem quant_code (v : Vec Ideal S256x8x128 .bf16) (hv : ∀ i, Cert.Y.Ok (v i)) (e : IVec S8x128 32) {a : ℝ} (ha : Sz a) (l : Fin 256) (g : Fin 8) (n : Fin 128)
    (hb : |(v (ix3 l g n)).toReal| ≤ a) (he : e (ix2 g n) = BitVec.ofInt 32 (Cert.Y.ex a)) :
    quantBV3 v e (ix3 l g n) = (((v (ix3 l g n)).toReal * (2 : ℝ) ^ (-Cert.Y.ex a) : ℝ) : EReal) := by
  have hr := Cert.Y.ex_range ha.1 ha.2.1 ha.2.2
  pointwise [quantBV3]
  rw [he, Cert.Y.pow_word_neg (by omega) (by omega), Cert.Y.ofBits_448, Cert.Y.ofBits_neg448, (hv (ix3 l g n)).real]
  exact Cert.Y.clip_id hb ha.1

/-- The largest of a head's channels at one step. -/
theorem amax_ok (v : Vec Ideal S64x256 .bf16) (hv : ∀ i, Cert.Y.Ok (v i)) (i : Fin 1) (j : Fin 256) :
    ∃ a : ℝ, Sz a ∧ (∀ p, |(v (ix2 p j)).toReal| ≤ a) ∧ amaxV v (ix2 i j) = (a : EReal) := by
  pointwise [amaxV]
  rw [Cert.Y.ofBits_bot]
  set f : Fin 8 → EReal := fun x => max
          (max (max (FloatOps.absf (F := Ideal) (φ := .bf16) (v (ix2 ⟨2 * x.val, by omega⟩ j))) (FloatOps.absf (F := Ideal) (φ := .bf16) (v (ix2 ⟨16 + 2 * x.val, by omega⟩ j))))
            (max (FloatOps.absf (F := Ideal) (φ := .bf16) (v (ix2 ⟨32 + 2 * x.val, by omega⟩ j))) (FloatOps.absf (F := Ideal) (φ := .bf16) (v (ix2 ⟨48 + 2 * x.val, by omega⟩ j)))))
          (max (max (FloatOps.absf (F := Ideal) (φ := .bf16) (v (ix2 ⟨2 * x.val + 1, by omega⟩ j))) (FloatOps.absf (F := Ideal) (φ := .bf16) (v (ix2 ⟨16 + (2 * x.val + 1), by omega⟩ j))))
            (max (FloatOps.absf (F := Ideal) (φ := .bf16) (v (ix2 ⟨32 + (2 * x.val + 1), by omega⟩ j)))
              (FloatOps.absf (F := Ideal) (φ := .bf16) (v (ix2 ⟨48 + (2 * x.val + 1), by omega⟩ j))))) with hf
  have hs : Cert.Y.Sn (Finset.fold max ⊥ f Finset.univ) := Cert.Y.Sn.fold (n := 7) fun x =>
    (((hv _).max (hv _)).max ((hv _).max (hv _))).max (((hv _).max (hv _)).max ((hv _).max (hv _)))
  obtain ⟨a, ha, h0, h1, h2⟩ := hs
  refine ⟨a, ⟨h0, h1, h2⟩, fun p => le_real (hv _) ?_, ha⟩
  have hle : ∀ x : Fin 8, f x ≤ (a : EReal) := fun x => ha ▸ Cert.Y.le_fold f x
  simp only [hf, max_le_iff] at hle
  have hp := p.isLt
  have hx : p.val % 16 / 2 < 8 := by omega
  obtain ⟨⟨⟨c0, c1⟩, c2, c3⟩, ⟨c4, c5⟩, c6, c7⟩ := hle ⟨p.val % 16 / 2, hx⟩
  have hq : p.val / 16 < 4 := by omega
  have done : ∀ (q : Fin 64), q.val = p.val → FloatOps.absf (F := Ideal) (φ := .bf16) (v (ix2 q j)) ≤ (a : EReal) → max (v (ix2 p j)) (-(v (ix2 p j))) ≤ (a : EReal) := fun q e h => by
    rw [show q = p from Fin.ext e] at h; exact h
  rcases Nat.mod_two_eq_zero_or_one p.val with hm | hm <;>
  rcases (by omega : p.val / 16 = 0 ∨ p.val / 16 = 1 ∨ p.val / 16 = 2 ∨ p.val / 16 = 3) with h | h | h | h
  · exact done _ (by dsimp only; omega) c0
  · exact done _ (by dsimp only; omega) c1
  · exact done _ (by dsimp only; omega) c2
  · exact done _ (by dsimp only; omega) c3
  · exact done _ (by dsimp only; omega) c4
  · exact done _ (by dsimp only; omega) c5
  · exact done _ (by dsimp only; omega) c6
  · exact done _ (by dsimp only; omega) c7

theorem expo2_ok (v : Vec Ideal S8x256 .f32) {a : ℝ} (ha : Sz a) (i : Fin 8) (j : Fin 256) (h : v (ix2 i j) = (a : EReal)) :
    expoV2 v (ix2 i j) = (((2 : ℝ) ^ Cert.Y.ex a : ℝ) : EReal) := by
  have hr := Cert.Y.ex_range ha.1 ha.2.1 ha.2.2
  pointwise [expoV2]
  rw [named_log2e, h, Cert.Y.ex_word ha.1 ha.2.1 ha.2.2, Cert.Y.pow_word (by omega) (by omega)]

theorem expo3_ok (v : Vec Ideal S8x256 .f32) {a : ℝ} (ha : Sz a) (i : Fin 8) (j : Fin 256) (h : v (ix2 i j) = (a : EReal)) :
    expoV3 v (ix2 i j) = (((2 : ℝ) ^ (-Cert.Y.ex a) : ℝ) : EReal) := by
  have hr := Cert.Y.ex_range ha.1 ha.2.1 ha.2.2
  pointwise [expoV3]
  rw [named_log2e, h, Cert.Y.ex_word ha.1 ha.2.1 ha.2.2, Cert.Y.pow_word_neg (by omega) (by omega)]

theorem code_ok (v : Vec Ideal S64x256 .bf16) (w : Vec Ideal S1x256 .f32) {a : ℝ} (ha : Sz a) (i : Fin 64) (j : Fin 256) (hv : Cert.Y.Ok (v (ix2 i j)))
    (hb : |(v (ix2 i j)).toReal| ≤ a) (h : w (ix2 0 j) = (((2 : ℝ) ^ (-Cert.Y.ex a) : ℝ) : EReal)) :
    codeV v w (ix2 i j) = (((v (ix2 i j)).toReal * (2 : ℝ) ^ (-Cert.Y.ex a) : ℝ) : EReal) := by
  pointwise [codeV]
  rw [h, Cert.Y.ofBits_448, Cert.Y.ofBits_neg448, hv.real]
  exact Cert.Y.clip_id hb ha.1

theorem fptosi_int {e : ℤ} (h1 : -1000 ≤ e) (h2 : e ≤ 1000) : FloatOps.fptosi (F := Ideal) (φ := .f32) 32 ((e : ℝ) : EReal) = BitVec.ofInt 32 e := by
  change Ideal.fptosi 32 ((e : ℝ) : EReal) = _
  rw [Ideal.fptosi, Ideal.toIntClamped_coe, Int.floor_intCast, Int.ceil_intCast, ite_self]
  rw [show max (-((2 ^ (32 - 1) : ℕ) : ℤ)) (min (((2 ^ (32 - 1) : ℕ) : ℤ) - 1) e) = e from by
    rw [min_eq_right (by norm_num; omega), max_eq_right (by norm_num; omega)]]

section
variable {k : Blk} (hk : k.Good)

/-- A bound on a head's channels at one step. -/
def Bd (k : Blk) (h : Fin 112) (t : Fin 256) (a : ℝ) : Prop := Sz a ∧ ∀ p, |(k.x (ix2 (row h p) t)).toReal| ≤ a

/-- A head's channels are coded. -/
def Cd (k : Blk) (h : Fin 112) (σ : St Ideal) : Prop := ∀ t, ∃ e : ℤ, σ .b35 (ix2 h t) = (((2 : ℝ) ^ e : ℝ) : EReal)
  ∧ ∀ p : Fin 64, σ .b10 (ix2 (row h p) t) = (((k.x (ix2 (row h p) t)).toReal * (2 : ℝ) ^ (-e) : ℝ) : EReal)

include hk in
theorem amax_row (h : Fin 112) (w : Vec Ideal S64x256 .bf16) (hw : ∀ p t, w (ix2 p t) = k.x (ix2 (row h p) t)) (i : Fin 1) (t : Fin 256) :
    ∃ a, Bd k h t a ∧ amaxV w (ix2 i t) = (a : EReal) := by
  obtain ⟨a, ha, hb, hc⟩ := amax_ok w (fun i => by rw [ValueIdx.eq_ix2 i]; exact (hw _ _).symm ▸ hk.x _) i t
  exact ⟨a, ⟨ha, fun p => by rw [← hw]; exact hb p⟩, hc⟩

/-- Eight heads. -/
def eight (o : ℕ) (ho : o < 14) : P Ideal PUnit := (loop 8 fun k hk => amax (o * 8 + k) (by omega)) >>= fun _ => expo o ho >>= fun _ =>
      loop 8 fun k hk => code (o * 8 + k) (by omega)

theorem writes_eight (o : ℕ) (ho : o < 14) : Writes [.b28, .b11, .b35, .b36, .b10] (eight o ho) :=
  writes_bind (writes_loop fun k hk => writes_mono (writes_amax _ _) (by decide)) fun _ =>
    writes_bind (writes_mono (writes_expo o ho) (by decide)) fun _ => writes_loop fun k hk => writes_mono (writes_code _ _) (by decide)

include hk in
theorem eight_ok (o : ℕ) (ho : o < 14) (σ : St Ideal) (h1 : ∀ i, σ .b1 i = k.x i) (hc : ∀ h : Fin 112, h.val < o * 8 → Cd k h σ) :
    ∀ h : Fin 112, h.val < (o + 1) * 8 → Cd k h (run (eight o ho) σ).2 := by
  unfold eight
  rw [run_bind, run_bind]
  have l1 := loop_fill (F := Ideal) (N := 8) (W := [.b28]) (f := fun q hq => amax (o * 8 + q) (by omega)) (fun q hq => writes_amax _ _)
    (fun q σ' => ∀ (h : Fin 112), o * 8 ≤ h.val → h.val < o * 8 + q → ∀ t, ∃ a, Bd k h t a ∧ σ' .b28 (ix2 h t) = (a : EReal)) σ
    (fun h h1 h2 => by omega)
    (fun q hq σ' e hI h h2 h3 t => by
      rw [amax_b28, wr_row2]
      by_cases hh : h.val = o * 8 + q
      · rw [dif_pos ⟨by omega, by omega⟩]
        have hw : ∀ (p : Fin 64) (t : Fin 256), View.ld (σ' .b1) (Rect.unit (s := S7168x256) ![(o * 8 + q) * 64, 0] S64x256.size (inb2 (by omega) (by omega))) (ix2 p t)
            = k.x (ix2 (row h p) t) := fun p t => by
          rw [← h1, e .b1 (by decide)]
          pointwise
          exact congrArg (fun z => σ .b1 (ix2 z t)) (Fin.ext (by change (o * 8 + q) * 64 + p.val = h.val * 64 + p.val; rw [hh]))
        exact amax_row hk h _ hw _ t
      · rw [dif_neg (by omega)]
        exact hI h h2 (by omega) t)
  have w1 := writes_loop (F := Ideal) (N := 8) (W := [.b28]) (f := fun q hq => amax (o * 8 + q) (by omega)) (fun q hq => writes_amax _ _) σ
  generalize (run (loop 8 fun q hq => amax (o * 8 + q) (by omega)) σ).2 = σ1 at l1 w1 ⊢
  have w2 := writes_expo (F := Ideal) o ho σ1
  have l2 : ∀ (h : Fin 112), o * 8 ≤ h.val → h.val < o * 8 + 8 → ∀ t, ∃ a, Bd k h t a ∧ (run (expo o ho) σ1).2 .b35 (ix2 h t) = (((2 : ℝ) ^ Cert.Y.ex a : ℝ) : EReal)
      ∧ (run (expo o ho) σ1).2 .b36 (ix2 h t) = (((2 : ℝ) ^ (-Cert.Y.ex a) : ℝ) : EReal) := fun h h2 h3 t => by
    obtain ⟨a, ha, hb⟩ := l1 h h2 h3 t
    have hw : ∀ hh, View.ld (σ1 .b28) (Rect.unit (s := S112x256) ![o * 8, 0] S8x256.size (inb2 (by omega) (by omega))) (ix2 ⟨h.val - o * 8, hh⟩ t) = (a : EReal) := fun hh => by
      rw [← hb]
      pointwise
      exact congrArg (fun z => σ1 .b28 (ix2 z t)) (Fin.ext (by dsimp only; omega))
    refine ⟨a, ha, ?_, ?_⟩
    · rw [expo_b35, wr_row2, dif_pos ⟨h2, h3⟩]
      exact expo2_ok _ ha.1 _ t (hw _)
    · rw [expo_b36, wr_row2, dif_pos ⟨h2, h3⟩]
      exact expo3_ok _ ha.1 _ t (hw _)
  have l2' : ∀ h : Fin 112, h.val < o * 8 → Cd k h (run (expo o ho) σ1).2 := fun h hh t => by
    obtain ⟨e, e1, e2⟩ := hc h hh t
    refine ⟨e, ?_, fun p => ?_⟩
    · rw [expo_b35, wr_row2, dif_neg (by omega), w1 .b35 (by decide)]; exact e1
    · rw [w2 .b10 (by decide), w1 .b10 (by decide)]; exact e2 p
  generalize (run (expo o ho) σ1).2 = σ2 at l2 l2' w2 ⊢
  have l3 := loop_fill (F := Ideal) (N := 8) (W := [.b10]) (f := fun q hq => code (o * 8 + q) (by omega)) (fun q hq => writes_code _ _)
    (fun q σ' => ∀ (h : Fin 112), h.val < o * 8 + q → Cd k h σ') σ2
    (fun h hh => l2' h (by omega))
    (fun q hq σ' e hI h hh t => by
      by_cases he : h.val = o * 8 + q
      · obtain ⟨a, ha, hb, hc⟩ := l2 h (by omega) (by omega) t
        refine ⟨Cert.Y.ex a, ?_, fun p => ?_⟩
        · rw [(writes_code (F := Ideal) _ _ _) .b35 (by decide), e .b35 (by decide), hb]
        · have hp := p.isLt
          rw [code_b10, wr_row2, dif_pos ⟨by change _ ≤ h.val * 64 + p.val; omega, by change h.val * 64 + p.val < _; omega⟩]
          have hw : ∀ hh, View.ld (σ' .b1) (Rect.unit (s := S7168x256) ![(o * 8 + q) * 64, 0] S64x256.size (inb2 (by omega) (by omega))) (ix2 ⟨(row h p).val - (o * 8 + q) * 64, hh⟩ t)
              = k.x (ix2 (row h p) t) := fun hh => by
            rw [← h1, e .b1 (by decide), w2 .b1 (by decide), w1 .b1 (by decide)]
            pointwise
            exact congrArg (fun z => σ .b1 (ix2 z t)) (Fin.ext (by change (o * 8 + q) * 64 + (h.val * 64 + p.val - (o * 8 + q) * 64) = h.val * 64 + p.val; omega))
          have hi : View.ld (σ' .b36) (Rect.unit (s := S112x256) ![o * 8 + q, 0] S1x256.size (inb2 (by omega) (by omega))) (ix2 0 t) = (((2 : ℝ) ^ (-Cert.Y.ex a) : ℝ) : EReal) := by
            rw [← hc, e .b36 (by decide)]
            pointwise
            exact congrArg (fun z => σ2 .b36 (ix2 z t)) (Fin.ext he.symm)
          rw [code_ok _ _ ha.1 _ t (by rw [hw]; exact hk.x _) (by rw [hw]; exact ha.2 p) hi, hw]
      · obtain ⟨e', e1, e2⟩ := hI h (by omega) t
        refine ⟨e', ?_, fun p => ?_⟩
        · rw [(writes_code (F := Ideal) _ _ _) .b35 (by decide)]; exact e1
        · have hp := p.isLt
          rw [code_b10, wr_row2, dif_neg (by change ¬ (_ ≤ h.val * 64 + p.val ∧ h.val * 64 + p.val < _); omega)]
          exact e2 p)
  intro h hh
  exact l3 h (by omega)

end

end Cert.KernelIdeal.Y
-- ==== Proof.Prep.lean ====
/-
  The decays a grid point computes before its heads, and what all of its front leaves for them.
-/
module

public import proofs.«01_k».proof.Proof.Front

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe

/-- The cumulated decays, in powers of two. -/
theorem prep1_ok (a : Vec Ideal S112x1 .f32) (d : Vec Ideal S112x256 .f32) (tri : Vec Ideal S256x256 .bf16) {A : Fin 112 → ℝ} {D : Fin 112 → Fin 256 → ℝ}
    (ha : ∀ h, a (ix2 h 0) = (A h : EReal)) (hd : ∀ h t, d (ix2 h t) = (D h t : EReal)) (ht : ∀ s t, tri (ix2 s t) = if s ≤ t then 1 else 0) (h : Fin 112) (t : Fin 256) :
    prepV1 a d tri (ix2 h t) = (((∑ s : Fin 256, if s ≤ t then A h * D h s else 0) * (Real.log 2)⁻¹ : ℝ) : EReal) := by
  have h1 : ∀ s, a (ix2 h 0) * d (ix2 h s) - a (ix2 h 0) * d (ix2 h s) = 0 := fun s => by
    rw [ha, hd, ← EReal.coe_mul, ← EReal.coe_sub, sub_self, EReal.coe_zero]
  have h2 : (∑ s : Fin 256, a (ix2 h 0) * d (ix2 h s) * tri (ix2 s t)) = ((∑ s : Fin 256, if s ≤ t then A h * D h s else 0 : ℝ) : EReal) := by
    rw [← Cert.Y.coe_sum]
    refine Finset.sum_congr rfl fun s _ => ?_
    rw [ht, ha, hd]
    split <;> simp
  pointwise [prepV1]
  rw [named_log2e]
  simp only [h1, zero_mul, Finset.sum_const_zero, add_zero, h2, sub_zero]
  rw [show ∀ u v w : EReal, w = 0 → u + w = u from fun u v w e => by rw [e, add_zero], ← EReal.coe_mul]
  · exact 0
  refine Finset.sum_eq_zero fun s _ => ?_
  have h3 : ∀ (i : Fin 112), a (ix2 i 0) * d (ix2 i s) - a (ix2 i 0) * d (ix2 i s) = 0 := fun i => by
    rw [ha, hd, ← EReal.coe_mul, ← EReal.coe_sub, sub_self, EReal.coe_zero]
  rw [dif_neg (by omega)]
  split
  · rw [h3, zero_mul]
  · rw [h3, sub_zero, zero_mul]

theorem prep2_eq (a : Vec Ideal S112x1 .f32) (d : Vec Ideal S112x256 .f32) (tri : Vec Ideal S256x256 .bf16) (d' : Vec Ideal S112x256 .f32) (eb ec : Vec Ideal S112x1 .f32)
    (h : Fin 112) (t : Fin 256) : prepV2 a d tri d' eb ec (ix2 h t) = prepV1 a d tri (ix2 h t)
      - (Ideal.log (d' (ix2 h t)) * (((Real.log 2)⁻¹ : ℝ) : EReal) + (eb (ix2 h 0) + ec (ix2 h 0))) := by
  rw [← named_log2e]
  pointwise [prepV1, prepV2]

theorem prep3_eq (a : Vec Ideal S112x1 .f32) (d : Vec Ideal S112x256 .f32) (tri : Vec Ideal S256x256 .bf16) (ec : Vec Ideal S112x1 .f32)
    (h : Fin 112) (t : Fin 256) : prepV3 a d tri ec (ix2 h t) = FloatOps.exp2 (F := Ideal) (φ := .f32) (prepV1 a d tri (ix2 h t) + ec (ix2 h 0)) := by
  pointwise [prepV1, prepV3]

theorem prep4_eq (a : Vec Ideal S112x1 .f32) (d : Vec Ideal S112x256 .f32) (tri : Vec Ideal S256x256 .bf16) (d' : Vec Ideal S112x256 .f32) (eb : Vec Ideal S112x1 .f32)
    (h : Fin 112) (t : Fin 256) : prepV4 a d tri d' eb (ix2 h t) = FloatOps.exp2 (F := Ideal) (φ := .f32) (prepV1 a d tri (ix2 h 255) - prepV1 a d tri (ix2 h t)) * d' (ix2 h t)
      * Ideal.ofBits .f32 (IntOp.shli ArithUnit.vector (IntOp.addi (FloatOps.fptosi (F := Ideal) (φ := .f32) 32 (eb (ix2 h 0))) 127#32) 23#32) := by
  pointwise [prepV1, prepV4]

theorem prep5_eq (a : Vec Ideal S112x1 .f32) (d : Vec Ideal S112x256 .f32) (tri : Vec Ideal S256x256 .bf16)
    (h : Fin 112) (n : Fin 128) : prepV5 a d tri (ix2 h n) = FloatOps.exp2 (F := Ideal) (φ := .f32) (prepV1 a d tri (ix2 h 255)) := by
  pointwise [prepV1, prepV5]

theorem exp2_cum (c : ℝ) (e : ℤ) : FloatOps.exp2 (F := Ideal) (φ := .f32) (((c * (Real.log 2)⁻¹ : ℝ) : EReal) + ((e : ℝ) : EReal)) = ((Real.exp c * (2 : ℝ) ^ e : ℝ) : EReal) := by
  change Ideal.exp2 _ = _
  have hl := Cert.Y.log2_pos
  rw [← EReal.coe_add, Ideal.exp2_coe, EReal.coe_eq_coe_iff]
  change (2 : ℝ) ^ (_ : ℝ) = _
  rw [Real.rpow_def_of_pos (by norm_num), ← Cert.Y.exp_ln2, ← Real.exp_add]
  congr 1
  field_simp

theorem exp2_cum0 (c : ℝ) : FloatOps.exp2 (F := Ideal) (φ := .f32) ((c * (Real.log 2)⁻¹ : ℝ) : EReal) = ((Real.exp c : ℝ) : EReal) := by
  have h := exp2_cum c 0
  rwa [Int.cast_zero, EReal.coe_zero, add_zero, zpow_zero, mul_one] at h

theorem eq3 {α : Type} {n0 n1 n2 : ℕ} (v w : (⟨3, ![n0, n1, n2]⟩ : Shape).Idx → α) (h : ∀ i j k, v (ix3 i j k) = w (ix3 i j k)) : v = w := by
  funext i
  rw [ValueIdx.eq_ix3 i]
  exact h _ _ _

section
variable {k : Blk} (hk : k.Good)

/-- The codes and exponents of the factor `B`. -/
theorem frontB (hf : ∀ i, Cert.Y.Ok (k.b i)) (σ : St Ideal) (hb : ∀ i, σ .b4 i = k.b i) :
    ∃ e : Fin 8 → ℤ, (∀ g, -110 ≤ e g ∧ e g ≤ 101) ∧ (∀ (g : Fin 8) (l : Fin 256) (n : Fin 128), (run (quantB >>= fun w => loop 8 fun g hg => storeB g hg w) σ).2 .b24 (ix3 g l n)
        = (((k.b (ix3 l g n)).toReal * (2 : ℝ) ^ (-e g) : ℝ) : EReal))
      ∧ ∀ (h : Fin 112) (j : Fin 128), (run (quantB >>= fun w => loop 8 fun g hg => storeB g hg w) σ).2 .b26 (ix2 h j) = ((e (gr h) : ℝ) : EReal) := by
  have hB : View.ld (σ .b4) (Rect.unit (s := S256x8x128) ![0, 0, 0] S256x8x128.size inb_S256x8x128_S256x8x128_0_0_0) = k.b :=
    eq3 _ _ fun l g n => by rw [← hb]; pointwise
  choose a ha hab hw using quant_exp k.b hf
  have hr : ∀ g, -110 ≤ Cert.Y.ex (a g) ∧ Cert.Y.ex (a g) ≤ 101 := fun g => Cert.Y.ex_range (ha g).1 (ha g).2.1 (ha g).2.2
  refine ⟨fun g => Cert.Y.ex (a g), hr, ?_⟩
  rw [run_bind]
  have q1 : ∀ (g : Fin 8) (j : Fin 128), (run quantB σ).1 (ix2 g j) = BitVec.ofInt 32 (Cert.Y.ex (a g)) := fun g j => by
    rw [quantB_ret]
    refine Eq.trans ?_ (hw g j)
    exact congrArg (fun z => quantBC1 z (ix2 g j)) hB
  have q2 : ∀ (l : Fin 256) (g : Fin 8) (n : Fin 128), (run quantB σ).2 .b23 (ix3 l g n) = (((k.b (ix3 l g n)).toReal * (2 : ℝ) ^ (-Cert.Y.ex (a g)) : ℝ) : EReal) := fun l g n => by
    rw [quantB_b23, wr_all3]
    refine Eq.trans ?_ (quant_code k.b hf (quantBC1 (F := Ideal) k.b) (ha g) l g n (hab g l n) (hw g n))
    exact congrArg (fun z => quantBV3 z (quantBC1 z) (ix3 l g n)) hB
  generalize (run quantB σ).1 = w at q1 ⊢
  generalize (run quantB σ).2 = σ1 at q2 ⊢
  have l1 := loop_fill (F := Ideal) (N := 8) (f := fun g hg => storeB g hg w) (fun g hg => writes_storeB g hg w)
    (fun q σ' => (∀ (g : Fin 8), g.val < q → ∀ (l : Fin 256) (n : Fin 128), σ' .b24 (ix3 g l n) = (((k.b (ix3 l g n)).toReal * (2 : ℝ) ^ (-Cert.Y.ex (a g)) : ℝ) : EReal))
      ∧ ∀ (h : Fin 112), h.val < q * 14 → ∀ (j : Fin 128), σ' .b26 (ix2 h j) = ((Cert.Y.ex (a (gr h)) : ℝ) : EReal)) σ1
    ⟨fun g h => by omega, fun h hh => by omega⟩
    (fun q hq σ' e hI => by
      refine ⟨fun g hg l n => ?_, fun h hh j => ?_⟩
      · rw [storeB_b24, wr_row3]
        split
        · rename_i hgq
          rw [← q2, ← e .b23 (by decide)]
          pointwise [storeBV1]
          exact congrArg (fun z => σ' .b23 (ix3 l z n)) (Fin.ext hgq.symm)
        · exact hI.1 g (by omega) l n
      · rw [storeB_b26, wr_row2]
        split
        · rename_i hgq
          have : w (ix2 ⟨q, by omega⟩ j) = BitVec.ofInt 32 (Cert.Y.ex (a (gr h))) := by
            rw [q1]
            exact congrArg (fun z => BitVec.ofInt 32 (Cert.Y.ex (a z))) (Fin.ext (by change q = h.val / 14; omega))
          pointwise [storeBV2]
          rw [this, Cert.Y.sitofp_ofInt (by have := hr (gr h); omega) (by have := hr (gr h); omega)]
        · exact hI.2 h (by omega) j)
  exact ⟨fun g l n => l1.1 g g.isLt l n, fun h j => l1.2 h (by omega) j⟩

/-- The codes and exponents of the factor `C`. -/
theorem frontC (hf : ∀ i, Cert.Y.Ok (k.c i)) (σ : St Ideal) (hb : ∀ i, σ .b5 i = k.c i) :
    ∃ e : Fin 8 → ℤ, (∀ g, -110 ≤ e g ∧ e g ≤ 101) ∧ (∀ (g : Fin 8) (l : Fin 256) (n : Fin 128), (run (quantC >>= fun w => loop 8 fun g hg => storeC g hg w) σ).2 .b25 (ix3 g l n)
        = (((k.c (ix3 l g n)).toReal * (2 : ℝ) ^ (-e g) : ℝ) : EReal))
      ∧ ∀ (h : Fin 112) (j : Fin 128), (run (quantC >>= fun w => loop 8 fun g hg => storeC g hg w) σ).2 .b27 (ix2 h j) = ((e (gr h) : ℝ) : EReal) := by
  have hB : View.ld (σ .b5) (Rect.unit (s := S256x8x128) ![0, 0, 0] S256x8x128.size inb_S256x8x128_S256x8x128_0_0_0) = k.c :=
    eq3 _ _ fun l g n => by rw [← hb]; pointwise
  choose a ha hab hw using quant_exp k.c hf
  have hr : ∀ g, -110 ≤ Cert.Y.ex (a g) ∧ Cert.Y.ex (a g) ≤ 101 := fun g => Cert.Y.ex_range (ha g).1 (ha g).2.1 (ha g).2.2
  refine ⟨fun g => Cert.Y.ex (a g), hr, ?_⟩
  rw [run_bind]
  have q1 : ∀ (g : Fin 8) (j : Fin 128), (run quantC σ).1 (ix2 g j) = BitVec.ofInt 32 (Cert.Y.ex (a g)) := fun g j => by
    rw [quantC_ret]
    refine Eq.trans ?_ (hw g j)
    exact congrArg (fun z => quantBC1 z (ix2 g j)) hB
  have q2 : ∀ (l : Fin 256) (g : Fin 8) (n : Fin 128), (run quantC σ).2 .b23 (ix3 l g n) = (((k.c (ix3 l g n)).toReal * (2 : ℝ) ^ (-Cert.Y.ex (a g)) : ℝ) : EReal) := fun l g n => by
    rw [quantC_b23, wr_all3]
    refine Eq.trans ?_ (quant_code k.c hf (quantBC1 (F := Ideal) k.c) (ha g) l g n (hab g l n) (hw g n))
    exact congrArg (fun z => quantBV3 z (quantBC1 z) (ix3 l g n)) hB
  generalize (run quantC σ).1 = w at q1 ⊢
  generalize (run quantC σ).2 = σ1 at q2 ⊢
  have l1 := loop_fill (F := Ideal) (N := 8) (f := fun g hg => storeC g hg w) (fun g hg => writes_storeC g hg w)
    (fun q σ' => (∀ (g : Fin 8), g.val < q → ∀ (l : Fin 256) (n : Fin 128), σ' .b25 (ix3 g l n) = (((k.c (ix3 l g n)).toReal * (2 : ℝ) ^ (-Cert.Y.ex (a g)) : ℝ) : EReal))
      ∧ ∀ (h : Fin 112), h.val < q * 14 → ∀ (j : Fin 128), σ' .b27 (ix2 h j) = ((Cert.Y.ex (a (gr h)) : ℝ) : EReal)) σ1
    ⟨fun g h => by omega, fun h hh => by omega⟩
    (fun q hq σ' e hI => by
      refine ⟨fun g hg l n => ?_, fun h hh j => ?_⟩
      · rw [storeC_b25, wr_row3]
        split
        · rename_i hgq
          rw [← q2, ← e .b23 (by decide)]
          pointwise [storeBV1]
          exact congrArg (fun z => σ' .b23 (ix3 l z n)) (Fin.ext hgq.symm)
        · exact hI.1 g (by omega) l n
      · rw [storeC_b27, wr_row2]
        split
        · rename_i hgq
          have : w (ix2 ⟨q, by omega⟩ j) = BitVec.ofInt 32 (Cert.Y.ex (a (gr h))) := by
            rw [q1]
            exact congrArg (fun z => BitVec.ofInt 32 (Cert.Y.ex (a z))) (Fin.ext (by change q = h.val / 14; omega))
          pointwise [storeBV2]
          rw [this, Cert.Y.sitofp_ofInt (by have := hr (gr h); omega) (by have := hr (gr h); omega)]
        · exact hI.2 h (by omega) j)
  exact ⟨fun g l n => l1.1 g g.isLt l n, fun h j => l1.2 h (by omega) j⟩

end

end Cert.KernelIdeal.Y
-- ==== Proof.Pass.lean ====
/-
  The front of a grid point, as a whole.
-/
module

public import proofs.«01_k».proof.Proof.Prep

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe

/-- What the front reads: the inputs, a column of decay rates, the triangle that adds up. -/
structure Src (k : Blk) (σ : St Ideal) : Prop where
  b1 : ∀ i, σ .b1 i = k.x i
  b2 : ∀ i, σ .b2 i = k.dt i
  b4 : ∀ i, σ .b4 i = k.b i
  b5 : ∀ i, σ .b5 i = k.c i
  b18 : ∀ (h : Fin 112) (j : Fin 128), σ .b18 (ix2 h j) = k.a (ix2 0 h)
  b20 : ∀ s t : Fin 256, σ .b20 (ix2 s t) = if s ≤ t then (1 : EReal) else 0

section
variable {k : Blk} (hk : k.Good)

/-- What the decays read, as loaded. -/
structure Ld (k : Blk) (eb ec : Fin 8 → ℤ) (a : Vec Ideal S112x1 .f32) (d : Vec Ideal S112x256 .f32) (tri : Vec Ideal S256x256 .bf16) (b c : Vec Ideal S112x1 .f32) : Prop where
  a : ∀ h, a (ix2 h 0) = (((k.a (ix2 0 h)).toReal : ℝ) : EReal)
  d : ∀ h t, d (ix2 h t) = (((k.dt (ix2 h t)).toReal : ℝ) : EReal)
  tri : ∀ s t, tri (ix2 s t) = if s ≤ t then 1 else 0
  b : ∀ h, b (ix2 h 0) = ((eb (gr h) : ℝ) : EReal)
  c : ∀ h, c (ix2 h 0) = ((ec (gr h) : ℝ) : EReal)

variable {eb ec : Fin 8 → ℤ} {a : Vec Ideal S112x1 .f32} {d : Vec Ideal S112x256 .f32} {tri : Vec Ideal S256x256 .bf16} {b c : Vec Ideal S112x1 .f32}

theorem Ld.p1 (H : Ld k eb ec a d tri b c) (h : Fin 112) (t : Fin 256) : prepV1 a d tri (ix2 h t) = ((k.cum h t * (Real.log 2)⁻¹ : ℝ) : EReal) :=
  prep1_ok a d tri H.a H.d H.tri h t

include hk in
theorem Ld.p2 (H : Ld k eb ec a d tri b c) (h : Fin 112) (t : Fin 256) : prepV2 a d tri d b c (ix2 h t) = ((k.cum h t * (Real.log 2)⁻¹ : ℝ) : EReal)
    - (Ideal.log (k.dt (ix2 h t)) * (((Real.log 2)⁻¹ : ℝ) : EReal) + (((eb (gr h) : ℝ) : EReal) + ((ec (gr h) : ℝ) : EReal))) := by
  rw [prep2_eq, H.p1, H.d, ← hk.dt, H.b, H.c]

theorem Ld.p3 (H : Ld k eb ec a d tri b c) (h : Fin 112) (t : Fin 256) : prepV3 a d tri c (ix2 h t) = ((Real.exp (k.cum h t) * (2 : ℝ) ^ ec (gr h) : ℝ) : EReal) := by
  rw [prep3_eq, H.p1, H.c, exp2_cum]

theorem Ld.p4 (hr : ∀ g, -110 ≤ eb g ∧ eb g ≤ 101) (H : Ld k eb ec a d tri b c) (h : Fin 112) (t : Fin 256) : prepV4 a d tri d b (ix2 h t)
    = ((Real.exp (k.cum h 255 - k.cum h t) * (k.dt (ix2 h t)).toReal * (2 : ℝ) ^ eb (gr h) : ℝ) : EReal) := by
  have h1 := hr (gr h)
  rw [prep4_eq, H.p1, H.p1, H.d, H.b, fptosi_int (by omega) (by omega), Cert.Y.pow_word (by omega) (by omega), ← EReal.coe_sub, ← sub_mul, exp2_cum0,
    ← EReal.coe_mul, ← EReal.coe_mul]

theorem Ld.p5 (H : Ld k eb ec a d tri b c) (h : Fin 112) (n : Fin 128) : prepV5 a d tri (ix2 h n) = ((Real.exp (k.cum h 255) : ℝ) : EReal) := by
  rw [prep5_eq, H.p1, exp2_cum0]

theorem p6_eq (v : Vec Ideal S128x256 .f32) (t : Fin 256) (j : Fin 128) : prepV6 v (ix2 t j) = v (ix2 j t) := by
  pointwise [prepV6]

include hk in
/-- The decays. -/
theorem prep_ok (hr : ∀ g, -110 ≤ eb g ∧ eb g ≤ 101) (σ : St Ideal) (h2 : ∀ i, σ .b2 i = k.dt i) (h18 : ∀ (h : Fin 112) (j : Fin 128), σ .b18 (ix2 h j) = k.a (ix2 0 h))
    (h20 : ∀ s t : Fin 256, σ .b20 (ix2 s t) = if s ≤ t then (1 : EReal) else 0)
    (h26 : ∀ (h : Fin 112) (j : Fin 128), σ .b26 (ix2 h j) = ((eb (gr h) : ℝ) : EReal)) (h27 : ∀ (h : Fin 112) (j : Fin 128), σ .b27 (ix2 h j) = ((ec (gr h) : ℝ) : EReal)) :
    (∀ (h : Fin 112) (t : Fin 256), (run prep σ).2 .b29 (ix2 h t) = ((k.cum h t * (Real.log 2)⁻¹ : ℝ) : EReal))
    ∧ (∀ (h : Fin 112) (t : Fin 256) (j : Fin 128), j.val = h.val → (run prep σ).2 .b31 (ix2 t j) = ((k.cum h t * (Real.log 2)⁻¹ : ℝ) : EReal)
      - (Ideal.log (k.dt (ix2 h t)) * (((Real.log 2)⁻¹ : ℝ) : EReal) + (((eb (gr h) : ℝ) : EReal) + ((ec (gr h) : ℝ) : EReal))))
    ∧ (∀ (h : Fin 112) (t : Fin 256), (run prep σ).2 .b32 (ix2 h t) = ((Real.exp (k.cum h t) * (2 : ℝ) ^ ec (gr h) : ℝ) : EReal))
    ∧ (∀ (h : Fin 112) (t : Fin 256), (run prep σ).2 .b33 (ix2 h t) = ((Real.exp (k.cum h 255 - k.cum h t) * (k.dt (ix2 h t)).toReal * (2 : ℝ) ^ eb (gr h) : ℝ) : EReal))
    ∧ ∀ (h : Fin 112) (n : Fin 128), (run prep σ).2 .b34 (ix2 h n) = ((Real.exp (k.cum h 255) : ℝ) : EReal) := by
  have H : Ld k eb ec (View.ld (σ .b18) (Rect.unit (s := S112x128) ![0, 0] S112x1.size inb_S112x128_S112x1_0_0)) (View.ld (σ .b2) (Rect.unit (s := S112x256) ![0, 0] S112x256.size inb_S112x256_S112x256_0_0))
      (View.ld (σ .b20) (Rect.unit (s := S256x256) ![0, 0] S256x256.size inb_S256x256_S256x256_0_0)) (View.ld (σ .b26) (Rect.unit (s := S112x128) ![0, 0] S112x1.size inb_S112x128_S112x1_0_0))
      (View.ld (σ .b27) (Rect.unit (s := S112x128) ![0, 0] S112x1.size inb_S112x128_S112x1_0_0)) :=
    { a := fun h => by rw [← hk.a, ← h18 h 0]; pointwise
      d := fun h t => by rw [← hk.dt, ← h2]; pointwise
      tri := fun s t => by rw [← h20]; pointwise
      b := fun h => by rw [← h26 h 0]; pointwise
      c := fun h => by rw [← h27 h 0]; pointwise }
  refine ⟨fun h t => ?_, fun h t j hj => ?_, fun h t => ?_, fun h t => ?_, fun h n => ?_⟩
  · rw [prep_b29, wr_all2]; exact H.p1 h t
  · rw [prep_b31, wr_all2, p6_eq]
    have e : ∀ (z : Vec Ideal S112x256 .f32) (X : Vec Ideal S128x256 .f32), View.ld
        (wr (F := Ideal) (e := .f32) (Rect.unit (s := S128x256) ![0, 0] S112x256.size inb_S128x256_S112x256_0_0) z X)
        (Rect.unit (s := S128x256) ![0, 0] S128x256.size inb_S128x256_S128x256_0_0) (ix2 j t) = z (ix2 h t) := fun z X => by
      have e : ∀ X : Vec Ideal S128x256 .f32, View.ld X (Rect.unit (s := S128x256) ![0, 0] S128x256.size inb_S128x256_S128x256_0_0) (ix2 j t) = X (ix2 j t) := fun X => by pointwise
      refine (e _).trans ?_
      rw [wr_row2, dif_pos ⟨Nat.zero_le _, by omega⟩]
      exact congrArg (fun y => z (ix2 y t)) (Fin.ext hj)
    exact (e _ _).trans (H.p2 hk h t)
  · rw [prep_b32, wr_all2]; exact H.p3 h t
  · rw [prep_b33, wr_all2]; exact H.p4 hr h t
  · rw [prep_b34, wr_all2]; exact H.p5 h n

theorem front_run (σ : St Ideal) : (run front σ).2 = (run (loop 14 eight) (run prep (run (quantC >>= fun w => loop 8 fun g hg => storeC g hg w)
    (run (quantB >>= fun w => loop 8 fun g hg => storeB g hg w) σ).2).2).2).2 := by
  unfold front
  simp only [run_bind]
  rfl

include hk in
/-- What the front leaves. -/
theorem front_ok (σ : St Ideal) (H : Src k σ) : ∃ eb ec, Fr k eb ec (run front σ).2 := by
  rw [front_run]
  obtain ⟨eb, hrb, hb, heb⟩ := frontB hk.b σ H.b4
  have wB : Writes [.b13, .b12, .b23, .b24, .b26] (quantB >>= fun w => loop 8 fun g hg => storeB g hg w : P Ideal PUnit) :=
    writes_bind (writes_mono writes_quantB (by decide)) fun e1 => writes_loop fun g hg => writes_mono (writes_storeB g hg e1) (by decide)
  have kB := wB σ
  generalize (run (quantB >>= fun w => loop 8 fun g hg => storeB g hg w) σ).2 = σ1 at hb heb kB ⊢
  obtain ⟨ec, hrc, hc, hec⟩ := frontC hk.c σ1 (fun i => by rw [kB .b5 (by decide)]; exact H.b5 i)
  have wC : Writes [.b15, .b14, .b23, .b25, .b27] (quantC >>= fun w => loop 8 fun g hg => storeC g hg w : P Ideal PUnit) :=
    writes_bind (writes_mono writes_quantC (by decide)) fun e1 => writes_loop fun g hg => writes_mono (writes_storeC g hg e1) (by decide)
  have kC := wC σ1
  generalize (run (quantC >>= fun w => loop 8 fun g hg => storeC g hg w) σ1).2 = σ2 at hc hec kC ⊢
  obtain ⟨p29, p31, p32, p33, p34⟩ := prep_ok hk hrb σ2 (fun i => by rw [kC .b2 (by decide), kB .b2 (by decide)]; exact H.b2 i)
    (fun h j => by rw [kC .b18 (by decide), kB .b18 (by decide)]; exact H.b18 h j) (fun s t => by rw [kC .b20 (by decide), kB .b20 (by decide)]; exact H.b20 s t)
    (fun h j => by rw [kC .b26 (by decide)]; exact heb h j) hec
  have kP := writes_prep (F := Ideal) σ2
  generalize (run prep σ2).2 = σ3 at p29 p31 p32 p33 p34 kP ⊢
  have l := loop_fill (F := Ideal) (N := 14) (f := eight) writes_eight (fun o σ' => ∀ h : Fin 112, h.val < o * 8 → Cd k h σ') σ3 (fun h hh => by omega)
    (fun o ho σ' e hI => eight_ok hk o ho σ' (fun i => by rw [e .b1 (by decide), kP .b1 (by decide), kC .b1 (by decide), kB .b1 (by decide)]; exact H.b1 i) hI)
  have kL := writes_loop (F := Ideal) (N := 14) (f := eight) writes_eight σ3
  generalize (run (loop 14 eight) σ3).2 = σ4 at l kL ⊢
  exact ⟨eb, ec,
    { b24 := fun g l n => by rw [kL .b24 (by decide), kP .b24 (by decide), kC .b24 (by decide)]; exact hb g l n
      b25 := fun g l n => by rw [kL .b25 (by decide), kP .b25 (by decide)]; exact hc g l n
      b29 := fun h t => by rw [kL .b29 (by decide)]; exact p29 h t
      b31 := fun h t j hj => by rw [kL .b31 (by decide)]; exact p31 h t j hj
      b32 := fun h t => by rw [kL .b32 (by decide)]; exact p32 h t
      b33 := fun h t => by rw [kL .b33 (by decide)]; exact p33 h t
      b34 := fun h n => by rw [kL .b34 (by decide)]; exact p34 h n
      bx := fun h t => l h (by omega) t }⟩

end

end Cert.KernelIdeal.Y
-- ==== Proof.Init.lean ====
/-
  What the first grid point sets up: the columns of `A` and `D`, the triangle that adds up, the mask of a chunk against itself, and the
  state the chunks start from.
-/
module

public import proofs.«01_k».proof.Proof.Pass
public import Idealize.ShloMosaic.Lib.BitcastPair
public import Idealize.ShloMosaic.Lib.WordCmp

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe

theorem sle_ofNat {α : Type} {a b : ℕ} (ha : a < 1000) (hb : b < 1000) (u v : α) :
    Scalar.select (IntOp.cmpi .sle (BitVec.ofNat 32 a) (BitVec.ofNat 32 b)) u v = if a ≤ b then u else v := by
  rw [WordCmp.cmpi_sle_ofNat (by omega) (by omega)]
  by_cases h : a ≤ b <;> simp [h, Scalar.select]

theorem eq_ofNat {α : Type} {a b : ℕ} (ha : a < 1000) (hb : b < 1000) (u v : α) :
    Scalar.select (IntOp.cmpi .eq (BitVec.ofNat 32 a) (BitVec.ofNat 32 b)) u v = if a = b then u else v := by
  rw [WordCmp.cmpi_eq_ofNat (by omega) (by omega)]
  by_cases h : a = b <;> simp [h, Scalar.select]

theorem initA1_ok (i j : Fin 256) : initAV1 (F := Ideal) (ix2 i j) = if i ≤ j then (1 : EReal) else 0 := by
  pointwise [initAV1]
  rw [sle_ofNat (by omega) (by omega)]
  rfl

theorem initA3_ok (v : Vec Ideal S1x112 .f32) (i : Fin 112) (j : Fin 128) : initAV3 v (ix2 i j) = v (ix2 0 i) := by
  pointwise [initAV3]
  rw [Finset.sum_eq_single i]
  · rw [eq_ofNat (by omega) (by omega), if_pos rfl]
  · intro b _ hb
    rw [eq_ofNat (by omega) (by omega), if_neg fun h => hb (Fin.ext h.symm)]
  · intro h; exact absurd (Finset.mem_univ i) h

theorem initA4_ok (v : Vec Ideal S1x112 .f32) (i : Fin 112) (j : Fin 128) : initAV4 v (ix2 i j) = v (ix2 0 i) := by
  pointwise [initAV4]
  rw [Finset.sum_eq_single i]
  · rw [eq_ofNat (by omega) (by omega), if_pos rfl]
  · intro b _ hb
    rw [eq_ofNat (by omega) (by omega), if_neg fun h => hb (Fin.ext h.symm)]
  · intro h; exact absurd (Finset.mem_univ i) h

theorem initH_ok (v : Vec Ideal S64x1 .f32) (w : Vec Ideal S64x128 .fp8e4m3) (i : Fin 64) (j : Fin 128) : initHV v w (ix2 i j) = w (ix2 i j) * v (ix2 i 0) := by
  pointwise [initHV]

/-- One word of the mask holds two rows of it. -/
theorem mask_word (k : Fin 64) (t : Fin 128) : initAV2 (ix2 k t)
    = (if 2 * k.val ≤ t.val then 65535#32 else 0#32) ||| (if 2 * k.val + 1 ≤ t.val then 4294901760#32 else 0#32) := by
  have h1 : (2#32 : BitVec 32) * BitVec.ofNat 32 k.val = BitVec.ofNat 32 (2 * k.val) := by rw [← BitVec.ofNat_mul]
  have h2 : BitVec.ofNat 32 (2 * k.val) + 1#32 = BitVec.ofNat 32 (2 * k.val + 1) := by rw [← BitVec.ofNat_add]
  pointwise [initAV2]
  change Scalar.select (IntOp.cmpi .sle ((2#32 : BitVec 32) * BitVec.ofNat 32 k.val) (BitVec.ofNat 32 t.val)) 65535#32 0#32
    ||| Scalar.select (IntOp.cmpi .sle ((2#32 : BitVec 32) * BitVec.ofNat 32 k.val + 1#32) (BitVec.ofNat 32 t.val)) 4294901760#32 0#32 = _
  rw [h1, h2, sle_ofNat (by omega) (by omega), sle_ofNat (by omega) (by omega)]

theorem mask_ok : Tri initAV2 := by
  intro s t a b
  have hs : ∀ hp, Shape.Bitcasts.srcIdx bitcasts_S64x128_w32_S128x128_w16 (ix2 s t) (s.val / 2) hp = (ix2 ⟨s.val / 2, by omega⟩ t : S64x128.Idx) := fun hp => by
    funext i
    apply Fin.ext
    match i with
    | ⟨0, _⟩ => rfl
    | ⟨1, _⟩ => rfl
  have hr : S128x128.row (ix2 s t) = s.val := rfl
  rw [bitcast_32_16]
  have e : ∀ (p : ℕ) (h : p = s.val / 2) (hp), initAV2 (Shape.Bitcasts.srcIdx bitcasts_S64x128_w32_S128x128_w16 (ix2 s t) p hp) = initAV2 (ix2 ⟨s.val / 2, by omega⟩ t) := fun p h hp => by
    subst h; rw [hs]
  rw [e _ (by rw [hr]), mask_word, hr]
  dsimp only
  have ht : ∀ w : BitVec 16, (w = 65535#16 → Scalar.select (IntOp.cmpi .ne w 0#16) a b = a) ∧ (w = 0#16 → Scalar.select (IntOp.cmpi .ne w 0#16) a b = b) :=
    fun w => ⟨fun h => by rw [h]; rfl, fun h => by rw [h]; rfl⟩
  rcases Nat.mod_two_eq_zero_or_one s.val with h | h
  · rw [h]
    by_cases hst : s ≤ t
    · rw [if_pos hst, if_pos (by omega)]
      refine (ht _).1 ?_
      split <;> decide
    · rw [if_neg hst, if_neg (by omega), if_neg (by omega)]
      exact (ht _).2 (by decide)
  · rw [h]
    by_cases hst : s ≤ t
    · rw [if_pos hst, if_pos (by omega), if_pos (by omega)]
      exact (ht _).1 (by decide)
    · rw [if_neg hst, if_neg (c := 2 * (s.val / 2) + 1 ≤ t.val) (by omega)]
      refine (ht _).2 ?_
      split <;> decide

section
variable (k : Blk) (H0 : S7168x128.Idx → EReal)

/-- What every grid point finds: the columns of `A` and `D`, the triangle, the mask. -/
structure Cols (k : Blk) (x18 x19 : S112x128.Idx → EReal) (x20 : S256x256.Idx → EReal) (x21 : S64x128.Idx → BitVec 32) : Prop where
  b18 : ∀ (h : Fin 112) (j : Fin 128), x18 (ix2 h j) = k.a (ix2 0 h)
  b19 : ∀ (h : Fin 112) (j : Fin 128), x19 (ix2 h j) = k.d (ix2 0 h)
  b20 : ∀ s t : Fin 256, x20 (ix2 s t) = if s ≤ t then (1 : EReal) else 0
  b21 : Tri x21

/-- What the first point sets up. -/
theorem init_ok (σ : St Ideal) (h3 : ∀ i, σ .b3 i = k.a i) (h6 : ∀ i, σ .b6 i = k.d i) (c0 : S7168x128.Idx → EReal) (s0 : S64x112.Idx → EReal)
    (h7 : ∀ i, σ .b7 i = c0 i) (h8 : ∀ i, σ .b8 i = s0 i) :
    Cols k ((run initP σ).2 .b18) ((run initP σ).2 .b19) ((run initP σ).2 .b20) ((run initP σ).2 .b21)
      ∧ ∀ (h : Fin 112) (p : Fin 64) (n : Fin 128), (run initP σ).2 .b22 (ix2 (row h p) n) = c0 (ix2 (row h p) n) * s0 (ix2 p h) := by
  have e : (run initP σ).2 = (run (loop 112 initH) (run initA σ).2).2 := by unfold initP; rw [run_bind]
  rw [e]
  have kA := writes_initA (F := Ideal) σ
  have a18 : ∀ (h : Fin 112) (j : Fin 128), (run initA σ).2 .b18 (ix2 h j) = k.a (ix2 0 h) := fun h j => by
    rw [initA_b18, wr_all2, initA3_ok, ← h3]
    pointwise
  have a19 : ∀ (h : Fin 112) (j : Fin 128), (run initA σ).2 .b19 (ix2 h j) = k.d (ix2 0 h) := fun h j => by
    rw [initA_b19, wr_all2, initA4_ok, ← h6]
    pointwise
  have a20 : ∀ (s t : Fin 256), (run initA σ).2 .b20 (ix2 s t) = if s ≤ t then (1 : EReal) else 0 := fun s t => by
    rw [initA_b20, wr_all2, initA1_ok]
  have a21 : (run initA σ).2 .b21 = initAV2 := by
    rw [initA_b21]
    funext i
    rw [ValueIdx.eq_ix2 i]
    exact wr_all2 _ _ _ _ _
  generalize (run initA σ).2 = σ1 at kA a18 a19 a20 a21 ⊢
  have kL := writes_loop (F := Ideal) (N := 112) (W := [.b22]) (f := initH) (fun h hh => writes_initH h hh) σ1
  have l := loop_fill (F := Ideal) (N := 112) (W := [.b22]) (f := initH) (fun h hh => writes_initH h hh)
    (fun q σ' => ∀ h : Fin 112, h.val < q → ∀ (p : Fin 64) (n : Fin 128), σ' .b22 (ix2 (row h p) n) = c0 (ix2 (row h p) n) * s0 (ix2 p h)) σ1
    (fun h hh => by omega)
    (fun q hq σ' e hI h hh p n => by
      have hp := p.isLt
      rw [initH_b22, wr_row2]
      by_cases he : h.val = q
      · rw [dif_pos ⟨by change _ ≤ h.val * 64 + p.val; omega, by change h.val * 64 + p.val < _; omega⟩, initH_ok, ← h7, ← h8, ← kA .b7 (by decide), ← kA .b8 (by decide),
          ← e .b7 (by decide), ← e .b8 (by decide)]
        have e1 : ∀ hh, View.ld (σ' .b7) (Rect.unit (s := S7168x128) ![q * 64, 0] S64x128.size (inb2 (by omega) (by omega))) (ix2 ⟨(row h p).val - q * 64, hh⟩ n) = σ' .b7 (ix2 (row h p) n) := fun hh => by
          pointwise
          exact congrArg (fun z => σ' .b7 (ix2 z n)) (Fin.ext (by change q * 64 + (h.val * 64 + p.val - q * 64) = h.val * 64 + p.val; omega))
        have e2 : ∀ hh, View.ld (σ' .b8) (Rect.unit (s := S64x112) ![0, q] S64x1.size (inb2 (by omega) (by omega))) (ix2 ⟨(row h p).val - q * 64, hh⟩ 0) = σ' .b8 (ix2 p h) := fun hh => by
          pointwise
          exact congrArg₂ (fun z w => σ' .b8 (ix2 z w)) (Fin.ext (by change (h.val * 64 + p.val - q * 64) = p.val; omega)) (Fin.ext he.symm)
        exact congrArg₂ (fun (a b : EReal) => a * b) (e1 _) (e2 _)
      · rw [dif_neg (by change ¬ (_ ≤ h.val * 64 + p.val ∧ h.val * 64 + p.val < _); omega)]
        exact hI h (by omega) p n)
  generalize (run (loop 112 initH) σ1).2 = σ2 at kL l ⊢
  exact ⟨⟨by rw [kL .b18 (by decide)]; exact a18, by rw [kL .b19 (by decide)]; exact a19, by rw [kL .b20 (by decide)]; exact a20,
    by rw [kL .b21 (by decide), a21]; exact mask_ok⟩, fun h p n => l h h.isLt p n⟩

end

end Cert.KernelIdeal.Y
-- ==== Proof.Blocks.lean ====
/-
  The blocks a grid point reads, as parts of the whole arrays, and these as parts of the arguments.
-/
module

public import proofs.«01_k».proof.Proof.Gen.KernelIdeal.Frame.Runs
public import Idealize.ShloMosaic.Lib.Pipeline.Value
public import Idealize.ShloMosaic.Lib.StableHlo.Run
public import Idealize.ShloMosaic.Lib.Pointwise
public import Idealize.ShloMosaic.Lib.ValueLayout
public import Idealize.ShloMosaic.Lib.Tactic

@[expose] public section

set_option synthInstance.maxSize 4096
set_option maxRecDepth 16384

noncomputable section

namespace Cert.KernelIdeal.Y

open Cert.KernelIdeal Cert.KernelIdeal.Gen
open Idealize.ShloMosaic Idealize.ShloMosaic.TcCoe

variable (m : (ℓ : Loc nD τ sig) → Buf (Elt Ideal) ℓ)

theorem pts (t : Fin cfg0.N) : t.val < 7 := Nat.lt_of_lt_of_eq t.isLt N_0

/-- A column of chunk `t`, among all. -/
def at' (t : Fin cfg0.N) (j : Fin 256) : Fin 1792 := ⟨t.val * 256 + j.val, by have := pts t; omega⟩

theorem ind0 : ∀ t : Fin cfg0.N, win0_0.index t 0 = 0 ∧ win0_0.index t 1 = t.val := by decide +kernel
theorem ind1 : ∀ t : Fin cfg0.N, win0_1.index t 0 = 0 ∧ win0_1.index t 1 = t.val := by decide +kernel
theorem ind2 : ∀ t : Fin cfg0.N, win0_2.index t 0 = 0 ∧ win0_2.index t 1 = 0 := by decide +kernel
theorem ind3 : ∀ t : Fin cfg0.N, win0_3.index t 0 = t.val ∧ win0_3.index t 1 = 0 ∧ win0_3.index t 2 = 0 := by decide +kernel
theorem ind4 : ∀ t : Fin cfg0.N, win0_4.index t 0 = t.val ∧ win0_4.index t 1 = 0 ∧ win0_4.index t 2 = 0 := by decide +kernel
theorem ind5 : ∀ t : Fin cfg0.N, win0_5.index t 0 = 0 ∧ win0_5.index t 1 = 0 := by decide +kernel
theorem ind6 : ∀ t : Fin cfg0.N, win0_6.index t 0 = 0 ∧ win0_6.index t 1 = 0 := by decide +kernel
theorem ind7 : ∀ t : Fin cfg0.N, win0_7.index t 0 = 0 ∧ win0_7.index t 1 = 0 := by decide +kernel
theorem ind8 : ∀ t : Fin cfg0.N, win0_8.index t 0 = 0 ∧ win0_8.index t 1 = t.val := by decide +kernel

theorem blk0 (c : Dev nD) (t : Fin cfg0.N) (r : Fin 7168) (j : Fin 256) : iblk m c 0 t (ix2 r j : S7168x256.Idx) = V m c main_v1 (ix2 r (at' t j) : S7168x1792.Idx) := by
  unfold iblk
  rw [View.read_apply]
  change V m c main_v1 _ = V m c main_v1 _
  congr 1
  funext a
  apply Fin.ext
  match a with
  | ⟨0, _⟩ => change win0_0.index t 0 * 7168 + 1 * r.val = r.val; rw [(ind0 t).1]; omega
  | ⟨1, _⟩ => change win0_0.index t 1 * 256 + 1 * j.val = t.val * 256 + j.val; rw [(ind0 t).2]; omega

theorem blk1 (c : Dev nD) (t : Fin cfg0.N) (r : Fin 112) (j : Fin 256) : iblk m c 1 t (ix2 r j : S112x256.Idx) = V m c main_v3 (ix2 r (at' t j) : S112x1792.Idx) := by
  unfold iblk
  rw [View.read_apply]
  change V m c main_v3 _ = V m c main_v3 _
  congr 1
  funext a
  apply Fin.ext
  match a with
  | ⟨0, _⟩ => change win0_1.index t 0 * 112 + 1 * r.val = r.val; rw [(ind1 t).1]; omega
  | ⟨1, _⟩ => change win0_1.index t 1 * 256 + 1 * j.val = t.val * 256 + j.val; rw [(ind1 t).2]; omega

theorem blk2 (c : Dev nD) (t : Fin cfg0.N) (r : Fin 1) (j : Fin 112) : iblk m c 2 t (ix2 r j : S1x112.Idx) = V m c main_v9 (ix2 r j : S1x112.Idx) := by
  unfold iblk
  rw [View.read_apply]
  change V m c main_v9 _ = V m c main_v9 _
  congr 1
  funext a
  apply Fin.ext
  match a with
  | ⟨0, _⟩ => change win0_2.index t 0 * 1 + 1 * r.val = r.val; rw [(ind2 t).1]; omega
  | ⟨1, _⟩ => change win0_2.index t 1 * 112 + 1 * j.val = j.val; rw [(ind2 t).2]; omega

theorem blk3 (c : Dev nD) (t : Fin cfg0.N) (l : Fin 256) (g : Fin 8) (n : Fin 128) : iblk m c 3 t (ix3 l g n : S256x8x128.Idx) = V m c main_v4 (ix3 (at' t l) g n : S1792x8x128.Idx) := by
  unfold iblk
  rw [View.read_apply]
  change V m c main_v4 _ = V m c main_v4 _
  congr 1
  funext a
  apply Fin.ext
  match a with
  | ⟨0, _⟩ => change win0_3.index t 0 * 256 + 1 * l.val = t.val * 256 + l.val; rw [(ind3 t).1]; omega
  | ⟨1, _⟩ => change win0_3.index t 1 * 8 + 1 * g.val = g.val; rw [(ind3 t).2.1]; omega
  | ⟨2, _⟩ => change win0_3.index t 2 * 128 + 1 * n.val = n.val; rw [(ind3 t).2.2]; omega

theorem blk4 (c : Dev nD) (t : Fin cfg0.N) (l : Fin 256) (g : Fin 8) (n : Fin 128) : iblk m c 4 t (ix3 l g n : S256x8x128.Idx) = V m c main_v5 (ix3 (at' t l) g n : S1792x8x128.Idx) := by
  unfold iblk
  rw [View.read_apply]
  change V m c main_v5 _ = V m c main_v5 _
  congr 1
  funext a
  apply Fin.ext
  match a with
  | ⟨0, _⟩ => change win0_4.index t 0 * 256 + 1 * l.val = t.val * 256 + l.val; rw [(ind4 t).1]; omega
  | ⟨1, _⟩ => change win0_4.index t 1 * 8 + 1 * g.val = g.val; rw [(ind4 t).2.1]; omega
  | ⟨2, _⟩ => change win0_4.index t 2 * 128 + 1 * n.val = n.val; rw [(ind4 t).2.2]; omega

theorem blk5 (c : Dev nD) (t : Fin cfg0.N) (r : Fin 1) (j : Fin 112) : iblk m c 5 t (ix2 r j : S1x112.Idx) = V m c main_v10 (ix2 r j : S1x112.Idx) := by
  unfold iblk
  rw [View.read_apply]
  change V m c main_v10 _ = V m c main_v10 _
  congr 1
  funext a
  apply Fin.ext
  match a with
  | ⟨0, _⟩ => change win0_5.index t 0 * 1 + 1 * r.val = r.val; rw [(ind5 t).1]; omega
  | ⟨1, _⟩ => change win0_5.index t 1 * 112 + 1 * j.val = j.val; rw [(ind5 t).2]; omega

theorem blk6 (c : Dev nD) (t : Fin cfg0.N) (r : Fin 7168) (j : Fin 128) : iblk m c 6 t (ix2 r j : S7168x128.Idx) = V m c main_v6 (ix2 r j : S7168x128.Idx) := by
  unfold iblk
  rw [View.read_apply]
  change V m c main_v6 _ = V m c main_v6 _
  congr 1
  funext a
  apply Fin.ext
  match a with
  | ⟨0, _⟩ => change win0_6.index t 0 * 7168 + 1 * r.val = r.val; rw [(ind6 t).1]; omega
  | ⟨1, _⟩ => change win0_6.index t 1 * 128 + 1 * j.val = j.val; rw [(ind6 t).2]; omega

theorem blk7 (c : Dev nD) (t : Fin cfg0.N) (r : Fin 64) (j : Fin 112) : iblk m c 7 t (ix2 r j : S64x112.Idx) = V m c main_v8 (ix2 r j : S64x112.Idx) := by
  unfold iblk
  rw [View.read_apply]
  change V m c main_v8 _ = V m c main_v8 _
  congr 1
  funext a
  apply Fin.ext
  match a with
  | ⟨0, _⟩ => change win0_7.index t 0 * 64 + 1 * r.val = r.val; rw [(ind7 t).1]; omega
  | ⟨1, _⟩ => change win0_7.index t 1 * 112 + 1 * j.val = j.val; rw [(ind7 t).2]; omega

/-! ## The arrays, of the arguments -/

theorem arr1 (c : Dev nD) (h : Fin 112) (p : Fin 64) (i : Fin 1792) : V m c main_v1 (ix2 ⟨h.val * 64 + p.val, by omega⟩ i : S7168x1792.Idx)
    = m ((c : Thread nD τ).loc main_arg0) (ix4 0 i h p : S1x1792x112x64.Idx) := by
  have e : V m c main_v1 = shapeCast S7168x1792 (transpose S1x112x64x1792 [0, 2, 3, 1] (m ((c : Thread nD τ).loc main_arg0)) transposes_S1x1792x112x64_S1x112x64x1792_0_2_3_1) shapeCasts_S1x112x64x1792_S7168x1792 := by
    unfold V; after_results <;> rfl
  rw [e]
  pointwise

theorem arr3 (c : Dev nD) (h : Fin 112) (i : Fin 1792) : V m c main_v3 (ix2 h i : S112x1792.Idx)
    = m ((c : Thread nD τ).loc main_arg1) (ix3 0 i h : S1x1792x112.Idx) := by
  have e : V m c main_v3 = shapeCast S112x1792 (transpose S1x112x1792 [0, 2, 1] (m ((c : Thread nD τ).loc main_arg1)) transposes_S1x1792x112_S1x112x1792_0_2_1) shapeCasts_S1x112x1792_S112x1792 := by
    unfold V; after_results <;> rfl
  rw [e]
  pointwise

theorem arr9 (c : Dev nD) (h : Fin 112) : V m c main_v9 (ix2 0 h : S1x112.Idx)
    = m ((c : Thread nD τ).loc main_arg2) (ix1 h : S112.Idx) := by
  have e : V m c main_v9 = shapeCast S1x112 (m ((c : Thread nD τ).loc main_arg2)) shapeCasts_S112_S1x112 := by
    unfold V; after_results <;> rfl
  rw [e]
  pointwise

theorem arr4 (c : Dev nD) (i : Fin 1792) (g : Fin 8) (n : Fin 128) : V m c main_v4 (ix3 i g n : S1792x8x128.Idx)
    = m ((c : Thread nD τ).loc main_arg3) (ix4 0 i g n : S1x1792x8x128.Idx) := by
  have e : V m c main_v4 = shapeCast S1792x8x128 (m ((c : Thread nD τ).loc main_arg3)) shapeCasts_S1x1792x8x128_S1792x8x128 := by
    unfold V; after_results <;> rfl
  rw [e]
  exact ValueIdx.shapeCast_1abc_abc_apply _ _ _ _ _

theorem arr5 (c : Dev nD) (i : Fin 1792) (g : Fin 8) (n : Fin 128) : V m c main_v5 (ix3 i g n : S1792x8x128.Idx)
    = m ((c : Thread nD τ).loc main_arg4) (ix4 0 i g n : S1x1792x8x128.Idx) := by
  have e : V m c main_v5 = shapeCast S1792x8x128 (m ((c : Thread nD τ).loc main_arg4)) shapeCasts_S1x1792x8x128_S1792x8x128 := by
    unfold V; after_results <;> rfl
  rw [e]
  exact ValueIdx.shapeCast_1abc_abc_apply _ _ _ _ _

theorem arr10 (c : Dev nD) (h : Fin 112) : V m c main_v10 (ix2 0 h : S1x112.Idx)
    = m ((c : Thread nD τ).loc main_arg5) (ix1 h : S112.Idx) := by
  have e : V m c main_v10 = shapeCast S1x112 (m ((c : Thread nD τ).loc main_arg5)) shapeCasts_S112_S1x112 := by
    unfold V; after_results <;> rfl
  rw [e]
  pointwise

theorem arr6 (c : Dev nD) (h : Fin 112) (p : Fin 64) (n : Fin 128) : V m c main_v6 (ix2 ⟨h.val * 64 + p.val, by omega⟩ n : S7168x128.Idx)
    = m ((c : Thread nD τ).loc main_arg6) (ix4 0 h p n : S1x112x64x128.Idx) := by
  have e : V m c main_v6 = shapeCast S7168x128 (m ((c : Thread nD τ).loc main_arg6)) shapeCasts_S1x112x64x128_S7168x128 := by
    unfold V; after_results <;> rfl
  rw [e]
  refine shapeCast_apply _ _ _ _ ?_
  change ((⟨4, ![1, 112, 64, 128]⟩ : Shape).rowMajor (ix4 0 h p n)).val = ((⟨2, ![7168, 128]⟩ : Shape).rowMajor (ix2 _ n)).val
  rw [Shape.rowMajor_val_four, Shape.rowMajor_val_two]
  change ((0 * 112 + h.val) * 64 + p.val) * 128 + n.val = (h.val * 64 + p.val) * 128 + n.val
  omega

theorem arr8 (c : Dev nD) (p : Fin 64) (h : Fin 112) : V m c main_v8 (ix2 p h : S64x112.Idx)
    = m ((c : Thread nD τ).loc main_arg7) (ix3 0 h p : S1x112x64.Idx) := by
  have e : V m c main_v8 = shapeCast S64x112 (transpose S1x64x112 [0, 2, 1] (m ((c : Thread nD τ).loc main_arg7)) transposes_S1x112x64_S1x64x112_0_2_1) shapeCasts_S1x64x112_S64x112 := by
    unfold V; after_results <;> rfl
  rw [e]
  pointwise

end Cert.KernelIdeal.Y
-- ==== Proof.Story.lean ====
/-
  The scan as a story of chunks, in the arguments: the state each chunk enters with, and what it gives of the first result.
-/
module

public import proofs.«01_k».proof.Proof.Spec

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe

/-- The head and the channel of a row. -/
def rowHd (r : Fin 7168) : Fin 112 := ⟨r.val / 64, by omega⟩
def rowCh (r : Fin 7168) : Fin 64 := ⟨r.val % 64, by omega⟩

/-- A step of chunk `t`, among all. -/
def col (t : ℕ) (j : Fin 256) : Fin 1792 := ⟨(t * 256 + j.val) % 1792, by omega⟩

/-- A state as rows. -/
def pk (f : Fin 112 → Fin 64 → Fin 128 → EReal) : S7168x128.Idx → EReal := fun i => f (rowHd (i 0)) (rowCh (i 0)) (i 1)

theorem rowHd_row (h : Fin 112) (p : Fin 64) : rowHd (row h p) = h := Fin.ext (by change (h.val * 64 + p.val) / 64 = h.val; omega)
theorem rowCh_row (h : Fin 112) (p : Fin 64) : rowCh (row h p) = p := Fin.ext (by change (h.val * 64 + p.val) % 64 = p.val; omega)

theorem pk_row (f : Fin 112 → Fin 64 → Fin 128 → EReal) (h : Fin 112) (p : Fin 64) (n : Fin 128) : pk f (ix2 (row h p) n) = f h p n := by
  change f (rowHd (row h p)) (rowCh (row h p)) n = _
  rw [rowHd_row, rowCh_row]

/-- The arguments. -/
structure Arg where
  x : Fin 1792 → Fin 112 → Fin 64 → EReal
  dt : Fin 1792 → Fin 112 → EReal
  a : Fin 112 → EReal
  b : Fin 1792 → Fin 8 → Fin 128 → EReal
  c : Fin 1792 → Fin 8 → Fin 128 → EReal
  d : Fin 112 → EReal
  h0 : Fin 112 → Fin 64 → Fin 128 → EReal
  s0 : Fin 112 → Fin 64 → EReal

namespace Arg

variable (A : Arg)

/-- Chunk `t`. -/
def blk (t : ℕ) : Blk where
  x i := A.x (col t (i 1)) (rowHd (i 0)) (rowCh (i 0))
  dt i := A.dt (col t (i 1)) (i 0)
  a i := A.a (i 1)
  b i := A.b (col t (i 0)) (i 1) (i 2)
  c i := A.c (col t (i 0)) (i 1) (i 2)
  d i := A.d (i 1)

/-- The state chunk `t` enters with. -/
def H : ℕ → Fin 112 → Fin 64 → Fin 128 → EReal
  | 0 => fun h p n => A.h0 h p n * A.s0 h p
  | t + 1 => fun h p n => (A.blk t).hn (pk (H t)) h p n

/-- What chunk `t` gives. -/
def y (t : ℕ) (h : Fin 112) (p : Fin 64) (j : Fin 256) : EReal := (A.blk t).yv (pk (A.H t)) h p j

/-- The first result. -/
def out : S7168x1792.Idx → EReal := fun i => A.y ((i 1).val / 256) (rowHd (i 0)) (rowCh (i 0)) ⟨(i 1).val % 256, Nat.mod_lt _ (by decide)⟩

/-- The arguments are real, and the quantised ones within the quantiser's range. -/
structure Good : Prop where
  x : ∀ i h p, Cert.Y.Ok (A.x i h p)
  b : ∀ i g n, Cert.Y.Ok (A.b i g n)
  c : ∀ i g n, Cert.Y.Ok (A.c i g n)
  dt : ∀ i h, A.dt i h = ((A.dt i h).toReal : EReal)
  dt0 : ∀ i h, 0 ≤ (A.dt i h).toReal
  a : ∀ h, A.a h = ((A.a h).toReal : EReal)

theorem Good.blk {A : Arg} (g : A.Good) (n : ℕ) : (A.blk n).Good :=
  ⟨fun _ => g.x _ _ _, fun _ => g.b _ _ _, fun _ => g.c _ _ _, fun _ => g.dt _ _, fun _ => g.dt0 _ _, fun _ => g.a _⟩

end Arg

end Cert.KernelIdeal.Y
-- ==== Proof.Chain.lean ====
/-
  The chunks one after another: what each grid point is given, what it leaves, and the first result's array after the launch.
-/
module

public import proofs.«01_k».proof.Proof.Init
public import proofs.«01_k».proof.Proof.Still
public import proofs.«01_k».proof.Proof.Blocks
public import proofs.«01_k».proof.Proof.Story

@[expose] public section

set_option synthInstance.maxSize 4096
set_option maxRecDepth 16384
set_option maxHeartbeats 1000000

noncomputable section

namespace Cert.KernelIdeal.Y

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The arguments of the launch. -/
def args (c : Dev nD) : Arg where
  x i h p := m ((c : Thread nD τ).loc main_arg0) (ix4 0 i h p : S1x1792x112x64.Idx)
  dt i h := m ((c : Thread nD τ).loc main_arg1) (ix3 0 i h : S1x1792x112.Idx)
  a h := m ((c : Thread nD τ).loc main_arg2) (ix1 h : S112.Idx)
  b i g n := m ((c : Thread nD τ).loc main_arg3) (ix4 0 i g n : S1x1792x8x128.Idx)
  c i g n := m ((c : Thread nD τ).loc main_arg4) (ix4 0 i g n : S1x1792x8x128.Idx)
  d h := m ((c : Thread nD τ).loc main_arg5) (ix1 h : S112.Idx)
  h0 h p n := m ((c : Thread nD τ).loc main_arg6) (ix4 0 h p n : S1x112x64x128.Idx)
  s0 h p := m ((c : Thread nD τ).loc main_arg7) (ix3 0 h p : S1x112x64.Idx)

theorem at_col (t : Fin cfg0.N) (j : Fin 256) : at' t j = col t.val j :=
  Fin.ext (by have := pts t; have := j.isLt; change t.val * 256 + j.val = (t.val * 256 + j.val) % 1792; rw [Nat.mod_eq_of_lt (by omega)])

theorem row_split (r : Fin 7168) : (⟨(rowHd r).val * 64 + (rowCh r).val, by have := (rowHd r).isLt; have := (rowCh r).isLt; omega⟩ : Fin 7168) = r :=
  Fin.ext (by change r.val / 64 * 64 + r.val % 64 = r.val; omega)

theorem in_x (c : Dev nD) (t : Fin cfg0.N) (i : S7168x256.Idx) : iblk m c 0 t i = ((args m c).blk t.val).x i := by
  obtain ⟨r, j, rfl⟩ : ∃ (r : Fin 7168) (j : Fin 256), i = ix2 r j := ⟨i 0, i 1, ValueIdx.eq_ix2 i⟩
  have := arr1 m c (rowHd r) (rowCh r) (at' t j)
  rw [row_split r] at this
  refine (blk0 m c t r j).trans (this.trans ?_)
  rw [at_col]; rfl

theorem in_dt (c : Dev nD) (t : Fin cfg0.N) (i : S112x256.Idx) : iblk m c 1 t i = ((args m c).blk t.val).dt i := by
  obtain ⟨r, j, rfl⟩ : ∃ (r : Fin 112) (j : Fin 256), i = ix2 r j := ⟨i 0, i 1, ValueIdx.eq_ix2 i⟩
  refine (blk1 m c t r j).trans ((arr3 m c r (at' t j)).trans ?_)
  rw [at_col]; rfl

theorem in_a (c : Dev nD) (t : Fin cfg0.N) (i : S1x112.Idx) : iblk m c 2 t i = ((args m c).blk t.val).a i := by
  obtain ⟨z, j, rfl⟩ : ∃ (z : Fin 1) (j : Fin 112), i = ix2 z j := ⟨i 0, i 1, ValueIdx.eq_ix2 i⟩
  obtain rfl : z = 0 := Subsingleton.elim _ _
  exact (blk2 m c t 0 j).trans (arr9 m c j)

theorem in_b (c : Dev nD) (t : Fin cfg0.N) (i : S256x8x128.Idx) : iblk m c 3 t i = ((args m c).blk t.val).b i := by
  obtain ⟨l, g, n, rfl⟩ : ∃ (l : Fin 256) (g : Fin 8) (n : Fin 128), i = ix3 l g n := ⟨i 0, i 1, i 2, ValueIdx.eq_ix3 i⟩
  refine (blk3 m c t l g n).trans ((arr4 m c (at' t l) g n).trans ?_)
  rw [at_col]; rfl

theorem in_c (c : Dev nD) (t : Fin cfg0.N) (i : S256x8x128.Idx) : iblk m c 4 t i = ((args m c).blk t.val).c i := by
  obtain ⟨l, g, n, rfl⟩ : ∃ (l : Fin 256) (g : Fin 8) (n : Fin 128), i = ix3 l g n := ⟨i 0, i 1, i 2, ValueIdx.eq_ix3 i⟩
  refine (blk4 m c t l g n).trans ((arr5 m c (at' t l) g n).trans ?_)
  rw [at_col]; rfl

theorem in_d (c : Dev nD) (t : Fin cfg0.N) (i : S1x112.Idx) : iblk m c 5 t i = ((args m c).blk t.val).d i := by
  obtain ⟨z, j, rfl⟩ : ∃ (z : Fin 1) (j : Fin 112), i = ix2 z j := ⟨i 0, i 1, ValueIdx.eq_ix2 i⟩
  obtain rfl : z = 0 := Subsingleton.elim _ _
  exact (blk5 m c t 0 j).trans (arr10 m c j)

theorem in_h (c : Dev nD) (t : Fin cfg0.N) (h : Fin 112) (p : Fin 64) (n : Fin 128) : iblk m c 6 t (ix2 (row h p) n : S7168x128.Idx) = (args m c).h0 h p n :=
  (blk6 m c t (row h p) n).trans (arr6 m c h p n)

theorem in_s (c : Dev nD) (t : Fin cfg0.N) (h : Fin 112) (p : Fin 64) : iblk m c 7 t (ix2 p h : S64x112.Idx) = (args m c).s0 h p :=
  (blk7 m c t p h).trans (arr8 m c p h)

/-- The columns and the carried state, as every point after the first finds them. -/
def Found (A : Arg) (n : ℕ) (x18 x19 : S112x128.Idx → EReal) (x20 : S256x256.Idx → EReal) (x21 : S64x128.Idx → BitVec 32) (x22 : S7168x128.Idx → EReal) : Prop :=
  Cols (A.blk n) x18 x19 x20 x21 ∧ ∀ h p k, x22 (ix2 (row h p) k) = A.H n h p k

/-- One grid point, from what it finds. -/
theorem main_ok {A : Arg} {n : ℕ} (hg : (A.blk n).Good) (σ : St Ideal) (h1 : ∀ i, σ .b1 i = (A.blk n).x i) (h2 : ∀ i, σ .b2 i = (A.blk n).dt i)
    (h4 : ∀ i, σ .b4 i = (A.blk n).b i) (h5 : ∀ i, σ .b5 i = (A.blk n).c i) (hf : Found A n (σ .b18) (σ .b19) (σ .b20) (σ .b21) (σ .b22)) :
    Found A (n + 1) ((run mainP σ).2 .b18) ((run mainP σ).2 .b19) ((run mainP σ).2 .b20) ((run mainP σ).2 .b21) ((run mainP σ).2 .b22)
      ∧ ∀ h p t, (run mainP σ).2 .b9 (ix2 (row h p) t) = A.y n h p t := by
  obtain ⟨hc, hh⟩ := hf
  obtain ⟨eb, ec, hfr⟩ := front_ok hg σ ⟨h1, h2, h4, h5, hc.b18, hc.b20⟩
  have kf := writes_front (F := Ideal) σ
  rw [run_main]
  generalize (run front σ).2 = σ1 at hfr kf ⊢
  have kg := writes_groups (F := Ideal) σ1
  have G := groups_ok hg (H := pk (A.H n)) σ1 (by rw [kf .b21 (by decide)]; exact hc.b21)
    ⟨hfr, fun i => by rw [kf .b1 (by decide)]; exact h1 i, fun h => by rw [kf .b19 (by decide)]; exact hc.b19 h 0⟩
    (fun h p k => by rw [kf .b22 (by decide), pk_row]; exact hh h p k)
  generalize (run groups σ1).2 = σ2 at kg G ⊢
  refine ⟨⟨⟨?_, ?_, ?_, ?_⟩, fun h p k => G.2 h p k⟩, fun h p t => G.1 h p t⟩
  · rw [kg .b18 (by decide), kf .b18 (by decide)]; exact hc.b18
  · rw [kg .b19 (by decide), kf .b19 (by decide)]; exact hc.b19
  · rw [kg .b20 (by decide), kf .b20 (by decide)]; exact hc.b20
  · rw [kg .b21 (by decide), kf .b21 (by decide)]; exact hc.b21

/-- The block of the first result after point `t`. -/
def yblk (c : Dev nD) (t : Fin cfg0.N) : S7168x256.Idx → EReal := fun i => (args m c).y t.val (rowHd (i 0)) (rowCh (i 0)) (i 1)

theorem pt_ok (hgood : ∀ c n, n < 7 → ((args m c).blk n).Good) (c : Dev nD) (t : Fin cfg0.N) (σ : St Ideal) (hi : Ins m c t σ)
    (hf : t.val = 0 ∨ Found (args m c) t.val (σ .b18) (σ .b19) (σ .b20) (σ .b21) (σ .b22)) :
    Found (args m c) (t.val + 1) ((run (pt (grid0.coords t)) σ).2 .b18) ((run (pt (grid0.coords t)) σ).2 .b19) ((run (pt (grid0.coords t)) σ).2 .b20) ((run (pt (grid0.coords t)) σ).2 .b21) ((run (pt (grid0.coords t)) σ).2 .b22)
      ∧ (run (pt (grid0.coords t)) σ).2 .b9 = yblk m c t := by
  have ht := pts t
  have hfirst : isFirst (grid0.coords t) ↔ t.val % 7 = 0 := hcond0_0 t
  unfold pt
  rw [run_bind, run_bind]
  have ki : Ins m c t (run (if isFirst (grid0.coords t) then initP else Prog.ret ⟨⟩ : P Ideal PUnit) σ).2 := by
    have k := writes_ite (F := Ideal) (c := isFirst (grid0.coords t)) writes_initP (writes_ret PUnit.unit) σ
    exact ⟨(k .b1 (by decide)).trans hi.i1, (k .b2 (by decide)).trans hi.i2, (k .b3 (by decide)).trans hi.i3, (k .b4 (by decide)).trans hi.i4,
      (k .b5 (by decide)).trans hi.i5, (k .b6 (by decide)).trans hi.i6, (k .b7 (by decide)).trans hi.i7, (k .b8 (by decide)).trans hi.i8⟩
  have hs : Found (args m c) t.val ((run (if isFirst (grid0.coords t) then initP else Prog.ret ⟨⟩ : P Ideal PUnit) σ).2 .b18)
      ((run (if isFirst (grid0.coords t) then initP else Prog.ret ⟨⟩ : P Ideal PUnit) σ).2 .b19) ((run (if isFirst (grid0.coords t) then initP else Prog.ret ⟨⟩ : P Ideal PUnit) σ).2 .b20)
      ((run (if isFirst (grid0.coords t) then initP else Prog.ret ⟨⟩ : P Ideal PUnit) σ).2 .b21) ((run (if isFirst (grid0.coords t) then initP else Prog.ret ⟨⟩ : P Ideal PUnit) σ).2 .b22) := by
    by_cases h0 : t.val = 0
    · rw [if_pos (hfirst.mpr (by omega))]
      have I := init_ok ((args m c).blk t.val) σ (fun i => by rw [hi.i3]; exact in_a m c t i) (fun i => by rw [hi.i6]; exact in_d m c t i)
        (σ .b7) (σ .b8) (fun _ => rfl) (fun _ => rfl)
      refine ⟨I.1, fun h p k => (I.2 h p k).trans ?_⟩
      rw [hi.i7, hi.i8, h0]
      exact congrArg₂ (fun a b : EReal => a * b) (in_h m c t h p k) (in_s m c t h p)
    · rw [if_neg (fun e => h0 (by have := hfirst.mp e; omega))]
      exact hf.resolve_left h0
  generalize (run (if isFirst (grid0.coords t) then initP else Prog.ret ⟨⟩ : P Ideal PUnit) σ).2 = σ1 at ki hs ⊢
  have M := main_ok (hgood c t.val ht) σ1 (fun i => by rw [ki.i1]; exact in_x m c t i) (fun i => by rw [ki.i2]; exact in_dt m c t i)
    (fun i => by rw [ki.i4]; exact in_b m c t i) (fun i => by rw [ki.i5]; exact in_c m c t i) hs
  generalize (run mainP σ1).2 = σ2 at M ⊢
  have kz := writes_ite (F := Ideal) (c := k0_cond2 (grid0.coords t) = 1#1) writes_finP (writes_ret PUnit.unit) σ2
  generalize (run (if k0_cond2 (grid0.coords t) = 1#1 then finP else Prog.ret ⟨⟩ : P Ideal PUnit) σ2).2 = σ3 at kz ⊢
  refine ⟨?_, ?_⟩
  · rw [kz .b18 (by decide), kz .b19 (by decide), kz .b20 (by decide), kz .b21 (by decide), kz .b22 (by decide)]
    exact M.1
  · rw [kz .b9 (by decide)]
    funext i
    obtain ⟨r, j, rfl⟩ : ∃ (r : Fin 7168) (j : Fin 256), i = ix2 r j := ⟨i 0, i 1, ValueIdx.eq_ix2 i⟩
    have := M.2 (rowHd r) (rowCh r) j
    rw [show row (rowHd r) (rowCh r) = r from row_split r] at this
    exact this

/-- The chunks, carried. -/
def plan (hgood : ∀ c n, n < 7 → ((args m c).blk n).Good) : Plan m where
  fy := false
  y := yblk m
  inv c n x18 x19 x20 x21 x22 := n = 0 ∨ Found (args m c) n x18 x19 x20 x21 x22
  zero := fun _ _ _ _ _ _ => Or.inl rfl
  step := fun c t σ h hf => ⟨Or.inr (pt_ok m hgood c t σ h hf).1, fun _ => (pt_ok m hgood c t σ h hf).2, pt_ins m c t σ h⟩

/-- What a write-back leaves is the first result's block. -/
theorem flushed_eq (hgood : ∀ c n, n < 7 → ((args m c).blk n).Good) (c : Dev nD) (t : Fin cfg0.N) :
    (pdat (plan m hgood) 0 c).flushed 8 t = ((cfg0.win 8).blk t).view.read (Elt Ideal) ((args m c).out : Buf (Elt Ideal) ((c : Thread nD τ).loc main_v11_0)) := by
  change (cfg0.win 8).cut (grid0.coords t) ((pdat (plan m hgood) 0 c).after 8 t) = _
  rw [pafter_8]
  have ht := pts t
  funext i
  rw [View.read_apply]
  obtain ⟨r, j, rfl⟩ : ∃ (r : Fin 7168) (j : Fin 256), i = (ix2 r j : S7168x256.Idx) := ⟨i 0, i 1, ValueIdx.eq_ix2 (i : S7168x256.Idx)⟩
  have e : (((cfg0.win 8).blk t).view.emb (ix2 r j : S7168x256.Idx) : S7168x1792.Idx) = ix2 r (at' t j) := by
    funext a
    apply Fin.ext
    match a with
    | ⟨0, _⟩ => change win0_8.index t 0 * 7168 + 1 * r.val = r.val; rw [(ind8 t).1]; omega
    | ⟨1, _⟩ => change win0_8.index t 1 * 256 + 1 * j.val = t.val * 256 + j.val; rw [(ind8 t).2]; omega
  change yblk m c t (ix2 r j : S7168x256.Idx) = (args m c).out _
  refine Eq.trans ?_ (congrArg (args m c).out e).symm
  have e1 : (at' t j).val / 256 = t.val := by change (t.val * 256 + j.val) / 256 = t.val; omega
  have e2 : (⟨(at' t j).val % 256, Nat.mod_lt _ (by decide)⟩ : Fin 256) = j := Fin.ext (by change (t.val * 256 + j.val) % 256 = j.val; omega)
  change (args m c).y t.val (rowHd r) (rowCh r) j = (args m c).y ((at' t j).val / 256) (rowHd r) (rowCh r) ⟨(at' t j).val % 256, Nat.mod_lt _ (by decide)⟩
  rw [e1, e2]

/-- Some chunk covers every element. -/
theorem covered (i : S7168x1792.Idx) : ∃ t : Fin cfg0.N, i ∈ ((View.whole main_v11_0).slice (win0_8.rect t)).set := by
  have h1 : (i 1 : Nat) < 1792 := (i 1).isLt
  have h0 : (i 0 : Nat) < 7168 := (i 0).isLt
  refine ⟨⟨(i 1 : Nat) / 256, (show (i 1 : Nat) / 256 < 7 by omega).trans_eq N_0.symm⟩, ?_⟩
  rw [View.set_slice_whole, Rect.mem_set_unit]
  intro a
  match a with
  | ⟨0, _⟩ => change win0_8.index _ 0 * 7168 ≤ (i 0 : Nat) ∧ (i 0 : Nat) < win0_8.index _ 0 * 7168 + 7168; rw [(ind8 _).1]; omega
  | ⟨1, _⟩ => change win0_8.index _ 1 * 256 ≤ (i 1 : Nat) ∧ (i 1 : Nat) < win0_8.index _ 1 * 256 + 256; rw [(ind8 _).2]; change (i 1 : Nat) / 256 * 256 ≤ (i 1 : Nat) ∧ (i 1 : Nat) < (i 1 : Nat) / 256 * 256 + 256; omega

/-- So the array ends as the first result. -/
theorem final (hgood : ∀ c n, n < 7 → ((args m c).blk n).Good) (c : Dev nD) :
    (pdat (plan m hgood) 0 c).arrAt 8 cfg0.N = ((args m c).out : Buf (Elt Ideal) ((c : Thread nD τ).loc main_v11_0)) :=
  (pdat (plan m hgood) 0 c).arrAt_eq_of_cover 8 _ (fun t _ => flushed_eq m hgood c t) fun i =>
    (covered i).elim fun t h => ⟨t, flush0_8 t, h⟩

/-- The launch, read: the first result, and the arguments left alone. -/
theorem launch_value (ρ : Dev nD → PrngReg) (hgood : ∀ c n, n < 7 → ((args m c).blk n).Good) :
    θ_run defs (onTc (τ := τ) (main (F := Ideal))) ⟨m, fun _ => 0, ρ⟩ (fun r => ∀ c : Dev nD,
      r.2.mem ((c.tc : Thread nD τ).loc main_v11_0) = (args m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (((pdat (plan m hgood) 0 c).toRForget_arrAt_iff (w := 8) (fgt := forgets false) rfl _ _).mp ((h.1 c).1 8)).trans (final m hgood c),
    ((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩) (launch_run ρ (plan m hgood))

end Cert.KernelIdeal.Y
-- ==== Proof.Quant.lean ====
/-
  What the reference's quantiser gives of a row: a power of two, and the row over it.
-/
module

public import proofs.«01_k».proof.Proof.Gen.ReferenceIdeal.Read
public import proofs.«01_k».proof.Proof.Story
public import proofs.«01_k».proof.Proof.Window
public import Idealize.ShloMosaic.Lib.Pointwise
public import Idealize.ShloMosaic.Lib.Pipeline.Value

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

/-- Head `r` of group `g`. -/
def hh (g : Fin 8) (r : Fin 14) : Fin 112 := ⟨g.val * 14 + r.val, by omega⟩

theorem gr_hh (g : Fin 8) (r : Fin 14) : gr (hh g r) = g := Fin.ext (by change (g.val * 14 + r.val) / 14 = g.val; omega)

abbrev X4 := S1x1792x112x64.Idx → EReal
abbrev B4 := S1x1792x8x128.Idx → EReal

/-! ## One quantiser -/

/-- A largest value over some axes, of values the quantiser takes. -/
theorem red_ok {s t u : Shape} {axes : List (Fin s.rank)} (x : s.Idx → EReal) (init : u.Idx → EReal) (h : s.ReducesTo axes t) (hu : 0 < u.numel) (j : t.Idx)
    (hi : init (Shape.Idx.first hu) = ⊥) (hne : ∃ i, h.drop i = j) (hx : ∀ i, Cert.Y.Sn (x i)) :
    Cert.Y.Sn (Host.reduce (max : EReal → EReal → EReal) x init h hu j) ∧ ∀ i, h.drop i = j → x i ≤ Host.reduce (max : EReal → EReal → EReal) x init h hu j := by
  rw [Host.reduce_eq_fold, hi]
  have e : (Finset.univ.filter fun i => h.drop i = j).fold (max : EReal → EReal → EReal) ⊥ x = (Finset.univ.filter fun i => h.drop i = j).sup x := rfl
  rw [e]
  obtain ⟨i0, h0⟩ := hne
  obtain ⟨i1, -, h1⟩ := Finset.exists_mem_eq_sup (Finset.univ.filter fun i => h.drop i = j) ⟨i0, by simp [h0]⟩ x
  refine ⟨by rw [h1]; exact hx i1, fun i hi => Finset.le_sup (f := x) (by simp [hi])⟩

/-- The exponent, as the reference writes it. -/
def rx (a : EReal) : EReal :=
  if a = 0 then (0 : EReal) else Ideal.liftRound Int.floor (Ideal.div (Ideal.log (a * ((Cert.Y.kap : ℝ) : EReal))) ((Real.log 2 : ℝ) : EReal)) + ((1 : ℝ) : EReal)

theorem rx_form (a : EReal) : Scalar.select (Ideal.cmp .oeq a (Ideal.ofBits .f32 0x00000000#32)) (Ideal.ofBits .f32 0x00000000#32)
    (Ideal.liftRound Int.floor (Ideal.div (Ideal.log (a * (Ideal.ofBits .f32 991054117#32))) (Ideal.log (Ideal.ofBits .f32 0x40000000#32))) + (Ideal.ofBits .f32 0x3F800000#32)) = rx a := by
  have z : Ideal.ofBits .f32 0x00000000#32 = (0 : EReal) := by pointwise
  rw [z, Cert.Y.ofBits_one, Cert.Y.ofBits_two, Cert.Y.kap_bits, Cert.Y.log_two]
  unfold rx Ideal.cmp Scalar.select
  by_cases h : a = 0 <;> simp [h]

theorem exp_form (a : EReal) : FloatOps.hostUnary (F := Ideal) .exp (φ := .f32) (FloatOps.mulf (F := Ideal) (φ := .f32) a (FloatOps.hostUnary (F := Ideal) .log (φ := .f32) (FloatOps.ofBits (F := Ideal) .f32 0x40000000#32)))
    = Ideal.exp (a * Ideal.log (Ideal.ofBits .f32 0x40000000#32)) := rfl

theorem exp_neg_form (a : EReal) : FloatOps.hostUnary (F := Ideal) .exp (φ := .f32) (FloatOps.mulf (F := Ideal) (φ := .f32) (FloatOps.hostNegf (F := Ideal) (φ := .f32) a) (FloatOps.hostUnary (F := Ideal) .log (φ := .f32) (FloatOps.ofBits (F := Ideal) .f32 0x40000000#32)))
    = Ideal.exp (-a * Ideal.log (Ideal.ofBits .f32 0x40000000#32)) := rfl

/-- A row's power of two, and its values over it: nothing is clipped. -/
theorem quant {ι : Type} {a : EReal} {v : ι → EReal} (ha : Cert.Y.Sn a) (hv : ∀ i, Cert.Y.Ok (v i)) (hle : ∀ i, max (v i) (-(v i)) ≤ a) :
    ∃ e : ℤ, Ideal.exp (rx a * Ideal.log (Ideal.ofBits .f32 0x40000000#32)) = (((2 : ℝ) ^ e : ℝ) : EReal)
      ∧ ∀ i, min (Ideal.ofBits .f32 0x43E00000#32) (max (Ideal.ofBits .f32 0xC3E00000#32) (v i * Ideal.exp (-(rx a) * Ideal.log (Ideal.ofBits .f32 0x40000000#32)))) = (((v i).toReal * (2 : ℝ) ^ (-e) : ℝ) : EReal) := by
  obtain ⟨r, rfl, h0, -, -⟩ := ha
  refine ⟨Cert.Y.ex r, ?_, fun i => ?_⟩
  · rw [Cert.Y.ofBits_two, Cert.Y.log_two]
    unfold rx
    rw [Cert.Y.ex_ref h0, Cert.Y.scale_ref]
  · rw [Cert.Y.ofBits_two, Cert.Y.log_two, Cert.Y.ofBits_448f, Cert.Y.ofBits_neg448f]
    unfold rx
    rw [Cert.Y.ex_ref h0, Cert.Y.inv_ref]
    have hr := (hv i).real
    have hl := hle i
    generalize (v i).toReal = w at hr ⊢
    rw [hr] at hl ⊢
    rw [Cert.Y.abs_real, EReal.coe_le_coe_iff] at hl
    exact Cert.Y.clip_id hl h0

end Cert.ReferenceIdeal.Y
-- ==== Proof.QuantX.lean ====
/-
  The reference's `x`, quantised.
-/
module

public import proofs.«01_k».proof.Proof.Quant

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

/-! ## `x` -/

theorem ix_v3 (c : Fin 7) (t : Fin 256) (g : Fin 8) (r : Fin 14) (p : Fin 64) : idx_main_v3 (ix5 c t g r p) = ix4 0 (col c.val t) (hh g r) p := by
  have hc := c.isLt; have ht := t.isLt; have hg := g.isLt; have hr := r.isLt; have hp := p.isLt
  funext a
  apply Fin.ext
  match a with
  | ⟨0, _⟩ => rfl
  | ⟨1, _⟩ => change ((((c.val * 256 + t.val) * 8 + g.val) * 14 + r.val) * 64 + p.val) / 7168 % 1792 = (c.val * 256 + t.val) % 1792; omega
  | ⟨2, _⟩ => change ((((c.val * 256 + t.val) * 8 + g.val) * 14 + r.val) * 64 + p.val) / 64 % 112 = g.val * 14 + r.val; omega
  | ⟨3, _⟩ => change ((((c.val * 256 + t.val) * 8 + g.val) * 14 + r.val) * 64 + p.val) % 64 = p.val; omega

theorem v4_at (x0 : X4) (c : Fin 7) (t : Fin 256) (g : Fin 8) (r : Fin 14) (p : Fin 64) :
    val_main_v4 (F := Ideal) x0 (ix5 c t g r p) = x0 (ix4 0 (col c.val t) (hh g r) p) := by
  rw [val_main_v4_apply, val_main_v3_apply, ix_v3]; rfl

theorem v7_ok (x0 : X4) (hx : ∀ i, Cert.Y.Ok (x0 i)) (c : Fin 7) (t : Fin 256) (g : Fin 8) (r : Fin 14) :
    Cert.Y.Sn (val_main_v7 (F := Ideal) x0 (ix4 c t g r)) ∧ ∀ p, max (x0 (ix4 0 (col c.val t) (hh g r) p)) (-x0 (ix4 0 (col c.val t) (hh g r) p)) ≤ val_main_v7 (F := Ideal) x0 (ix4 c t g r) := by
  have hd : ∀ p : Fin 64, reducesTo_S7x256x8x14x64_S7x256x8x14_d4.drop (ix5 c t g r p) = ix4 c t g r := fun p => by
    funext a; fin_cases a <;> rfl
  have h := red_ok (val_main_v6 (F := Ideal) x0) (val_main_cst_0 (F := Ideal)) reducesTo_S7x256x8x14x64_S7x256x8x14_d4 h_S_ (ix4 c t g r)
    Cert.Y.ofBits_bot ⟨_, hd 0⟩ (fun i => by rw [val_main_v6_apply, val_main_v4_apply, val_main_v3_apply]; exact hx _)
  refine ⟨h.1, fun p => ?_⟩
  have := h.2 _ (hd p)
  rw [val_main_v6_apply, v4_at] at this
  exact this

theorem v19_at (x0 : X4) (i : S7x256x8x14x1.Idx) : val_main_v19 (F := Ideal) x0 i = rx (val_main_v8 (F := Ideal) x0 i) := by
  rw [val_main_v19_apply, val_main_v18_apply, val_main_v17_apply, val_main_cst_3_apply, val_main_call0_v1_apply, val_main_call0_v0_apply, val_main_cst_4_apply, val_main_v16_apply,
    val_main_v15_apply, val_main_cst_2_apply, val_main_v14_apply, val_main_v13_apply, val_main_v12_apply, val_main_v5_apply, val_main_cst_apply, val_main_v11_apply, val_main_v10_apply, val_main_v9_apply, val_main_cst_1_apply]
  generalize val_main_v8 (F := Ideal) x0 i = a
  exact rx_form a

theorem v8_at (x0 : X4) (c : Fin 7) (t : Fin 256) (g : Fin 8) (r : Fin 14) : val_main_v8 (F := Ideal) x0 (ix5 c t g r 0) = val_main_v7 (F := Ideal) x0 (ix4 c t g r) := by
  rw [val_main_v8_apply, show idx_main_v8 (ix5 c t g r 0) = ix4 c t g r from by funext a; fin_cases a <;> rfl]

theorem v22_at (x0 : X4) (c : Fin 7) (t : Fin 256) (g : Fin 8) (r : Fin 14) : val_main_v22 (F := Ideal) x0 (ix5 c t g r 0) = Ideal.exp (rx (val_main_v7 (F := Ideal) x0 (ix4 c t g r)) * Ideal.log (Ideal.ofBits .f32 0x40000000#32)) := by
  rw [val_main_v22_apply, val_main_v21_apply, val_main_v20_apply, val_main_v5_apply, val_main_cst_apply, v19_at, v8_at]; generalize rx _ = a; exact exp_form a

theorem v26_at (x0 : X4) (c : Fin 7) (t : Fin 256) (g : Fin 8) (r : Fin 14) : val_main_v26 (F := Ideal) x0 (ix5 c t g r 0) = Ideal.exp (-(rx (val_main_v7 (F := Ideal) x0 (ix4 c t g r))) * Ideal.log (Ideal.ofBits .f32 0x40000000#32)) := by
  rw [val_main_v26_apply, val_main_v25_apply, val_main_v24_apply, val_main_v23_apply, val_main_v5_apply, val_main_cst_apply, v19_at, v8_at]; generalize rx _ = a; exact exp_neg_form a

theorem v30_at (x0 : X4) (c : Fin 7) (t : Fin 256) (g : Fin 8) (r : Fin 14) : val_main_v30 (F := Ideal) x0 (ix4 c t g r) = val_main_v22 (F := Ideal) x0 (ix5 c t g r 0) := by
  have hc := c.isLt; have ht := t.isLt; have hg := g.isLt; have hr := r.isLt
  rw [val_main_v30_apply]
  refine congrArg (val_main_v22 (F := Ideal) x0) (funext fun a => Fin.ext ?_)
  match a with
  | ⟨0, _⟩ => change (((c.val * 256 + t.val) * 8 + g.val) * 14 + r.val) / 28672 = c.val; omega
  | ⟨1, _⟩ => change (((c.val * 256 + t.val) * 8 + g.val) * 14 + r.val) / 112 % 256 = t.val; omega
  | ⟨2, _⟩ => change (((c.val * 256 + t.val) * 8 + g.val) * 14 + r.val) / 14 % 8 = g.val; omega
  | ⟨3, _⟩ => change (((c.val * 256 + t.val) * 8 + g.val) * 14 + r.val) / 1 % 14 = r.val; omega
  | ⟨4, _⟩ => rfl

/-- `x`, quantised. -/
theorem x_ok (x0 : X4) (hx : ∀ i, Cert.Y.Ok (x0 i)) (c : Fin 7) (t : Fin 256) (g : Fin 8) (r : Fin 14) : ∃ e : ℤ,
    val_main_v30 (F := Ideal) x0 (ix4 c t g r) = (((2 : ℝ) ^ e : ℝ) : EReal)
      ∧ ∀ p, val_main_v29 (F := Ideal) x0 (ix5 c t g r p) = (((x0 (ix4 0 (col c.val t) (hh g r) p)).toReal * (2 : ℝ) ^ (-e) : ℝ) : EReal) := by
  have h := v7_ok x0 hx c t g r
  obtain ⟨e, h1, h2⟩ := quant (v := fun p => x0 (ix4 0 (col c.val t) (hh g r) p)) h.1 (fun p => hx _) h.2
  refine ⟨e, by rw [v30_at, v22_at]; exact h1, fun p => ?_⟩
  rw [← h2 p, val_main_v29_apply, val_main_call1_v4_apply, val_main_call1_v3_apply, val_main_cst_6_apply, val_main_call1_v2_apply, val_main_call1_v1_apply, val_main_call1_v0_apply, val_main_cst_5_apply,
    val_main_v28_apply, v4_at, val_main_v27_apply, show idx_main_v27 (ix5 c t g r p) = ix5 c t g r 0 from by funext a; fin_cases a <;> rfl, v26_at]
  rfl

end Cert.ReferenceIdeal.Y
-- ==== Proof.QuantB.lean ====
/-
  The reference's `B` and `C`, quantised.
-/
module

public import proofs.«01_k».proof.Proof.Quant

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

/-! ## `B` -/

theorem ix_v31 (c : Fin 7) (t : Fin 256) (g : Fin 8) (n : Fin 128) : idx_main_v31 (ix4 c t g n) = ix4 0 (col c.val t) g n := by
  have hc := c.isLt; have ht := t.isLt; have hg := g.isLt; have hn := n.isLt
  funext a
  apply Fin.ext
  match a with
  | ⟨0, _⟩ => rfl
  | ⟨1, _⟩ => change (((c.val * 256 + t.val) * 8 + g.val) * 128 + n.val) / 1024 % 1792 = (c.val * 256 + t.val) % 1792; omega
  | ⟨2, _⟩ => change (((c.val * 256 + t.val) * 8 + g.val) * 128 + n.val) / 128 % 8 = g.val; omega
  | ⟨3, _⟩ => change (((c.val * 256 + t.val) * 8 + g.val) * 128 + n.val) % 128 = n.val; omega

theorem v32_at (x3 : B4) (c : Fin 7) (t : Fin 256) (g : Fin 8) (n : Fin 128) :
    val_main_v32 (F := Ideal) x3 (ix4 c t g n) = x3 (ix4 0 (col c.val t) g n) := by
  rw [val_main_v32_apply, val_main_v31_apply, ix_v31]; rfl

theorem v35_ok (x3 : B4) (hx : ∀ i, Cert.Y.Ok (x3 i)) (c : Fin 7) (g : Fin 8) :
    Cert.Y.Sn (val_main_v35 (F := Ideal) x3 (ix2 c g)) ∧ ∀ q : Fin 256 × Fin 128, max (x3 (ix4 0 (col c.val q.1) g q.2)) (-x3 (ix4 0 (col c.val q.1) g q.2)) ≤ val_main_v35 (F := Ideal) x3 (ix2 c g) := by
  have hd : ∀ q : Fin 256 × Fin 128, reducesTo_S7x256x8x128_S7x8_d1_3.drop (ix4 c q.1 g q.2) = ix2 c g := fun q => by
    funext a; fin_cases a <;> rfl
  have h := red_ok (val_main_v34 (F := Ideal) x3) (val_main_cst_8 (F := Ideal)) reducesTo_S7x256x8x128_S7x8_d1_3 h_S_ (ix2 c g)
    Cert.Y.ofBits_bot ⟨_, hd (0, 0)⟩ (fun i => by rw [val_main_v34_apply, val_main_v32_apply, val_main_v31_apply]; exact hx _)
  refine ⟨h.1, fun q => ?_⟩
  have := h.2 _ (hd q)
  rw [val_main_v34_apply, v32_at] at this
  exact this

theorem v47_at (x3 : B4) (i : S7x1x8x1.Idx) : val_main_v47 (F := Ideal) x3 i = rx (val_main_v36 (F := Ideal) x3 i) := by
  rw [val_main_v47_apply, val_main_v46_apply, val_main_v45_apply, val_main_cst_11_apply, val_main_call2_v1_apply, val_main_call2_v0_apply, val_main_cst_12_apply, val_main_v44_apply,
    val_main_v43_apply, val_main_cst_10_apply, val_main_v42_apply, val_main_v41_apply, val_main_v40_apply, val_main_v33_apply, val_main_cst_7_apply, val_main_v39_apply, val_main_v38_apply, val_main_v37_apply, val_main_cst_9_apply]
  generalize val_main_v36 (F := Ideal) x3 i = a
  exact rx_form a

theorem v36_at (x3 : B4) (c : Fin 7) (g : Fin 8) : val_main_v36 (F := Ideal) x3 (ix4 c 0 g 0) = val_main_v35 (F := Ideal) x3 (ix2 c g) := by
  rw [val_main_v36_apply, show idx_main_v36 (ix4 c 0 g 0) = ix2 c g from by funext a; fin_cases a <;> rfl]

theorem v50_at (x3 : B4) (c : Fin 7) (g : Fin 8) : val_main_v50 (F := Ideal) x3 (ix4 c 0 g 0) = Ideal.exp (rx (val_main_v35 (F := Ideal) x3 (ix2 c g)) * Ideal.log (Ideal.ofBits .f32 0x40000000#32)) := by
  rw [val_main_v50_apply, val_main_v49_apply, val_main_v48_apply, val_main_v33_apply, val_main_cst_7_apply, v47_at, v36_at]; generalize rx _ = a; exact exp_form a

theorem v54_at (x3 : B4) (c : Fin 7) (g : Fin 8) : val_main_v54 (F := Ideal) x3 (ix4 c 0 g 0) = Ideal.exp (-(rx (val_main_v35 (F := Ideal) x3 (ix2 c g))) * Ideal.log (Ideal.ofBits .f32 0x40000000#32)) := by
  rw [val_main_v54_apply, val_main_v53_apply, val_main_v52_apply, val_main_v51_apply, val_main_v33_apply, val_main_cst_7_apply, v47_at, v36_at]; generalize rx _ = a; exact exp_neg_form a

theorem v58_at (x3 : B4) (c : Fin 7) (g : Fin 8) : val_main_v58 (F := Ideal) x3 (ix2 c g) = val_main_v50 (F := Ideal) x3 (ix4 c 0 g 0) := by
  unfold val_main_v58
  refine shapeCast_apply _ _ _ _ ?_
  change ((⟨4, ![7, 1, 8, 1]⟩ : Shape).rowMajor (ix4 c 0 g 0)).val = ((⟨2, ![7, 8]⟩ : Shape).rowMajor (ix2 c g)).val
  rw [Shape.rowMajor_val_four, Shape.rowMajor_val_two]
  change ((c.val * 1 + 0) * 8 + g.val) * 1 + 0 = c.val * 8 + g.val
  omega

/-- `B`, quantised. -/
theorem b_ok (x3 : B4) (hx : ∀ i, Cert.Y.Ok (x3 i)) (c : Fin 7) (g : Fin 8) : ∃ e : ℤ,
    val_main_v58 (F := Ideal) x3 (ix2 c g) = (((2 : ℝ) ^ e : ℝ) : EReal)
      ∧ ∀ t n, val_main_v57 (F := Ideal) x3 (ix4 c t g n) = (((x3 (ix4 0 (col c.val t) g n)).toReal * (2 : ℝ) ^ (-e) : ℝ) : EReal) := by
  have h := v35_ok x3 hx c g
  obtain ⟨e, h1, h2⟩ := quant (v := fun q : Fin 256 × Fin 128 => x3 (ix4 0 (col c.val q.1) g q.2)) h.1 (fun p => hx _) h.2
  refine ⟨e, by rw [v58_at, v50_at]; exact h1, fun t n => ?_⟩
  refine Eq.trans ?_ (h2 (t, n))
  rw [val_main_v57_apply, val_main_call3_v4_apply, val_main_call3_v3_apply, val_main_cst_14_apply, val_main_call3_v2_apply, val_main_call3_v1_apply, val_main_call3_v0_apply, val_main_cst_13_apply,
    val_main_v56_apply, v32_at, val_main_v55_apply, show idx_main_v55 (ix4 c t g n) = ix4 c 0 g 0 from by funext a; fin_cases a <;> rfl, v54_at]
  rfl

/-! ## `C` -/

theorem ix_v59 (c : Fin 7) (t : Fin 256) (g : Fin 8) (n : Fin 128) : idx_main_v59 (ix4 c t g n) = ix4 0 (col c.val t) g n := by
  have hc := c.isLt; have ht := t.isLt; have hg := g.isLt; have hn := n.isLt
  funext a
  apply Fin.ext
  match a with
  | ⟨0, _⟩ => rfl
  | ⟨1, _⟩ => change (((c.val * 256 + t.val) * 8 + g.val) * 128 + n.val) / 1024 % 1792 = (c.val * 256 + t.val) % 1792; omega
  | ⟨2, _⟩ => change (((c.val * 256 + t.val) * 8 + g.val) * 128 + n.val) / 128 % 8 = g.val; omega
  | ⟨3, _⟩ => change (((c.val * 256 + t.val) * 8 + g.val) * 128 + n.val) % 128 = n.val; omega

theorem v60_at (x4 : B4) (c : Fin 7) (t : Fin 256) (g : Fin 8) (n : Fin 128) :
    val_main_v60 (F := Ideal) x4 (ix4 c t g n) = x4 (ix4 0 (col c.val t) g n) := by
  rw [val_main_v60_apply, val_main_v59_apply, ix_v59]; rfl

theorem v63_ok (x4 : B4) (hx : ∀ i, Cert.Y.Ok (x4 i)) (c : Fin 7) (g : Fin 8) :
    Cert.Y.Sn (val_main_v63 (F := Ideal) x4 (ix2 c g)) ∧ ∀ q : Fin 256 × Fin 128, max (x4 (ix4 0 (col c.val q.1) g q.2)) (-x4 (ix4 0 (col c.val q.1) g q.2)) ≤ val_main_v63 (F := Ideal) x4 (ix2 c g) := by
  have hd : ∀ q : Fin 256 × Fin 128, reducesTo_S7x256x8x128_S7x8_d1_3.drop (ix4 c q.1 g q.2) = ix2 c g := fun q => by
    funext a; fin_cases a <;> rfl
  have h := red_ok (val_main_v62 (F := Ideal) x4) (val_main_cst_16 (F := Ideal)) reducesTo_S7x256x8x128_S7x8_d1_3 h_S_ (ix2 c g)
    Cert.Y.ofBits_bot ⟨_, hd (0, 0)⟩ (fun i => by rw [val_main_v62_apply, val_main_v60_apply, val_main_v59_apply]; exact hx _)
  refine ⟨h.1, fun q => ?_⟩
  have := h.2 _ (hd q)
  rw [val_main_v62_apply, v60_at] at this
  exact this

theorem v75_at (x4 : B4) (i : S7x1x8x1.Idx) : val_main_v75 (F := Ideal) x4 i = rx (val_main_v64 (F := Ideal) x4 i) := by
  rw [val_main_v75_apply, val_main_v74_apply, val_main_v73_apply, val_main_cst_19_apply, val_main_call4_v1_apply, val_main_call4_v0_apply, val_main_cst_20_apply, val_main_v72_apply,
    val_main_v71_apply, val_main_cst_18_apply, val_main_v70_apply, val_main_v69_apply, val_main_v68_apply, val_main_v61_apply, val_main_cst_15_apply, val_main_v67_apply, val_main_v66_apply, val_main_v65_apply, val_main_cst_17_apply]
  generalize val_main_v64 (F := Ideal) x4 i = a
  exact rx_form a

theorem v64_at (x4 : B4) (c : Fin 7) (g : Fin 8) : val_main_v64 (F := Ideal) x4 (ix4 c 0 g 0) = val_main_v63 (F := Ideal) x4 (ix2 c g) := by
  rw [val_main_v64_apply, show idx_main_v64 (ix4 c 0 g 0) = ix2 c g from by funext a; fin_cases a <;> rfl]

theorem v78_at (x4 : B4) (c : Fin 7) (g : Fin 8) : val_main_v78 (F := Ideal) x4 (ix4 c 0 g 0) = Ideal.exp (rx (val_main_v63 (F := Ideal) x4 (ix2 c g)) * Ideal.log (Ideal.ofBits .f32 0x40000000#32)) := by
  rw [val_main_v78_apply, val_main_v77_apply, val_main_v76_apply, val_main_v61_apply, val_main_cst_15_apply, v75_at, v64_at]; generalize rx _ = a; exact exp_form a

theorem v82_at (x4 : B4) (c : Fin 7) (g : Fin 8) : val_main_v82 (F := Ideal) x4 (ix4 c 0 g 0) = Ideal.exp (-(rx (val_main_v63 (F := Ideal) x4 (ix2 c g))) * Ideal.log (Ideal.ofBits .f32 0x40000000#32)) := by
  rw [val_main_v82_apply, val_main_v81_apply, val_main_v80_apply, val_main_v79_apply, val_main_v61_apply, val_main_cst_15_apply, v75_at, v64_at]; generalize rx _ = a; exact exp_neg_form a

theorem v86_at (x4 : B4) (c : Fin 7) (g : Fin 8) : val_main_v86 (F := Ideal) x4 (ix2 c g) = val_main_v78 (F := Ideal) x4 (ix4 c 0 g 0) := by
  unfold val_main_v86
  refine shapeCast_apply _ _ _ _ ?_
  change ((⟨4, ![7, 1, 8, 1]⟩ : Shape).rowMajor (ix4 c 0 g 0)).val = ((⟨2, ![7, 8]⟩ : Shape).rowMajor (ix2 c g)).val
  rw [Shape.rowMajor_val_four, Shape.rowMajor_val_two]
  change ((c.val * 1 + 0) * 8 + g.val) * 1 + 0 = c.val * 8 + g.val
  omega

/-- `C`, quantised. -/
theorem c_ok (x4 : B4) (hx : ∀ i, Cert.Y.Ok (x4 i)) (c : Fin 7) (g : Fin 8) : ∃ e : ℤ,
    val_main_v86 (F := Ideal) x4 (ix2 c g) = (((2 : ℝ) ^ e : ℝ) : EReal)
      ∧ ∀ t n, val_main_v85 (F := Ideal) x4 (ix4 c t g n) = (((x4 (ix4 0 (col c.val t) g n)).toReal * (2 : ℝ) ^ (-e) : ℝ) : EReal) := by
  have h := v63_ok x4 hx c g
  obtain ⟨e, h1, h2⟩ := quant (v := fun q : Fin 256 × Fin 128 => x4 (ix4 0 (col c.val q.1) g q.2)) h.1 (fun p => hx _) h.2
  refine ⟨e, by rw [v86_at, v78_at]; exact h1, fun t n => ?_⟩
  refine Eq.trans ?_ (h2 (t, n))
  rw [val_main_v85_apply, val_main_call5_v4_apply, val_main_call5_v3_apply, val_main_cst_22_apply, val_main_call5_v2_apply, val_main_call5_v1_apply, val_main_call5_v0_apply, val_main_cst_21_apply,
    val_main_v84_apply, v60_at, val_main_v83_apply, show idx_main_v83 (ix4 c t g n) = ix4 c 0 g 0 from by funext a; fin_cases a <;> rfl, v82_at]
  rfl

end Cert.ReferenceIdeal.Y
-- ==== Proof.Decay.lean ====
/-
  The reference's decays, over the arguments.
-/
module

public import proofs.«01_k».proof.Proof.Quant
public import proofs.«01_k».proof.Proof.Init

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

abbrev D3 := S1x1792x112.Idx → EReal
abbrev A1 := S112.Idx → EReal
abbrev T3 := S1x112x64.Idx → EReal
abbrev R2 := S7168x128.Idx → EReal

/-- The arrays are the arguments `A`. -/
structure Is (A : Arg) (x0 : X4) (x1 : D3) (x2 : A1) (x3 x4 : B4) (x5 : A1) (x7 : T3) (r0 : R2) : Prop where
  x : ∀ i h p, x0 (ix4 0 i h p) = A.x i h p
  dt : ∀ i h, x1 (ix3 0 i h) = A.dt i h
  a : ∀ h, x2 (ix1 h) = A.a h
  b : ∀ i g n, x3 (ix4 0 i g n) = A.b i g n
  c : ∀ i g n, x4 (ix4 0 i g n) = A.c i g n
  d : ∀ h, x5 (ix1 h) = A.d h
  h0 : ∀ h p n, r0 (ix2 (row h p) n) = A.h0 h p n
  s0 : ∀ h p, x7 (ix3 0 h p) = A.s0 h p

variable {A : Arg} {x0 : X4} {x1 : D3} {x2 : A1} {x3 x4 : B4} {x5 : A1} {x7 : T3} {r0 : R2}

theorem v87_at (I : Is A x0 x1 x2 x3 x4 x5 x7 r0) (G : A.Good) (c : Fin 7) (t : Fin 256) (g : Fin 8) (r : Fin 14) :
    val_main_v87 (F := Ideal) x1 (ix4 c t g r) = ((((A.blk c.val).dt (ix2 (hh g r) t)).toReal : ℝ) : EReal) := by
  have hc := c.isLt; have ht := t.isLt; have hg := g.isLt; have hr := r.isLt
  rw [val_main_v87_apply, show idx_main_v87 (ix4 c t g r) = ix3 0 (col c.val t) (hh g r) from ?_, I.dt, G.dt]
  · rfl
  funext a
  apply Fin.ext
  match a with
  | ⟨0, _⟩ => rfl
  | ⟨1, _⟩ => change (((c.val * 256 + t.val) * 8 + g.val) * 14 + r.val) / 112 % 1792 = (c.val * 256 + t.val) % 1792; omega
  | ⟨2, _⟩ => change (((c.val * 256 + t.val) * 8 + g.val) * 14 + r.val) % 112 = g.val * 14 + r.val; omega

theorem v90_at (I : Is A x0 x1 x2 x3 x4 x5 x7 r0) (G : A.Good) (c : Fin 7) (t : Fin 256) (g : Fin 8) (r : Fin 14) :
    val_main_v90 (F := Ideal) x2 (ix4 c t g r) = ((((A.blk c.val).a (ix2 0 (hh g r))).toReal : ℝ) : EReal) := by
  rw [val_main_v90_apply, val_main_v89_apply, val_main_v88_apply, show idx_main_v88 (idx_main_v89 (idx_main_v90 (ix4 c t g r))) = ix1 (hh g r) from ?_, I.a, G.a]
  · rfl
  funext a
  fin_cases a
  rfl

/-- The decays, summed. -/
theorem v92_at (I : Is A x0 x1 x2 x3 x4 x5 x7 r0) (G : A.Good) (c : Fin 7) (t : Fin 256) (g : Fin 8) (r : Fin 14) :
    val_main_v92 (F := Ideal) x1 x2 (ix4 c t g r) = (((A.blk c.val).cum (hh g r) t : ℝ) : EReal) := by
  have z : val_main_call6_call0_v0 (F := Ideal) (Shape.Idx.first h_S_) = (0 : EReal) := by
    rw [val_main_call6_call0_v0_apply, val_main_call6_call0_cst_apply]; pointwise
  change Ideal.hostReduceWindowAdd ![1, 256, 1, 1] ![1, 1, 1, 1] ![0, 255, 0, 0] ![0, 0, 0, 0] reduceWindows_S7x256x8x14_S7x256x8x14_w1s1p0_0_w256s1p255_0_w1s1p0_0_w1s1p0_0 (val_main_v91 (F := Ideal) x1 x2) (val_main_call6_call0_v0 (F := Ideal) (Shape.Idx.first h_S_)) (ix4 c t g r) = _
  rw [z]
  refine (Cert.Y.cumsum4 _ _ c t g r).trans ?_
  unfold Blk.cum
  rw [← Cert.Y.coe_sum]
  refine Finset.sum_congr rfl fun s _ => ?_
  by_cases h : s ≤ t
  · rw [if_pos h, if_pos h, val_main_v91_apply, v90_at I G, v87_at I G, EReal.coe_mul]; rfl
  · rw [if_neg h, if_neg h]; rfl

theorem v94_at (I : Is A x0 x1 x2 x3 x4 x5 x7 r0) (G : A.Good) (c : Fin 7) (g : Fin 8) (r : Fin 14) :
    val_main_v94 (F := Ideal) x1 x2 (ix3 c g r) = (((A.blk c.val).cum (hh g r) 255 : ℝ) : EReal) := by
  have hc := c.isLt; have hg := g.isLt; have hr := r.isLt
  rw [val_main_v94_apply, val_main_v93_apply, show idx_main_v93 (idx_main_v94 (ix3 c g r)) = ix4 c 255 g r from ?_, v92_at I G]
  funext a
  apply Fin.ext
  match a with
  | ⟨0, _⟩ => change ((c.val * 8 + g.val) * 14 + r.val) / 112 = c.val; omega
  | ⟨1, _⟩ => rfl
  | ⟨2, _⟩ => change ((c.val * 8 + g.val) * 14 + r.val) / 14 % 8 = g.val; omega
  | ⟨3, _⟩ => change ((c.val * 8 + g.val) * 14 + r.val) % 14 = r.val; omega

theorem decay_form {s t : Fin 256} (u v : ℝ) : FloatOps.hostUnary (F := Ideal) .exp (φ := .f32) (Scalar.select (IntOp.cmpi .sle (BitVec.ofNat 32 s.val) (BitVec.ofNat 32 t.val))
    (FloatOps.subf (F := Ideal) (φ := .f32) ((u : ℝ) : EReal) ((v : ℝ) : EReal)) (FloatOps.ofBits (F := Ideal) .f32 0xFF800000#32)) = (((if s ≤ t then Real.exp (u - v) else 0 : ℝ)) : EReal) := by
  have e : Scalar.select (IntOp.cmpi .sle (BitVec.ofNat 32 s.val) (BitVec.ofNat 32 t.val))
    (FloatOps.subf (F := Ideal) (φ := .f32) ((u : ℝ) : EReal) ((v : ℝ) : EReal)) (FloatOps.ofBits (F := Ideal) .f32 0xFF800000#32) = if s.val ≤ t.val then ((u - v : ℝ) : EReal) else ⊥ := by
    rw [Cert.KernelIdeal.Y.sle_ofNat (by omega) (by omega)]
    refine congrArg₂ (fun (a b : EReal) => if s.val ≤ t.val then a else b) (EReal.coe_sub u v).symm Cert.Y.ofBits_bot
  rw [e]
  change Ideal.exp _ = _
  by_cases h : s ≤ t
  · rw [if_pos h, if_pos (Fin.le_def.mp h), Ideal.exp_coe]
  · rw [if_neg h, if_neg (fun q => h (Fin.le_def.mpr q))]; exact Ideal.exp_bot

theorem v95_at (I : Is A x0 x1 x2 x3 x4 x5 x7 r0) (G : A.Good) (c : Fin 7) (t : Fin 256) (g : Fin 8) (r : Fin 14) :
    val_main_v95 (F := Ideal) x1 x2 (ix4 c g r t) = (((A.blk c.val).cum (hh g r) t : ℝ) : EReal) := by
  rw [val_main_v95_apply, show idx_main_v95 (ix4 c g r t) = ix4 c t g r from by funext a; fin_cases a <;> rfl, v92_at I G]

theorem v106_at (I : Is A x0 x1 x2 x3 x4 x5 x7 r0) (G : A.Good) (c : Fin 7) (t s : Fin 256) (g : Fin 8) (r : Fin 14) :
    val_main_v106 (F := Ideal) x1 x2 (ix5 c g r t s) = FloatOps.subf (F := Ideal) (φ := .f32) (((A.blk c.val).cum (hh g r) t : ℝ) : EReal) (((A.blk c.val).cum (hh g r) s : ℝ) : EReal) := by
  rw [val_main_v106_apply, val_main_v104_apply, val_main_v102_apply, val_main_v105_apply, val_main_v103_apply,
    show idx_main_v102 (idx_main_v104 (ix5 c g r t s)) = ix4 c g r t from by funext a; fin_cases a <;> rfl,
    show idx_main_v103 (idx_main_v105 (ix5 c g r t s)) = ix4 c g r s from by funext a; fin_cases a <;> rfl, v95_at I G, v95_at I G]

/-- The decay from step `s` to step `t`. -/
theorem v108_at (I : Is A x0 x1 x2 x3 x4 x5 x7 r0) (G : A.Good) (c : Fin 7) (t s : Fin 256) (g : Fin 8) (r : Fin 14) :
    val_main_v108 (F := Ideal) x1 x2 (ix5 c g r t s) = (((if s ≤ t then Real.exp ((A.blk c.val).cum (hh g r) t - (A.blk c.val).cum (hh g r) s) else 0 : ℝ)) : EReal) := by
  rw [val_main_v108_apply, val_main_v107_apply, v106_at I G, val_main_call7_v1_apply, val_main_v101_apply, val_main_v99_apply, val_main_v97_apply, val_main_v96_apply,
    val_main_v100_apply, val_main_v98_apply, val_main_v96_apply, val_main_call7_v2_apply, val_main_call7_v0_apply, val_main_cst_23_apply]
  exact decay_form _ _

/-- The decay of a whole chunk. -/
theorem v141_at (I : Is A x0 x1 x2 x3 x4 x5 x7 r0) (G : A.Good) (c : Fin 7) (g : Fin 8) (r : Fin 14) :
    val_main_v141 (F := Ideal) x1 x2 (ix3 c g r) = ((Real.exp ((A.blk c.val).cum (hh g r) 255) : ℝ) : EReal) := by
  rw [val_main_v141_apply, v94_at I G]
  exact Ideal.exp_coe _

/-- The decay from the chunk's start. -/
theorem v217_at (I : Is A x0 x1 x2 x3 x4 x5 x7 r0) (G : A.Good) (c : Fin 7) (t : Fin 256) (g : Fin 8) (r : Fin 14) :
    val_main_v217 (F := Ideal) x1 x2 (ix4 c t g r) = ((Real.exp ((A.blk c.val).cum (hh g r) t) : ℝ) : EReal) := by
  rw [val_main_v217_apply, v92_at I G]
  exact Ideal.exp_coe _

/-- The decay to the chunk's end, by `dt`. -/
theorem v130_at (I : Is A x0 x1 x2 x3 x4 x5 x7 r0) (G : A.Good) (c : Fin 7) (t : Fin 256) (g : Fin 8) (r : Fin 14) :
    val_main_v130 (F := Ideal) x1 x2 (ix4 c t g r)
      = ((Real.exp ((A.blk c.val).cum (hh g r) 255 - (A.blk c.val).cum (hh g r) t) * ((A.blk c.val).dt (ix2 (hh g r) t)).toReal : ℝ) : EReal) := by
  rw [val_main_v130_apply, v87_at I G, val_main_v129_apply, val_main_v128_apply, v92_at I G, val_main_v127_apply, val_main_v126_apply,
    show idx_main_v126 (idx_main_v127 (ix4 c t g r)) = ix3 c g r from by funext a; fin_cases a <;> rfl, v94_at I G, EReal.coe_mul, ← Ideal.exp_coe, EReal.coe_sub]
  rfl

end Cert.ReferenceIdeal.Y
-- ==== Proof.Near.lean ====
/-
  The reference's products within a chunk, over the arguments.
-/
module

public import proofs.«01_k».proof.Proof.QuantX
public import proofs.«01_k».proof.Proof.QuantB
public import proofs.«01_k».proof.Proof.Decay

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

variable {A : Arg} {x0 : X4} {x1 : D3} {x2 : A1} {x3 x4 : B4} {x5 : A1} {x7 : T3} {r0 : R2}

/-- The arguments the quantiser takes are within its range. -/
theorem Is.okx (I : Is A x0 x1 x2 x3 x4 x5 x7 r0) (G : A.Good) (i : S1x1792x112x64.Idx) : Cert.Y.Ok (x0 i) := by
  obtain ⟨z, a, b, c, rfl⟩ : ∃ (z : Fin 1) (a : Fin 1792) (b : Fin 112) (c : Fin 64), i = ix4 z a b c := ⟨i 0, i 1, i 2, i 3, ValueIdx.eq_ix4 i⟩
  obtain rfl : z = 0 := Subsingleton.elim _ _
  rw [I.x]; exact G.x _ _ _

theorem Is.okb (I : Is A x0 x1 x2 x3 x4 x5 x7 r0) (G : A.Good) (i : S1x1792x8x128.Idx) : Cert.Y.Ok (x3 i) := by
  obtain ⟨z, a, b, c, rfl⟩ : ∃ (z : Fin 1) (a : Fin 1792) (b : Fin 8) (c : Fin 128), i = ix4 z a b c := ⟨i 0, i 1, i 2, i 3, ValueIdx.eq_ix4 i⟩
  obtain rfl : z = 0 := Subsingleton.elim _ _
  rw [I.b]; exact G.b _ _ _

theorem Is.okc (I : Is A x0 x1 x2 x3 x4 x5 x7 r0) (G : A.Good) (i : S1x1792x8x128.Idx) : Cert.Y.Ok (x4 i) := by
  obtain ⟨z, a, b, c, rfl⟩ : ∃ (z : Fin 1) (a : Fin 1792) (b : Fin 8) (c : Fin 128), i = ix4 z a b c := ⟨i 0, i 1, i 2, i 3, ValueIdx.eq_ix4 i⟩
  obtain rfl : z = 0 := Subsingleton.elim _ _
  rw [I.c]; exact G.c _ _ _

theorem two_mul_neg (e : ℤ) : (2 : ℝ) ^ e * (2 : ℝ) ^ (-e) = 1 := by
  rw [zpow_neg]; exact mul_inv_cancel₀ (zpow_ne_zero _ (by norm_num))

/-- What the quantised arrays are, over the arguments of chunk `c`. -/
theorem qx (I : Is A x0 x1 x2 x3 x4 x5 x7 r0) (G : A.Good) (c : Fin 7) (t : Fin 256) (g : Fin 8) (r : Fin 14) : ∃ w w' : ℝ, w * w' = 1
    ∧ val_main_v30 (F := Ideal) x0 (ix4 c t g r) = ((w : ℝ) : EReal)
    ∧ ∀ p, val_main_v29 (F := Ideal) x0 (ix5 c t g r p) = ((((A.blk c.val).x (ix2 (row (hh g r) p) t)).toReal * w' : ℝ) : EReal) := by
  obtain ⟨e, h1, h2⟩ := x_ok x0 (I.okx G) c t g r
  refine ⟨(2 : ℝ) ^ e, (2 : ℝ) ^ (-e), two_mul_neg e, h1, fun p => ?_⟩
  rw [h2, I.x]
  have : (A.blk c.val).x (ix2 (row (hh g r) p) t) = A.x (col c.val t) (hh g r) p := by
    change A.x (col c.val t) (Cert.KernelIdeal.Y.rowHd (row (hh g r) p)) (Cert.KernelIdeal.Y.rowCh (row (hh g r) p)) = _
    rw [Cert.KernelIdeal.Y.rowHd_row, Cert.KernelIdeal.Y.rowCh_row]
  rw [this]

theorem qb (I : Is A x0 x1 x2 x3 x4 x5 x7 r0) (G : A.Good) (c : Fin 7) (g : Fin 8) : ∃ w w' : ℝ, w * w' = 1 ∧ 0 ≤ w'
    ∧ val_main_v58 (F := Ideal) x3 (ix2 c g) = ((w : ℝ) : EReal)
    ∧ ∀ t n, val_main_v57 (F := Ideal) x3 (ix4 c t g n) = ((((A.blk c.val).b (ix3 t g n)).toReal * w' : ℝ) : EReal) := by
  obtain ⟨e, h1, h2⟩ := b_ok x3 (I.okb G) c g
  refine ⟨(2 : ℝ) ^ e, (2 : ℝ) ^ (-e), two_mul_neg e, by positivity, h1, fun t n => ?_⟩
  rw [h2, I.b]; rfl

theorem qc (I : Is A x0 x1 x2 x3 x4 x5 x7 r0) (G : A.Good) (c : Fin 7) (g : Fin 8) : ∃ w w' : ℝ, w * w' = 1 ∧ 0 ≤ w'
    ∧ val_main_v86 (F := Ideal) x4 (ix2 c g) = ((w : ℝ) : EReal)
    ∧ ∀ t n, val_main_v85 (F := Ideal) x4 (ix4 c t g n) = ((((A.blk c.val).c (ix3 t g n)).toReal * w' : ℝ) : EReal) := by
  obtain ⟨e, h1, h2⟩ := c_ok x4 (I.okc G) c g
  refine ⟨(2 : ℝ) ^ e, (2 : ℝ) ^ (-e), two_mul_neg e, by positivity, h1, fun t n => ?_⟩
  rw [h2, I.c]; rfl

/-- The product of the factors, scaled back. -/
theorem v115_at (I : Is A x0 x1 x2 x3 x4 x5 x7 r0) (G : A.Good) (c : Fin 7) (t s : Fin 256) (g : Fin 8) :
    val_main_v115 (F := Ideal) x3 x4 (ix4 c g t s)
      = ((∑ n : Fin 128, ((A.blk c.val).b (ix3 s g n)).toReal * ((A.blk c.val).c (ix3 t g n)).toReal : ℝ) : EReal) := by
  obtain ⟨u, u', hu, -, hc1, hc2⟩ := qc I G c g
  obtain ⟨v, v', hv, -, hb1, hb2⟩ := qb I G c g
  have e : val_main_v109 (F := Ideal) x3 x4 (ix4 c g t s) = ((∑ n : Fin 128, ((A.blk c.val).c (ix3 t g n)).toReal * u' * (((A.blk c.val).b (ix3 s g n)).toReal * v') : ℝ) : EReal) := by
    rw [val_main_v109_apply, ← Cert.Y.coe_sum]
    refine Finset.sum_congr rfl fun n _ => ?_
    rw [show lidx_main_v109 (ix4 c g t s) n = ix4 c t g n from by funext a; fin_cases a <;> rfl,
      show ridx_main_v109 (ix4 c g t s) n = ix4 c s g n from by funext a; fin_cases a <;> rfl, hc2, hb2, EReal.coe_mul (_ * u')]
  rw [val_main_v115_apply, e, val_main_v114_apply, val_main_v113_apply,
    show idx_main_v113 (idx_main_v114 (ix4 c g t s)) = ix2 c g from by funext a; fin_cases a <;> rfl, val_main_v112_apply, hc1, hb1]
  change ((_ : ℝ) : EReal) * (((u : ℝ) : EReal) * ((v : ℝ) : EReal)) = _
  rw [← EReal.coe_mul, ← EReal.coe_mul, EReal.coe_eq_coe_iff, Finset.sum_mul]
  refine Finset.sum_congr rfl fun n _ => ?_
  generalize ((A.blk c.val).c (ix3 t g n)).toReal = C
  generalize ((A.blk c.val).b (ix3 s g n)).toReal = B
  linear_combination (B * C * v * v') * hu + (B * C) * hv

/-- A chunk against itself. -/
theorem v124_at (I : Is A x0 x1 x2 x3 x4 x5 x7 r0) (G : A.Good) (c : Fin 7) (t : Fin 256) (g : Fin 8) (r : Fin 14) (p : Fin 64) :
    val_main_v124 (F := Ideal) x0 x1 x2 x3 x4 (ix5 c g r p t) = (((A.blk c.val).yd (hh g r) p t : ℝ) : EReal) := by
  rw [val_main_v124_apply]
  unfold Blk.yd
  rw [← Cert.Y.coe_sum]
  refine Finset.sum_congr rfl fun s _ => ?_
  obtain ⟨w, w', hw, hx1, hx2⟩ := qx I G c s g r
  rw [show lidx_main_v124 (ix5 c g r p t) s = ix5 c s g r p from by funext a; fin_cases a <;> rfl,
    show ridx_main_v124 (ix5 c g r p t) s = ix5 c g r t s from by funext a; fin_cases a <;> rfl, hx2, val_main_v123_apply, val_main_v122_apply, val_main_v121_apply,
    val_main_v118_apply, v108_at I G, val_main_v117_apply, val_main_v116_apply,
    show idx_main_v116 (idx_main_v117 (ix5 c g r t s)) = ix4 c g t s from by funext a; fin_cases a <;> rfl, v115_at I G,
    val_main_v120_apply, val_main_v119_apply, val_main_v111_apply,
    show idx_main_v111 (idx_main_v119 (idx_main_v120 (ix5 c g r t s))) = ix4 c s g r from by funext a; fin_cases a <;> rfl, val_main_v110_apply, v87_at I G, hx1]
  unfold Blk.wgt
  rw [gr_hh]
  generalize (∑ n : Fin 128, ((A.blk c.val).b (ix3 s g n)).toReal * ((A.blk c.val).c (ix3 t g n)).toReal) = cb
  generalize Real.exp ((A.blk c.val).cum (hh g r) t - (A.blk c.val).cum (hh g r) s) = E
  generalize ((A.blk c.val).x (ix2 (row (hh g r) p) s)).toReal = X
  generalize ((A.blk c.val).dt (ix2 (hh g r) s)).toReal = D
  change ((X * w' : ℝ) : EReal) * ((((cb : ℝ) : EReal) * ((if s ≤ t then E else 0 : ℝ) : EReal)) * (((D : ℝ) : EReal) * ((w : ℝ) : EReal))) = _
  rw [← EReal.coe_mul, ← EReal.coe_mul, ← EReal.coe_mul, ← EReal.coe_mul, EReal.coe_eq_coe_iff]
  by_cases h : s ≤ t
  · rw [if_pos h, if_pos h]; linear_combination (X * cb * E * D) * hw
  · rw [if_neg h, if_neg h]; ring

theorem v125_at (I : Is A x0 x1 x2 x3 x4 x5 x7 r0) (G : A.Good) (c : Fin 7) (t : Fin 256) (g : Fin 8) (r : Fin 14) (p : Fin 64) :
    val_main_v125 (F := Ideal) x0 x1 x2 x3 x4 (ix5 c t g r p) = (((A.blk c.val).yd (hh g r) p t : ℝ) : EReal) := by
  rw [val_main_v125_apply, show idx_main_v125 (ix5 c t g r p) = ix5 c g r p t from by funext a; fin_cases a <;> rfl, v124_at I G]

/-- What a chunk adds to the state. -/
theorem v140_at (I : Is A x0 x1 x2 x3 x4 x5 x7 r0) (G : A.Good) (c : Fin 7) (g : Fin 8) (r : Fin 14) (p : Fin 64) (n : Fin 128) :
    val_main_v140 (F := Ideal) x0 x1 x2 x3 (ix5 c g r p n) = (((A.blk c.val).st (hh g r) p n : ℝ) : EReal) := by
  obtain ⟨v, v', hv, -, hb1, hb2⟩ := qb I G c g
  have e : val_main_v137 (F := Ideal) x0 x1 x2 x3 (ix5 c g r p n) = ((∑ l : Fin 256, ((A.blk c.val).x (ix2 (row (hh g r) p) l)).toReal
      * (Real.exp ((A.blk c.val).cum (hh g r) 255 - (A.blk c.val).cum (hh g r) l) * ((A.blk c.val).dt (ix2 (hh g r) l)).toReal) * (((A.blk c.val).b (ix3 l g n)).toReal * v') : ℝ) : EReal) := by
    rw [val_main_v137_apply, ← Cert.Y.coe_sum]
    refine Finset.sum_congr rfl fun l _ => ?_
    obtain ⟨w, w', hw, hx1, hx2⟩ := qx I G c l g r
    rw [show lidx_main_v137 (ix5 c g r p n) l = ix5 c l g r p from by funext a; fin_cases a <;> rfl,
      show ridx_main_v137 (ix5 c g r p n) l = ix4 c l g n from by funext a; fin_cases a <;> rfl, hb2, val_main_v136_apply, hx2, val_main_v135_apply, val_main_v134_apply,
      show idx_main_v134 (idx_main_v135 (ix5 c l g r p)) = ix4 c l g r from by funext a; fin_cases a <;> rfl, val_main_v133_apply, val_main_v132_apply, val_main_v131_apply, v130_at I G, hx1]
    generalize Real.exp ((A.blk c.val).cum (hh g r) 255 - (A.blk c.val).cum (hh g r) l) = E
    generalize ((A.blk c.val).x (ix2 (row (hh g r) p) l)).toReal = X
    generalize ((A.blk c.val).dt (ix2 (hh g r) l)).toReal = D
    generalize ((A.blk c.val).b (ix3 l g n)).toReal = B
    change (((X * w' : ℝ) : EReal) * (((E * D : ℝ) : EReal) * ((w : ℝ) : EReal))) * ((B * v' : ℝ) : EReal) = _
    rw [← EReal.coe_mul, ← EReal.coe_mul, ← EReal.coe_mul, EReal.coe_eq_coe_iff]
    linear_combination (X * E * D * B * v') * hw
  rw [val_main_v140_apply, e, val_main_v139_apply, val_main_v138_apply,
    show idx_main_v138 (idx_main_v139 (ix5 c g r p n)) = ix2 c g from by funext a; fin_cases a <;> rfl, hb1]
  change ((_ : ℝ) : EReal) * ((v : ℝ) : EReal) = _
  unfold Blk.st
  rw [gr_hh, ← EReal.coe_mul, EReal.coe_eq_coe_iff, Finset.sum_mul]
  refine Finset.sum_congr rfl fun l _ => ?_
  generalize ((A.blk c.val).x (ix2 (row (hh g r) p) l)).toReal * (Real.exp ((A.blk c.val).cum (hh g r) 255 - (A.blk c.val).cum (hh g r) l) * ((A.blk c.val).dt (ix2 (hh g r) l)).toReal) = Z
  generalize ((A.blk c.val).b (ix3 l g n)).toReal = B
  linear_combination (Z * B) * hv

end Cert.ReferenceIdeal.Y
-- ==== Proof.Enter.lean ====
/-
  The states the chunks of the reference enter with, over the arguments.
-/
module

public import proofs.«01_k».proof.Proof.Near

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

variable {A : Arg} {x0 : X4} {x1 : D3} {x2 : A1} {x3 x4 : B4} {x5 : A1} {x7 : T3} {r0 : R2}

/-- The state the first chunk enters with. -/
theorem enter_0 (I : Is A x0 x1 x2 x3 x4 x5 x7 r0) (g : Fin 8) (r : Fin 14) (p : Fin 64) (n : Fin 128) :
    val_main_v145 (F := Ideal) x7 r0 (ix4 g r p n) = A.H 0 (hh g r) p n := by
  have hg := g.isLt; have hr := r.isLt; have hp := p.isLt; have hn := n.isLt
  rw [val_main_v145_apply, val_main_v2_apply, val_main_v144_apply, val_main_v143_apply, val_main_v142_apply,
    show idx_main_v2 (ix4 g r p n) = ix2 (row (hh g r) p) n from ?_, show idx_main_v142 (idx_main_v143 (idx_main_v144 (ix4 g r p n))) = ix3 0 (hh g r) p from ?_, I.h0, I.s0]
  · rfl
  · funext a
    apply Fin.ext
    match a with
    | ⟨0, _⟩ => rfl
    | ⟨1, _⟩ => change ((g.val * 14 + r.val) * 64 + p.val) / 64 % 112 = g.val * 14 + r.val; omega
    | ⟨2, _⟩ => change ((g.val * 14 + r.val) * 64 + p.val) % 64 = p.val; omega
  · funext a
    apply Fin.ext
    match a with
    | ⟨0, _⟩ => change (((g.val * 14 + r.val) * 64 + p.val) * 128 + n.val) / 128 = (g.val * 14 + r.val) * 64 + p.val; omega
    | ⟨1, _⟩ => change (((g.val * 14 + r.val) * 64 + p.val) * 128 + n.val) % 128 = n.val; omega

theorem enter_1 (I : Is A x0 x1 x2 x3 x4 x5 x7 r0) (G : A.Good) (g : Fin 8) (r : Fin 14) (p : Fin 64) (n : Fin 128) :
    val_main_v153 (F := Ideal) x0 x1 x2 x3 x7 r0 (ix4 g r p n) = A.H 1 (hh g r) p n := by
  have hg := g.isLt; have hr := r.isLt; have hp := p.isLt; have hn := n.isLt
  rw [val_main_v153_apply, val_main_v150_apply, enter_0 I, val_main_v149_apply, val_main_v148_apply, val_main_v147_apply, val_main_v146_apply, val_main_v152_apply, val_main_v151_apply,
    show idx_main_v146 (idx_main_v147 (idx_main_v148 (idx_main_v149 (ix4 g r p n)))) = ix3 (0 : Fin 7) g r from ?_, v141_at I G,
    show idx_main_v151 (idx_main_v152 (ix4 g r p n)) = ix5 (0 : Fin 7) g r p n from ?_, v140_at I G]
  · rw [show A.H 1 (hh g r) p n = (A.blk 0).hn (pk (A.H 0)) (hh g r) p n from rfl]
    unfold Blk.hn
    rw [Cert.KernelIdeal.Y.pk_row]
    rfl
  · funext a
    apply Fin.ext
    match a with
    | ⟨0, _⟩ => rfl
    | ⟨1, _⟩ => change ((((g.val * 14 + r.val) * 64 + p.val) * 128 + n.val) / 114688 % 8) = g.val; omega
    | ⟨2, _⟩ => change ((((g.val * 14 + r.val) * 64 + p.val) * 128 + n.val) / 8192 % 14) = r.val; omega
    | ⟨3, _⟩ => change ((((g.val * 14 + r.val) * 64 + p.val) * 128 + n.val) / 128 % 64) = p.val; omega
    | ⟨4, _⟩ => change ((((g.val * 14 + r.val) * 64 + p.val) * 128 + n.val) % 128) = n.val; omega
  · funext a
    apply Fin.ext
    match a with
    | ⟨0, _⟩ => rfl
    | ⟨1, _⟩ => change ((g.val * 14 + r.val) / 14 % 8) = g.val; omega
    | ⟨2, _⟩ => change ((g.val * 14 + r.val) % 14) = r.val; omega

theorem enter_2 (I : Is A x0 x1 x2 x3 x4 x5 x7 r0) (G : A.Good) (g : Fin 8) (r : Fin 14) (p : Fin 64) (n : Fin 128) :
    val_main_v161 (F := Ideal) x0 x1 x2 x3 x7 r0 (ix4 g r p n) = A.H 2 (hh g r) p n := by
  have hg := g.isLt; have hr := r.isLt; have hp := p.isLt; have hn := n.isLt
  rw [val_main_v161_apply, val_main_v158_apply, enter_1 I G, val_main_v157_apply, val_main_v156_apply, val_main_v155_apply, val_main_v154_apply, val_main_v160_apply, val_main_v159_apply,
    show idx_main_v154 (idx_main_v155 (idx_main_v156 (idx_main_v157 (ix4 g r p n)))) = ix3 (1 : Fin 7) g r from ?_, v141_at I G,
    show idx_main_v159 (idx_main_v160 (ix4 g r p n)) = ix5 (1 : Fin 7) g r p n from ?_, v140_at I G]
  · rw [show A.H 2 (hh g r) p n = (A.blk 1).hn (pk (A.H 1)) (hh g r) p n from rfl]
    unfold Blk.hn
    rw [Cert.KernelIdeal.Y.pk_row]
    rfl
  · funext a
    apply Fin.ext
    match a with
    | ⟨0, _⟩ => rfl
    | ⟨1, _⟩ => change ((((g.val * 14 + r.val) * 64 + p.val) * 128 + n.val) / 114688 % 8) = g.val; omega
    | ⟨2, _⟩ => change ((((g.val * 14 + r.val) * 64 + p.val) * 128 + n.val) / 8192 % 14) = r.val; omega
    | ⟨3, _⟩ => change ((((g.val * 14 + r.val) * 64 + p.val) * 128 + n.val) / 128 % 64) = p.val; omega
    | ⟨4, _⟩ => change ((((g.val * 14 + r.val) * 64 + p.val) * 128 + n.val) % 128) = n.val; omega
  · funext a
    apply Fin.ext
    match a with
    | ⟨0, _⟩ => rfl
    | ⟨1, _⟩ => change ((g.val * 14 + r.val) / 14 % 8) = g.val; omega
    | ⟨2, _⟩ => change ((g.val * 14 + r.val) % 14) = r.val; omega

theorem enter_3 (I : Is A x0 x1 x2 x3 x4 x5 x7 r0) (G : A.Good) (g : Fin 8) (r : Fin 14) (p : Fin 64) (n : Fin 128) :
    val_main_v169 (F := Ideal) x0 x1 x2 x3 x7 r0 (ix4 g r p n) = A.H 3 (hh g r) p n := by
  have hg := g.isLt; have hr := r.isLt; have hp := p.isLt; have hn := n.isLt
  rw [val_main_v169_apply, val_main_v166_apply, enter_2 I G, val_main_v165_apply, val_main_v164_apply, val_main_v163_apply, val_main_v162_apply, val_main_v168_apply, val_main_v167_apply,
    show idx_main_v162 (idx_main_v163 (idx_main_v164 (idx_main_v165 (ix4 g r p n)))) = ix3 (2 : Fin 7) g r from ?_, v141_at I G,
    show idx_main_v167 (idx_main_v168 (ix4 g r p n)) = ix5 (2 : Fin 7) g r p n from ?_, v140_at I G]
  · rw [show A.H 3 (hh g r) p n = (A.blk 2).hn (pk (A.H 2)) (hh g r) p n from rfl]
    unfold Blk.hn
    rw [Cert.KernelIdeal.Y.pk_row]
    rfl
  · funext a
    apply Fin.ext
    match a with
    | ⟨0, _⟩ => rfl
    | ⟨1, _⟩ => change ((((g.val * 14 + r.val) * 64 + p.val) * 128 + n.val) / 114688 % 8) = g.val; omega
    | ⟨2, _⟩ => change ((((g.val * 14 + r.val) * 64 + p.val) * 128 + n.val) / 8192 % 14) = r.val; omega
    | ⟨3, _⟩ => change ((((g.val * 14 + r.val) * 64 + p.val) * 128 + n.val) / 128 % 64) = p.val; omega
    | ⟨4, _⟩ => change ((((g.val * 14 + r.val) * 64 + p.val) * 128 + n.val) % 128) = n.val; omega
  · funext a
    apply Fin.ext
    match a with
    | ⟨0, _⟩ => rfl
    | ⟨1, _⟩ => change ((g.val * 14 + r.val) / 14 % 8) = g.val; omega
    | ⟨2, _⟩ => change ((g.val * 14 + r.val) % 14) = r.val; omega

theorem enter_4 (I : Is A x0 x1 x2 x3 x4 x5 x7 r0) (G : A.Good) (g : Fin 8) (r : Fin 14) (p : Fin 64) (n : Fin 128) :
    val_main_v177 (F := Ideal) x0 x1 x2 x3 x7 r0 (ix4 g r p n) = A.H 4 (hh g r) p n := by
  have hg := g.isLt; have hr := r.isLt; have hp := p.isLt; have hn := n.isLt
  rw [val_main_v177_apply, val_main_v174_apply, enter_3 I G, val_main_v173_apply, val_main_v172_apply, val_main_v171_apply, val_main_v170_apply, val_main_v176_apply, val_main_v175_apply,
    show idx_main_v170 (idx_main_v171 (idx_main_v172 (idx_main_v173 (ix4 g r p n)))) = ix3 (3 : Fin 7) g r from ?_, v141_at I G,
    show idx_main_v175 (idx_main_v176 (ix4 g r p n)) = ix5 (3 : Fin 7) g r p n from ?_, v140_at I G]
  · rw [show A.H 4 (hh g r) p n = (A.blk 3).hn (pk (A.H 3)) (hh g r) p n from rfl]
    unfold Blk.hn
    rw [Cert.KernelIdeal.Y.pk_row]
    rfl
  · funext a
    apply Fin.ext
    match a with
    | ⟨0, _⟩ => rfl
    | ⟨1, _⟩ => change ((((g.val * 14 + r.val) * 64 + p.val) * 128 + n.val) / 114688 % 8) = g.val; omega
    | ⟨2, _⟩ => change ((((g.val * 14 + r.val) * 64 + p.val) * 128 + n.val) / 8192 % 14) = r.val; omega
    | ⟨3, _⟩ => change ((((g.val * 14 + r.val) * 64 + p.val) * 128 + n.val) / 128 % 64) = p.val; omega
    | ⟨4, _⟩ => change ((((g.val * 14 + r.val) * 64 + p.val) * 128 + n.val) % 128) = n.val; omega
  · funext a
    apply Fin.ext
    match a with
    | ⟨0, _⟩ => rfl
    | ⟨1, _⟩ => change ((g.val * 14 + r.val) / 14 % 8) = g.val; omega
    | ⟨2, _⟩ => change ((g.val * 14 + r.val) % 14) = r.val; omega

theorem enter_5 (I : Is A x0 x1 x2 x3 x4 x5 x7 r0) (G : A.Good) (g : Fin 8) (r : Fin 14) (p : Fin 64) (n : Fin 128) :
    val_main_v185 (F := Ideal) x0 x1 x2 x3 x7 r0 (ix4 g r p n) = A.H 5 (hh g r) p n := by
  have hg := g.isLt; have hr := r.isLt; have hp := p.isLt; have hn := n.isLt
  rw [val_main_v185_apply, val_main_v182_apply, enter_4 I G, val_main_v181_apply, val_main_v180_apply, val_main_v179_apply, val_main_v178_apply, val_main_v184_apply, val_main_v183_apply,
    show idx_main_v178 (idx_main_v179 (idx_main_v180 (idx_main_v181 (ix4 g r p n)))) = ix3 (4 : Fin 7) g r from ?_, v141_at I G,
    show idx_main_v183 (idx_main_v184 (ix4 g r p n)) = ix5 (4 : Fin 7) g r p n from ?_, v140_at I G]
  · rw [show A.H 5 (hh g r) p n = (A.blk 4).hn (pk (A.H 4)) (hh g r) p n from rfl]
    unfold Blk.hn
    rw [Cert.KernelIdeal.Y.pk_row]
    rfl
  · funext a
    apply Fin.ext
    match a with
    | ⟨0, _⟩ => rfl
    | ⟨1, _⟩ => change ((((g.val * 14 + r.val) * 64 + p.val) * 128 + n.val) / 114688 % 8) = g.val; omega
    | ⟨2, _⟩ => change ((((g.val * 14 + r.val) * 64 + p.val) * 128 + n.val) / 8192 % 14) = r.val; omega
    | ⟨3, _⟩ => change ((((g.val * 14 + r.val) * 64 + p.val) * 128 + n.val) / 128 % 64) = p.val; omega
    | ⟨4, _⟩ => change ((((g.val * 14 + r.val) * 64 + p.val) * 128 + n.val) % 128) = n.val; omega
  · funext a
    apply Fin.ext
    match a with
    | ⟨0, _⟩ => rfl
    | ⟨1, _⟩ => change ((g.val * 14 + r.val) / 14 % 8) = g.val; omega
    | ⟨2, _⟩ => change ((g.val * 14 + r.val) % 14) = r.val; omega

theorem enter_6 (I : Is A x0 x1 x2 x3 x4 x5 x7 r0) (G : A.Good) (g : Fin 8) (r : Fin 14) (p : Fin 64) (n : Fin 128) :
    val_main_v193 (F := Ideal) x0 x1 x2 x3 x7 r0 (ix4 g r p n) = A.H 6 (hh g r) p n := by
  have hg := g.isLt; have hr := r.isLt; have hp := p.isLt; have hn := n.isLt
  rw [val_main_v193_apply, val_main_v190_apply, enter_5 I G, val_main_v189_apply, val_main_v188_apply, val_main_v187_apply, val_main_v186_apply, val_main_v192_apply, val_main_v191_apply,
    show idx_main_v186 (idx_main_v187 (idx_main_v188 (idx_main_v189 (ix4 g r p n)))) = ix3 (5 : Fin 7) g r from ?_, v141_at I G,
    show idx_main_v191 (idx_main_v192 (ix4 g r p n)) = ix5 (5 : Fin 7) g r p n from ?_, v140_at I G]
  · rw [show A.H 6 (hh g r) p n = (A.blk 5).hn (pk (A.H 5)) (hh g r) p n from rfl]
    unfold Blk.hn
    rw [Cert.KernelIdeal.Y.pk_row]
    rfl
  · funext a
    apply Fin.ext
    match a with
    | ⟨0, _⟩ => rfl
    | ⟨1, _⟩ => change ((((g.val * 14 + r.val) * 64 + p.val) * 128 + n.val) / 114688 % 8) = g.val; omega
    | ⟨2, _⟩ => change ((((g.val * 14 + r.val) * 64 + p.val) * 128 + n.val) / 8192 % 14) = r.val; omega
    | ⟨3, _⟩ => change ((((g.val * 14 + r.val) * 64 + p.val) * 128 + n.val) / 128 % 64) = p.val; omega
    | ⟨4, _⟩ => change ((((g.val * 14 + r.val) * 64 + p.val) * 128 + n.val) % 128) = n.val; omega
  · funext a
    apply Fin.ext
    match a with
    | ⟨0, _⟩ => rfl
    | ⟨1, _⟩ => change ((g.val * 14 + r.val) / 14 % 8) = g.val; omega
    | ⟨2, _⟩ => change ((g.val * 14 + r.val) % 14) = r.val; omega

/-- The states the chunks enter with, one after the other. -/
theorem v209_at (I : Is A x0 x1 x2 x3 x4 x5 x7 r0) (G : A.Good) (c : Fin 7) (g : Fin 8) (r : Fin 14) (p : Fin 64) (n : Fin 128) :
    val_main_v209 (F := Ideal) x0 x1 x2 x3 x7 r0 (ix5 c g r p n) = A.H c.val (hh g r) p n := by
  refine (concatenate_ofFn_unit_apply (t := S7x8x14x64x128) (s₁ := S1x8x14x64x128) (0 : Fin 5) (N := 7) ![val_main_v202 (F := Ideal) x7 r0, val_main_v203 (F := Ideal) x0 x1 x2 x3 x7 r0,
    val_main_v204 (F := Ideal) x0 x1 x2 x3 x7 r0, val_main_v205 (F := Ideal) x0 x1 x2 x3 x7 r0, val_main_v206 (F := Ideal) x0 x1 x2 x3 x7 r0,
    val_main_v207 (F := Ideal) x0 x1 x2 x3 x7 r0, val_main_v208 (F := Ideal) x0 x1 x2 x3 x7 r0] _ rfl rfl (ix5 c g r p n : S7x8x14x64x128.Idx) c rfl (ix5 0 g r p n : S1x8x14x64x128.Idx) ?_).trans ?_
  · intro b hb
    fin_cases b
    · exact absurd rfl hb
    all_goals rfl
  fin_cases c
  · change val_main_v202 (F := Ideal) x7 r0 (ix5 0 g r p n) = A.H 0 (hh g r) p n
    rw [val_main_v202_apply, show idx_main_v202 (ix5 0 g r p n) = ix4 g r p n from by funext a; fin_cases a <;> rfl, enter_0 I]
  · change val_main_v203 (F := Ideal) x0 x1 x2 x3 x7 r0 (ix5 0 g r p n) = A.H 1 (hh g r) p n
    rw [val_main_v203_apply, show idx_main_v203 (ix5 0 g r p n) = ix4 g r p n from by funext a; fin_cases a <;> rfl, enter_1 I G]
  · change val_main_v204 (F := Ideal) x0 x1 x2 x3 x7 r0 (ix5 0 g r p n) = A.H 2 (hh g r) p n
    rw [val_main_v204_apply, show idx_main_v204 (ix5 0 g r p n) = ix4 g r p n from by funext a; fin_cases a <;> rfl, enter_2 I G]
  · change val_main_v205 (F := Ideal) x0 x1 x2 x3 x7 r0 (ix5 0 g r p n) = A.H 3 (hh g r) p n
    rw [val_main_v205_apply, show idx_main_v205 (ix5 0 g r p n) = ix4 g r p n from by funext a; fin_cases a <;> rfl, enter_3 I G]
  · change val_main_v206 (F := Ideal) x0 x1 x2 x3 x7 r0 (ix5 0 g r p n) = A.H 4 (hh g r) p n
    rw [val_main_v206_apply, show idx_main_v206 (ix5 0 g r p n) = ix4 g r p n from by funext a; fin_cases a <;> rfl, enter_4 I G]
  · change val_main_v207 (F := Ideal) x0 x1 x2 x3 x7 r0 (ix5 0 g r p n) = A.H 5 (hh g r) p n
    rw [val_main_v207_apply, show idx_main_v207 (ix5 0 g r p n) = ix4 g r p n from by funext a; fin_cases a <;> rfl, enter_5 I G]
  · change val_main_v208 (F := Ideal) x0 x1 x2 x3 x7 r0 (ix5 0 g r p n) = A.H 6 (hh g r) p n
    rw [val_main_v208_apply, show idx_main_v208 (ix5 0 g r p n) = ix4 g r p n from by funext a; fin_cases a <;> rfl, enter_6 I G]

end Cert.ReferenceIdeal.Y
-- ==== Proof.Whole.lean ====
/-
  The reference's first result, over the arguments.
-/
module

public import proofs.«01_k».proof.Proof.Enter

@[expose] public section

set_option synthInstance.maxSize 4096
set_option maxRecDepth 16384
set_option maxHeartbeats 400000

noncomputable section

namespace Cert.ReferenceIdeal.Y

open Cert.ReferenceIdeal Cert.ReferenceIdeal.Gen Cert.ReferenceIdeal.Read
open Cert.KernelIdeal.Y (Arg Blk col gr row pk)
open Idealize.ShloMosaic Idealize.ShloMosaic.TcCoe

variable {A : Arg} {x0 : X4} {x1 : D3} {x2 : A1} {x3 x4 : B4} {x5 : A1} {x7 : T3} {r0 : R2}

/-- What the entering state gives. -/
theorem v220_at (I : Is A x0 x1 x2 x3 x4 x5 x7 r0) (G : A.Good) (c : Fin 7) (t : Fin 256) (g : Fin 8) (r : Fin 14) (p : Fin 64) :
    val_main_v220 (F := Ideal) x0 x1 x2 x3 x4 x7 r0 (ix5 c t g r p) = (A.blk c.val).yo (pk (A.H c.val)) (hh g r) p t := by
  obtain ⟨u, u', hu, h0, hc1, hc2⟩ := qc I G c g
  have e : val_main_v212 (F := Ideal) x0 x1 x2 x3 x4 x7 r0 (ix5 c g r p t)
      = (∑ n : Fin 128, A.H c.val (hh g r) p n * ((((A.blk c.val).c (ix3 t g n)).toReal : ℝ) : EReal)) * ((u' : ℝ) : EReal) := by
    rw [val_main_v212_apply, ← Cert.Y.sum_mul_coe _ _ h0]
    refine Finset.sum_congr rfl fun n _ => ?_
    rw [show lidx_main_v212 (ix5 c g r p t) n = ix5 c g r p n from by funext a; fin_cases a <;> rfl,
      show ridx_main_v212 (ix5 c g r p t) n = ix4 c t g n from by funext a; fin_cases a <;> rfl, hc2, val_main_v211_apply, val_main_v210_apply, v209_at I G, EReal.coe_mul, mul_assoc]
    rfl
  rw [val_main_v220_apply, val_main_v216_apply, val_main_v213_apply, show idx_main_v213 (ix5 c t g r p) = ix5 c g r p t from by funext a; fin_cases a <;> rfl, e,
    val_main_v215_apply, val_main_v214_apply, show idx_main_v214 (idx_main_v215 (ix5 c t g r p)) = ix2 c g from by funext a; fin_cases a <;> rfl, hc1,
    val_main_v219_apply, val_main_v218_apply, show idx_main_v218 (idx_main_v219 (ix5 c t g r p)) = ix4 c t g r from by funext a; fin_cases a <;> rfl, v217_at I G]
  unfold Blk.yo
  rw [gr_hh]
  have s : ∀ n : Fin 128, pk (A.H c.val) (ix2 (row (hh g r) p) n) = A.H c.val (hh g r) p n := fun n => Cert.KernelIdeal.Y.pk_row _ _ _ _
  rw [Finset.sum_congr rfl fun n _ => congrArg (· * ((((A.blk c.val).c (ix3 t g n)).toReal : ℝ) : EReal)) (s n)]
  generalize (∑ n : Fin 128, A.H c.val (hh g r) p n * ((((A.blk c.val).c (ix3 t g n)).toReal : ℝ) : EReal)) = Z
  change ((Z * ((u' : ℝ) : EReal)) * ((u : ℝ) : EReal)) * _ = _
  rw [mul_assoc Z, ← EReal.coe_mul, mul_comm u', hu, EReal.coe_one, mul_one]

theorem v221_at (I : Is A x0 x1 x2 x3 x4 x5 x7 r0) (G : A.Good) (c : Fin 7) (t : Fin 256) (g : Fin 8) (r : Fin 14) (p : Fin 64) :
    val_main_v221 (F := Ideal) x0 x1 x2 x3 x4 x7 r0 (ix5 c t g r p) = (((A.blk c.val).yd (hh g r) p t : ℝ) : EReal) + (A.blk c.val).yo (pk (A.H c.val)) (hh g r) p t := by
  rw [val_main_v221_apply, v125_at I G, v220_at I G]; rfl

/-- The chunk and the step of a column. -/
def chunk (T : Fin 1792) : Fin 7 := ⟨T.val / 256, by omega⟩
def step (T : Fin 1792) : Fin 256 := ⟨T.val % 256, by omega⟩
def rep (h : Fin 112) : Fin 14 := ⟨h.val % 14, by omega⟩

theorem hh_gr (h : Fin 112) : hh (gr h) (rep h) = h := Fin.ext (by change h.val / 14 * 14 + h.val % 14 = h.val; omega)
theorem col_step (T : Fin 1792) : col (chunk T).val (step T) = T := Fin.ext (by have := T.isLt; change (T.val / 256 * 256 + T.val % 256) % 1792 = T.val; omega)

theorem v228_at (I : Is A x0 x1 x2 x3 x4 x5 x7 r0) (G : A.Good) (T : Fin 1792) (h : Fin 112) (p : Fin 64) :
    val_main_v228 (F := Ideal) x0 x1 x2 x3 x4 x5 x7 r0 (ix4 0 T h p) = A.y (T.val / 256) h p (step T) := by
  have hT := T.isLt; have hh' := h.isLt; have hp := p.isLt
  have e : idx_main_v222 (ix4 0 T h p) = ix5 (chunk T) (step T) (gr h) (rep h) p := by
    funext a
    apply Fin.ext
    match a with
    | ⟨0, _⟩ => change (((0 * 1792 + T.val) * 112 + h.val) * 64 + p.val) / 1835008 = T.val / 256; omega
    | ⟨1, _⟩ => change (((0 * 1792 + T.val) * 112 + h.val) * 64 + p.val) / 7168 % 256 = T.val % 256; omega
    | ⟨2, _⟩ => change (((0 * 1792 + T.val) * 112 + h.val) * 64 + p.val) / 896 % 8 = h.val / 14; omega
    | ⟨3, _⟩ => change (((0 * 1792 + T.val) * 112 + h.val) * 64 + p.val) / 64 % 14 = h.val % 14; omega
    | ⟨4, _⟩ => change (((0 * 1792 + T.val) * 112 + h.val) * 64 + p.val) % 64 = p.val; omega
  rw [val_main_v228_apply, val_main_v222_apply, e, v221_at I G, hh_gr, val_main_v227_apply, val_main_v226_apply, val_main_v225_apply, val_main_v223_apply, val_main_v224_apply,
    show idx_main_v223 (idx_main_v225 (idx_main_v226 (ix4 0 T h p))) = ix1 h from by funext a; fin_cases a; rfl, I.d, I.x]
  have ex : (A.blk (T.val / 256)).x (ix2 (row h p) (step T)) = A.x T h p := by
    change A.x (col (chunk T).val (step T)) (Cert.KernelIdeal.Y.rowHd (row h p)) (Cert.KernelIdeal.Y.rowCh (row h p)) = _
    rw [col_step, Cert.KernelIdeal.Y.rowHd_row, Cert.KernelIdeal.Y.rowCh_row]
  unfold Arg.y Blk.yv
  rw [ex]
  rfl

/-- The reference's first result, over the arguments. -/
theorem value_at (I : Is A x0 x1 x2 x3 x4 x5 x7 r0) (G : A.Good) : val_main_v231 (F := Ideal) x0 x1 x2 x3 x4 x5 x7 r0 = A.out := by
  funext i
  obtain ⟨r, T, rfl⟩ : ∃ (r : Fin 7168) (T : Fin 1792), i = ix2 r T := ⟨i 0, i 1, ValueIdx.eq_ix2 i⟩
  have hr := r.isLt; have hT := T.isLt
  rw [val_main_v231_apply, val_main_v230_apply, val_main_v229_apply,
    show idx_main_v230 (idx_main_v231 (ix2 r T)) = ix4 0 T (Cert.KernelIdeal.Y.rowHd r) (Cert.KernelIdeal.Y.rowCh r) from ?_, v228_at I G]
  · rfl
  funext a
  apply Fin.ext
  match a with
  | ⟨0, _⟩ => rfl
  | ⟨1, _⟩ => change (r.val * 1792 + T.val) % 1792 = T.val; omega
  | ⟨2, _⟩ => change (r.val * 1792 + T.val) / 114688 % 112 = r.val / 64; omega
  | ⟨3, _⟩ => change (r.val * 1792 + T.val) / 1792 % 64 = r.val % 64; omega

end Cert.ReferenceIdeal.Y
-- ==== Proof.Sane.lean ====
/-
  The precondition read: where it holds, every factor is within the quantiser's range, the time steps are nonnegative reals and the
  decay rates are reals.
-/
module

public import proofs.«01_k».proof.Pre_sane
public import proofs.«01_k».proof.Proof.Chain
public import Idealize.ShloMosaic.Lib.ReduceAll
public import Idealize.ShloMosaic.Lib.Pointwise

@[expose] public section

set_option maxRecDepth 16384

noncomputable section

namespace Cert.Y

open Idealize.ShloMosaic

theorem ofBits_hi : Ideal.ofBits .f32 0x71800000#32 = (((2 : ℝ) ^ (100 : ℤ) : ℝ) : EReal) := by
  change Ideal.ieee 8 23 0x71800000#32 = _
  have e1 : ((0x71800000#32 : BitVec 32).extractLsb' 23 8).toNat = 227 := by decide
  have e2 : ((0x71800000#32 : BitVec 32).extractLsb' 0 23).toNat = 0 := by decide
  have e3 : ((0x71800000#32 : BitVec 32).extractLsb' 31 1 == 1#1) = false := by decide
  simp only [Ideal.ieee, e1, e2, e3]
  rw [if_neg (by omega), if_neg (by omega), EReal.coe_eq_coe_iff]
  norm_num

theorem ofBits_lo : Ideal.ofBits .f32 0x0D800000#32 = (((2 : ℝ) ^ (-100 : ℤ) : ℝ) : EReal) := by
  change Ideal.ieee 8 23 0x0D800000#32 = _
  have e1 : ((0x0D800000#32 : BitVec 32).extractLsb' 23 8).toNat = 27 := by decide
  have e2 : ((0x0D800000#32 : BitVec 32).extractLsb' 0 23).toNat = 0 := by decide
  have e3 : ((0x0D800000#32 : BitVec 32).extractLsb' 31 1 == 1#1) = false := by decide
  simp only [Ideal.ieee, e1, e2, e3]
  rw [if_neg (by omega), if_neg (by omega), EReal.coe_eq_coe_iff]
  norm_num

theorem ofBits_top : Ideal.ofBits .f32 0x7F800000#32 = ⊤ := by
  change Ideal.ieee 8 23 0x7F800000#32 = _
  have e1 : ((0x7F800000#32 : BitVec 32).extractLsb' 23 8).toNat = 255 := by decide
  have e2 : ((0x7F800000#32 : BitVec 32).extractLsb' 0 23).toNat = 0 := by decide
  have e3 : ((0x7F800000#32 : BitVec 32).extractLsb' 31 1 == 1#1) = false := by decide
  simp only [Ideal.ieee, e1, e2, e3]
  norm_num

theorem ofBits_nil : Ideal.ofBits .f32 0x00000000#32 = (0 : EReal) := by pointwise

theorem one_and (a b : BitVec 1) : IntOp.andi a b = 1#1 ↔ a = 1#1 ∧ b = 1#1 := by revert a b; decide

theorem one_or (a b : BitVec 1) : IntOp.ori a b = 1#1 ↔ a = 1#1 ∨ b = 1#1 := by revert a b; decide

theorem one_bool (p : Prop) [Decidable p] : BitVec.ofBool (decide p) = 1#1 ↔ p := by
  by_cases h : p <;> simp [h]

/-- What the precondition says of one factor. -/
theorem ok_of (v : EReal) (h : IntOp.andi (Ideal.cmp .ole (max v (-v)) (Ideal.ofBits .f32 0x71800000#32))
    (IntOp.ori (Ideal.cmp .oeq (max v (-v)) (Ideal.ofBits .f32 0x00000000#32)) (Ideal.cmp .oge (max v (-v)) (Ideal.ofBits .f32 0x0D800000#32))) = 1#1) : Ok v := by
  rw [one_and, one_or, ofBits_hi, ofBits_lo, ofBits_nil] at h
  obtain ⟨h1, h2⟩ := h
  have h1' : max v (-v) ≤ (((2 : ℝ) ^ (100 : ℤ) : ℝ) : EReal) := (one_bool _).mp h1
  have h2' : max v (-v) = 0 ∨ (((2 : ℝ) ^ (-100 : ℤ) : ℝ) : EReal) ≤ max v (-v) := h2.imp (one_bool _).mp (one_bool _).mp
  unfold Ok
  generalize max v (-v) = w at h1' h2'
  have hp : (0 : ℝ) < (2 : ℝ) ^ (-100 : ℤ) := by positivity
  have h0 : (0 : EReal) ≤ w := h2'.elim (fun e => e.ge) fun e => le_trans (EReal.coe_nonneg.mpr hp.le) e
  have ht : w ≠ ⊤ := fun e => by rw [e] at h1'; exact absurd h1' (not_le.mpr (EReal.coe_lt_top _))
  have hb : w ≠ ⊥ := fun e => by rw [e] at h0; exact absurd h0 (by simp)
  lift w to ℝ using ⟨ht, hb⟩
  refine ⟨w, rfl, EReal.coe_nonneg.mp h0, ?_, EReal.coe_le_coe_iff.mp h1'⟩
  exact h2'.imp (fun e => EReal.coe_eq_zero.mp e) fun e => EReal.coe_le_coe_iff.mp e

/-- What it says of one time step. -/
theorem dt_of (v : EReal) (h : IntOp.andi (Ideal.cmp .oge v (Ideal.ofBits .f32 0x00000000#32)) (Ideal.cmp .olt v (Ideal.ofBits .f32 0x7F800000#32)) = 1#1) :
    v = ((v.toReal : ℝ) : EReal) ∧ 0 ≤ v.toReal := by
  rw [one_and, ofBits_nil, ofBits_top] at h
  have h1 : (0 : EReal) ≤ v := (one_bool _).mp h.1
  have h2 : v < ⊤ := (one_bool _).mp h.2
  exact ⟨(EReal.coe_toReal h2.ne (fun e => by rw [e] at h1; exact absurd h1 (by simp))).symm, EReal.toReal_nonneg h1⟩

/-- What it says of one decay rate. -/
theorem a_of (v : EReal) (h : Ideal.cmp .olt (max v (-v)) (Ideal.ofBits .f32 0x7F800000#32) = 1#1) : v = ((v.toReal : ℝ) : EReal) := by
  rw [ofBits_top] at h
  have h1 : max v (-v) < ⊤ := (one_bool _).mp h
  have h2 := max_lt_iff.mp h1
  exact (EReal.coe_toReal h2.1.ne (fun e => by have := h2.2; rw [e] at this; simp at this)).symm

end Cert.Y

namespace Cert.Pre_sane.Y

open Cert.Pre_sane Idealize.ShloMosaic
open Cert.Y

instance : Subsingleton S_.Idx := ⟨fun a b => funext fun k => k.elim0⟩

variable [Facts]

theorem split (x0 : FVec Ideal S1x1792x112x64 .bf16) (x1 : FVec Ideal S1x1792x112 .f32) (x2 : FVec Ideal S112 .f32)
    (x3 x4 : FVec Ideal S1x1792x8x128 .bf16) (x5 : FVec Ideal S112 .f32) (x6 : FVec Ideal S1x112x64x128 .fp8e4m3) (x7 : FVec Ideal S1x112x64 .f32)
    (h : fn (F := Ideal) x0 x1 x2 x3 x4 x5 x6 x7 = fun _ => 1#1) :
    (∀ i, Ok (x0 i)) ∧ (∀ i, Ok (x3 i)) ∧ (∀ i, Ok (x4 i)) ∧ (∀ i, x1 i = (((x1 i).toReal : ℝ) : EReal) ∧ 0 ≤ (x1 i).toReal)
      ∧ ∀ i, x2 i = (((x2 i).toReal : ℝ) : EReal) := by
  have e := congrFun h (fun k => k.elim0)
  unfold fn fn_part1 fn_part2 at e
  dsimp only at e
  obtain ⟨e, ha⟩ := (one_and _ _).mp e
  obtain ⟨e, hd⟩ := (one_and _ _).mp e
  obtain ⟨e, hc⟩ := (one_and _ _).mp e
  obtain ⟨hx, hb⟩ := (one_and _ _).mp e
  exact ⟨fun i => ok_of _ (Host.reduce_andi_all _ _ _ _ _ hx i), fun i => ok_of _ (Host.reduce_andi_all _ _ _ _ _ hb i),
    fun i => ok_of _ (Host.reduce_andi_all _ _ _ _ _ hc i), fun i => dt_of _ (Host.reduce_andi_all _ _ _ _ _ hd i),
    fun i => a_of _ (Host.reduce_andi_all _ _ _ _ _ ha i)⟩

end Cert.Pre_sane.Y

namespace Cert.KernelIdeal.Y

open Cert.KernelIdeal Idealize.ShloMosaic Idealize.ShloMosaic.TcCoe

/-- Where the precondition holds the arguments are good. -/
theorem good_of [Cert.Pre_sane.Facts] (m : (ℓ : Loc nD τ sig) → Buf (Elt Ideal) ℓ) (c : Dev nD)
    (h : Cert.Pre_sane.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) = fun _ => 1#1) :
    (args m c).Good := by
  obtain ⟨hx, hb, hc, hd, ha⟩ := Cert.Pre_sane.Y.split _ _ _ _ _ _ _ _ h
  exact ⟨fun _ _ _ => hx _, fun _ _ _ => hb _, fun _ _ _ => hc _, fun _ _ => (hd _).1, fun _ _ => (hd _).2, fun _ => ha _⟩

end Cert.KernelIdeal.Y
-- ==== Proof.Codes.lean ====
/-
  What the reference's own small kernel leaves: the stored codes of the carried state, widened, which are those codes.
-/
module

public import proofs.«01_k».proof.Proof.Whole
public import proofs.«01_k».proof.Proof.Gen.ReferenceIdeal.Run
public import Idealize.ShloMosaic.Lib.Pipeline.Value
public import Idealize.ShloMosaic.Lib.Pipeline.ValueKit.Geometry
public import Idealize.ShloMosaic.Lib.StableHlo.Run
public import Idealize.ShloMosaic.Lib.Pointwise
public import Idealize.ShloMosaic.Lib.ValueLayout
public import Idealize.ShloMosaic.Lib.Tactic

@[expose] public section

set_option synthInstance.maxSize 4096
set_option maxRecDepth 16384

noncomputable section

namespace Cert.ReferenceIdeal.Y

open Cert.ReferenceIdeal Cert.ReferenceIdeal.Gen
open Cert.KernelIdeal.Y (row)
open Idealize.ShloMosaic Idealize.ShloMosaic.TcCoe

variable (m : (ℓ : Loc nD τ sig) → Buf (Elt Ideal) ℓ)

/-- The array the region reads, of the argument. -/
theorem arr0 (c : Dev nD) (h : Fin 112) (p : Fin 64) (n : Fin 128) : V m c main_v0 (ix2 (row h p) n : S7168x128.Idx)
    = m ((c : Thread nD τ).loc main_arg6) (ix4 0 h p n : S1x112x64x128.Idx) := by
  have e : V m c main_v0 = shapeCast S7168x128 (m ((c : Thread nD τ).loc main_arg6)) shapeCasts_S1x112x64x128_S7168x128 := by
    unfold V V0
    simp only [List.flatten_cons, List.flatten_nil, List.append_nil]
    after_results <;> rfl
  rw [e]
  refine shapeCast_apply _ _ _ _ ?_
  change ((⟨4, ![1, 112, 64, 128]⟩ : Shape).rowMajor (ix4 0 h p n)).val = ((⟨2, ![7168, 128]⟩ : Shape).rowMajor (ix2 _ n)).val
  rw [Shape.rowMajor_val_four, Shape.rowMajor_val_two]
  change ((0 * 112 + h.val) * 64 + p.val) * 128 + n.val = (h.val * 64 + p.val) * 128 + n.val
  omega

/-- The block the region reads is the array. -/
theorem blk0 (c : Dev nD) (t : Fin cfg0.N) (r : Fin 7168) (j : Fin 128) : iblk m c 0 t (ix2 r j : S7168x128.Idx) = V m c main_v0 (ix2 r j : S7168x128.Idx) := by
  unfold iblk
  rw [View.read_apply]
  change V m c main_v0 _ = V m c main_v0 _
  congr 1
  funext a
  apply Fin.ext
  match a with
  | ⟨0, _⟩ => change 0 * 7168 + 1 * r.val = r.val; omega
  | ⟨1, _⟩ => change 0 * 128 + 1 * j.val = j.val; omega

/-- What the body leaves, at an element. -/
theorem out_at (v : Vec Ideal S7168x128 .fp8e4m3) (i : S7168x128.Idx) : out0_1 v i = v i := by
  unfold out0_1
  rw [View.canon_unit_zero (S := S7168x128) (by funext a; fin_cases a <;> rfl), View.ld_unit_zero (by funext a; fin_cases a <;> rfl)]
  change shapeCast S7168x128 v shapeCasts_S7168x128_S7168x128 i = v i
  rw [shapeCast_self]

/-- What the region writes at an element. -/
theorem put_at (c : Dev nD) (t : Fin cfg0.N) (y : S7168x128.Idx) (z : S7168x128.Idx) (h : ∀ a, (z a).val = (y a).val) :
    (dats m 0 c).after 1 t y = (V m c main_v0 z : EReal) := by
  rw [after0_1, out_at]
  obtain ⟨r, j, rfl⟩ : ∃ (r : Fin 7168) (j : Fin 128), y = (ix2 r j : S7168x128.Idx) := ⟨y 0, y 1, ValueIdx.eq_ix2 (y : S7168x128.Idx)⟩
  rw [show z = (ix2 r j : S7168x128.Idx) from funext fun a => Fin.ext (h a)]
  exact blk0 m c t r j

/-- The array the region writes. -/
theorem reg_eq (c : Dev nD) : Cert.ReferenceIdeal.Value.reg_main_v1 m c = (V m c main_v0 : S7168x128.Idx → EReal) := by
  unfold Cert.ReferenceIdeal.Value.reg_main_v1
  generalize hG : (V m c main_v0 : S7168x128.Idx → EReal) = G
  refine (dats m 0 c).arrAt_eq_of_covers 1 G (by decide +kernel) fun t hf y => ?_
  subst hG
  blk_simp
  exact put_at m c t _ _ fun a => by
    match a with
    | ⟨0, _⟩ => first | rfl | (change 0 * 7168 + 1 * _ = _; omega)
    | ⟨1, _⟩ => first | rfl | (change 0 * 128 + 1 * _ = _; omega)

/-- The widened codes are the argument's. -/
theorem codes (c : Dev nD) (h : Fin 112) (p : Fin 64) (n : Fin 128) : Cert.ReferenceIdeal.Value.reg_main_v1 m c (ix2 (row h p) n : S7168x128.Idx)
    = m ((c : Thread nD τ).loc main_arg6) (ix4 0 h p n : S1x112x64x128.Idx) := by
  rw [reg_eq]
  exact arr0 m c h p n

end Cert.ReferenceIdeal.Y
-- ==== Proof.lean ====
module

public import proofs.«01_k».proof.Defs
public import proofs.«01_k».proof.Proof.Still
public import proofs.«01_k».proof.Proof.Chain
public import proofs.«01_k».proof.Proof.Whole
public import proofs.«01_k».proof.Proof.Sane
public import proofs.«01_k».proof.Proof.Codes
public import proofs.«01_k».proof.Proof.Gen.Pre_sane
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

/-- What the reference's run leaves in its first result, of the arguments. -/
theorem reference_value {A : Cert.KernelIdeal.Y.Arg} (G : A.Good)
    (m : (ℓ : Loc Cert.ReferenceIdeal.nD Cert.ReferenceIdeal.τ Cert.ReferenceIdeal.sig) → Buf (Elt Ideal) ℓ) (c : Dev Cert.ReferenceIdeal.nD)
    (hx : ∀ i h p, m ((c.tc : Thread Cert.ReferenceIdeal.nD Cert.ReferenceIdeal.τ).loc Cert.ReferenceIdeal.main_arg0) (ix4 0 i h p : Cert.ReferenceIdeal.S1x1792x112x64.Idx) = A.x i h p)
    (hdt : ∀ i h, m ((c.tc : Thread Cert.ReferenceIdeal.nD Cert.ReferenceIdeal.τ).loc Cert.ReferenceIdeal.main_arg1) (ix3 0 i h : Cert.ReferenceIdeal.S1x1792x112.Idx) = A.dt i h)
    (ha : ∀ h, m ((c.tc : Thread Cert.ReferenceIdeal.nD Cert.ReferenceIdeal.τ).loc Cert.ReferenceIdeal.main_arg2) (ix1 h : Cert.ReferenceIdeal.S112.Idx) = A.a h)
    (hb : ∀ i g n, m ((c.tc : Thread Cert.ReferenceIdeal.nD Cert.ReferenceIdeal.τ).loc Cert.ReferenceIdeal.main_arg3) (ix4 0 i g n : Cert.ReferenceIdeal.S1x1792x8x128.Idx) = A.b i g n)
    (hc : ∀ i g n, m ((c.tc : Thread Cert.ReferenceIdeal.nD Cert.ReferenceIdeal.τ).loc Cert.ReferenceIdeal.main_arg4) (ix4 0 i g n : Cert.ReferenceIdeal.S1x1792x8x128.Idx) = A.c i g n)
    (hd : ∀ h, m ((c.tc : Thread Cert.ReferenceIdeal.nD Cert.ReferenceIdeal.τ).loc Cert.ReferenceIdeal.main_arg5) (ix1 h : Cert.ReferenceIdeal.S112.Idx) = A.d h)
    (hh : ∀ h p n, m ((c.tc : Thread Cert.ReferenceIdeal.nD Cert.ReferenceIdeal.τ).loc Cert.ReferenceIdeal.main_arg6) (ix4 0 h p n : Cert.ReferenceIdeal.S1x112x64x128.Idx) = A.h0 h p n)
    (hs : ∀ h p, m ((c.tc : Thread Cert.ReferenceIdeal.nD Cert.ReferenceIdeal.τ).loc Cert.ReferenceIdeal.main_arg7) (ix3 0 h p : Cert.ReferenceIdeal.S1x112x64.Idx) = A.s0 h p) :
    Cert.ReferenceIdeal.Read.val_main_v231 (F := Ideal)
      (Cert.ReferenceIdeal.Value.exitV m c (Proc.devRef .tc Cert.ReferenceIdeal.main_arg0)) (Cert.ReferenceIdeal.Value.exitV m c (Proc.devRef .tc Cert.ReferenceIdeal.main_arg1))
      (Cert.ReferenceIdeal.Value.exitV m c (Proc.devRef .tc Cert.ReferenceIdeal.main_arg2)) (Cert.ReferenceIdeal.Value.exitV m c (Proc.devRef .tc Cert.ReferenceIdeal.main_arg3))
      (Cert.ReferenceIdeal.Value.exitV m c (Proc.devRef .tc Cert.ReferenceIdeal.main_arg4)) (Cert.ReferenceIdeal.Value.exitV m c (Proc.devRef .tc Cert.ReferenceIdeal.main_arg5))
      (Cert.ReferenceIdeal.Value.exitV m c (Proc.devRef .tc Cert.ReferenceIdeal.main_arg7)) (Cert.ReferenceIdeal.Value.exitV m c (Proc.devRef .tc Cert.ReferenceIdeal.main_v1)) = A.out := by
  rw [Cert.ReferenceIdeal.Value.exit_main_arg0, Cert.ReferenceIdeal.Value.exit_main_arg1, Cert.ReferenceIdeal.Value.exit_main_arg2,
    Cert.ReferenceIdeal.Value.exit_main_arg3, Cert.ReferenceIdeal.Value.exit_main_arg4, Cert.ReferenceIdeal.Value.exit_main_arg5,
    Cert.ReferenceIdeal.Value.exit_main_arg7, Cert.ReferenceIdeal.Value.exit_main_v1]
  exact Cert.ReferenceIdeal.Y.value_at ⟨hx, hdt, ha, hb, hc, hd, fun h p n => (Cert.ReferenceIdeal.Y.codes m c h p n).trans (hh h p n), hs⟩ G

theorem algebraic : Cert.algebraic_KernelIdeal_ReferenceIdeal_pre_sane (hKernelIdeal := Cert.KernelIdeal.Gen.facts)
    (hReferenceIdeal := Cert.ReferenceIdeal.Gen.facts) (hPre_sane := Cert.Pre_sane.Gen.facts) := by
  intro m g m' g' hpre hargs
  have hg : ∀ c, (Cert.KernelIdeal.Y.args m c).Good := fun c => Cert.KernelIdeal.Y.good_of m c (hpre c)
  refine ⟨fun c => (Cert.KernelIdeal.Y.args m c).out, Cert.KernelIdeal.Y.launch_value m g fun c n _ => (hg c).blk n, ?_⟩
  refine (θ_run _ _ _).mono (fun r h c => ⟨(h c).1.trans ?_, (h c).2⟩) (Cert.ReferenceIdeal.Value.run (F := Ideal) m' g')
  obtain ⟨h0, h1, h2, h3, h4, h5, h6, h7⟩ := hargs c
  refine (Cert.ReferenceIdeal.Read.val_main_v231_eq (F := Ideal) _).trans (reference_value (hg c) m' c ?_ ?_ ?_ ?_ ?_ ?_ ?_ ?_)
  · exact fun i h p => congrFun h0 _
  · exact fun i h => congrFun h1 _
  · exact fun h => congrFun h2 _
  · exact fun i g n => congrFun h3 _
  · exact fun i g n => congrFun h4 _
  · exact fun h => congrFun h5 _
  · exact fun h p n => congrFun h6 _
  · exact fun h p => congrFun h7 _

theorem claim : Cert.Claim :=
  ⟨Cert.KernelIdeal.Gen.facts, Cert.ReferenceIdeal.Gen.facts, Cert.Pre_sane.Gen.facts,
    fun m ρ _ => Cert.KernelIdeal.Y.args_kept (F := Ideal) ρ (Cert.KernelIdeal.Y.nothing m),
    fun m ρ _ => Cert.KernelIdeal.Y.args_kept (F := Ideal) ρ (Cert.KernelIdeal.Y.nothing m),
    fun m ρ _ => Cert.ReferenceIdeal.Gen.frame m ρ,
    fun m ρ _ => Cert.ReferenceIdeal.Gen.frame m ρ, algebraic⟩

end Cert.Proof

end
